-- ==== Defs.lean ====
def Pre_WholeIdeal [hPre_finite : Cert.Pre_finite.Facts] (m : (ℓ : Loc Cert.WholeIdeal.nD Cert.WholeIdeal.τ Cert.WholeIdeal.sig) → Buf (Elt Ideal) ℓ) : Prop :=
  ∀ c : Dev Cert.WholeIdeal.nD,
    (Cert.Pre_finite.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (m ((c.tc : Thread Cert.WholeIdeal.nD Cert.WholeIdeal.τ).loc Cert.WholeIdeal.main_arg3)) (m ((c.tc : Thread Cert.WholeIdeal.nD Cert.WholeIdeal.τ).loc Cert.WholeIdeal.main_arg4)) (m ((c.tc : Thread Cert.WholeIdeal.nD Cert.WholeIdeal.τ).loc Cert.WholeIdeal.main_arg5))) = (fun _ => 1#1)

def Pre_WholeRefIdeal [hPre_finite : Cert.Pre_finite.Facts] (m : (ℓ : Loc Cert.WholeRefIdeal.nD Cert.WholeRefIdeal.τ Cert.WholeRefIdeal.sig) → Buf (Elt Ideal) ℓ) : Prop :=
  ∀ c : Dev Cert.WholeRefIdeal.nD,
    (Cert.Pre_finite.fn (F := Ideal) (m ((c.tc : Thread Cert.WholeRefIdeal.nD Cert.WholeRefIdeal.τ).loc Cert.WholeRefIdeal.main_arg0)) (m ((c.tc : Thread Cert.WholeRefIdeal.nD Cert.WholeRefIdeal.τ).loc Cert.WholeRefIdeal.main_arg1)) (m ((c.tc : Thread Cert.WholeRefIdeal.nD Cert.WholeRefIdeal.τ).loc Cert.WholeRefIdeal.main_arg2)) (m ((c.tc : Thread Cert.WholeRefIdeal.nD Cert.WholeRefIdeal.τ).loc Cert.WholeRefIdeal.main_arg3)) (m ((c.tc : Thread Cert.WholeRefIdeal.nD Cert.WholeRefIdeal.τ).loc Cert.WholeRefIdeal.main_arg4)) (m ((c.tc : Thread Cert.WholeRefIdeal.nD Cert.WholeRefIdeal.τ).loc Cert.WholeRefIdeal.main_arg5))) = (fun _ => 1#1)

def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_WholeIdeal [hWholeIdeal : Cert.WholeIdeal.Facts] [hPre_finite : Cert.Pre_finite.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5))
      ∧ r.2.sem = fun _ => 0)

def quiescent_WholeRefIdeal [hWholeRefIdeal : Cert.WholeRefIdeal.Facts] [hPre_finite : Cert.Pre_finite.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2)
      ∧ r.2.mem ((c.tc : Thread Cert.WholeRefIdeal.nD Cert.WholeRefIdeal.τ).loc Cert.WholeRefIdeal.main_arg3) = m ((c.tc : Thread Cert.WholeRefIdeal.nD Cert.WholeRefIdeal.τ).loc Cert.WholeRefIdeal.main_arg3)
      ∧ r.2.mem ((c.tc : Thread Cert.WholeRefIdeal.nD Cert.WholeRefIdeal.τ).loc Cert.WholeRefIdeal.main_arg4) = m ((c.tc : Thread Cert.WholeRefIdeal.nD Cert.WholeRefIdeal.τ).loc Cert.WholeRefIdeal.main_arg4)
      ∧ r.2.mem ((c.tc : Thread Cert.WholeRefIdeal.nD Cert.WholeRefIdeal.τ).loc Cert.WholeRefIdeal.main_arg5) = m ((c.tc : Thread Cert.WholeRefIdeal.nD Cert.WholeRefIdeal.τ).loc Cert.WholeRefIdeal.main_arg5))
      ∧ r.2.sem = fun _ => 0)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def algebraic_WholeIdeal_WholeRefIdeal [hWholeIdeal : Cert.WholeIdeal.Facts] [hWholeRefIdeal : Cert.WholeRefIdeal.Facts] [hPre_finite : Cert.Pre_finite.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeRefIdeal.nD Cert.WholeRefIdeal.τ Cert.WholeRefIdeal.sig) → Buf (Elt Ideal) ℓ) (g' : Dev Cert.WholeRefIdeal.nD → PrngReg), Pre_WholeIdeal m →
    (∀ c : Dev Cert.WholeIdeal.nD,
      m' ((c.tc : Thread Cert.WholeRefIdeal.nD Cert.WholeRefIdeal.τ).loc Cert.WholeRefIdeal.main_arg0) = m ((c.tc : Thread Cert.WholeIdeal.nD Cert.WholeIdeal.τ).loc Cert.WholeIdeal.main_arg0)
      ∧ m' ((c.tc : Thread Cert.WholeRefIdeal.nD Cert.WholeRefIdeal.τ).loc Cert.WholeRefIdeal.main_arg1) = m ((c.tc : Thread Cert.WholeIdeal.nD Cert.WholeIdeal.τ).loc Cert.WholeIdeal.main_arg1)
      ∧ m' ((c.tc : Thread Cert.WholeRefIdeal.nD Cert.WholeRefIdeal.τ).loc Cert.WholeRefIdeal.main_arg2) = m ((c.tc : Thread Cert.WholeIdeal.nD Cert.WholeIdeal.τ).loc Cert.WholeIdeal.main_arg2)
      ∧ m' ((c.tc : Thread Cert.WholeRefIdeal.nD Cert.WholeRefIdeal.τ).loc Cert.WholeRefIdeal.main_arg3) = m ((c.tc : Thread Cert.WholeIdeal.nD Cert.WholeIdeal.τ).loc Cert.WholeIdeal.main_arg3)
      ∧ m' ((c.tc : Thread Cert.WholeRefIdeal.nD Cert.WholeRefIdeal.τ).loc Cert.WholeRefIdeal.main_arg4) = m ((c.tc : Thread Cert.WholeIdeal.nD Cert.WholeIdeal.τ).loc Cert.WholeIdeal.main_arg4)
      ∧ m' ((c.tc : Thread Cert.WholeRefIdeal.nD Cert.WholeRefIdeal.τ).loc Cert.WholeRefIdeal.main_arg5) = m ((c.tc : Thread Cert.WholeIdeal.nD Cert.WholeIdeal.τ).loc Cert.WholeIdeal.main_arg5)) →
    ∃ (v0 : (c : Dev Cert.WholeIdeal.nD) → Buf (Elt Ideal) ((c.tc : Thread Cert.WholeIdeal.nD Cert.WholeIdeal.τ).loc Cert.WholeIdeal.main_v12)),
      θ_run (Cert.WholeIdeal.defs (F := Ideal)) (Cert.WholeIdeal.threads (F := Ideal)) ⟨m, fun _ => 0, g⟩ (fun r => ∀ c : Dev Cert.WholeIdeal.nD,
          r.2.mem ((c.tc : Thread Cert.WholeIdeal.nD Cert.WholeIdeal.τ).loc Cert.WholeIdeal.main_v12) = v0 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
          ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5))
      ∧ θ_run (Cert.WholeRefIdeal.defs (F := Ideal)) (onTc (τ := Cert.WholeRefIdeal.τ) (Cert.WholeRefIdeal.main (F := Ideal))) ⟨m', fun _ => 0, g'⟩ (fun r => ∀ c : Dev Cert.WholeRefIdeal.nD,
          r.2.mem ((c.tc : Thread Cert.WholeRefIdeal.nD Cert.WholeRefIdeal.τ).loc Cert.WholeRefIdeal.main_v106) = v0 c
          ∧ r.2.mem ((c.tc : Thread Cert.WholeRefIdeal.nD Cert.WholeRefIdeal.τ).loc Cert.WholeRefIdeal.main_arg0) = m' ((c.tc : Thread Cert.WholeRefIdeal.nD Cert.WholeRefIdeal.τ).loc Cert.WholeRefIdeal.main_arg0)
          ∧ r.2.mem ((c.tc : Thread Cert.WholeRefIdeal.nD Cert.WholeRefIdeal.τ).loc Cert.WholeRefIdeal.main_arg1) = m' ((c.tc : Thread Cert.WholeRefIdeal.nD Cert.WholeRefIdeal.τ).loc Cert.WholeRefIdeal.main_arg1)
          ∧ r.2.mem ((c.tc : Thread Cert.WholeRefIdeal.nD Cert.WholeRefIdeal.τ).loc Cert.WholeRefIdeal.main_arg2) = m' ((c.tc : Thread Cert.WholeRefIdeal.nD Cert.WholeRefIdeal.τ).loc Cert.WholeRefIdeal.main_arg2)
          ∧ r.2.mem ((c.tc : Thread Cert.WholeRefIdeal.nD Cert.WholeRefIdeal.τ).loc Cert.WholeRefIdeal.main_arg3) = m' ((c.tc : Thread Cert.WholeRefIdeal.nD Cert.WholeRefIdeal.τ).loc Cert.WholeRefIdeal.main_arg3)
          ∧ r.2.mem ((c.tc : Thread Cert.WholeRefIdeal.nD Cert.WholeRefIdeal.τ).loc Cert.WholeRefIdeal.main_arg4) = m' ((c.tc : Thread Cert.WholeRefIdeal.nD Cert.WholeRefIdeal.τ).loc Cert.WholeRefIdeal.main_arg4)
          ∧ r.2.mem ((c.tc : Thread Cert.WholeRefIdeal.nD Cert.WholeRefIdeal.τ).loc Cert.WholeRefIdeal.main_arg5) = m' ((c.tc : Thread Cert.WholeRefIdeal.nD Cert.WholeRefIdeal.τ).loc Cert.WholeRefIdeal.main_arg5))

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hWholeIdeal : Cert.WholeIdeal.Facts) (hWholeRefIdeal : Cert.WholeRefIdeal.Facts) (hKernel : Cert.Kernel.Facts) (hKernelIdeal : Cert.KernelIdeal.Facts) (hReferenceIdeal : Cert.ReferenceIdeal.Facts) (hPre_finite : Cert.Pre_finite.Facts) (hPre_in_range : Cert.Pre_in_range.Facts),
    quiescent_WholeIdeal (hWholeIdeal := hWholeIdeal) (hPre_finite := hPre_finite)
    ∧ quiescent_WholeRefIdeal (hWholeRefIdeal := hWholeRefIdeal) (hPre_finite := hPre_finite)
    ∧ quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ algebraic_WholeIdeal_WholeRefIdeal (hWholeIdeal := hWholeIdeal) (hWholeRefIdeal := hWholeRefIdeal) (hPre_finite := hPre_finite)
    ∧ preserves_Kernel_KernelIdeal
    ∧ algebraic_KernelIdeal_ReferenceIdeal (hKernelIdeal := hKernelIdeal) (hReferenceIdeal := hReferenceIdeal) (hPre_in_range := hPre_in_range)
-- ==== Pre_finite.lean ====
abbrev S4096x3 : Shape := ⟨2, ![4096, 3]⟩
abbrev S65536x3 : Shape := ⟨2, ![65536, 3]⟩
abbrev S65536x32 : Shape := ⟨2, ![65536, 32]⟩
abbrev S1x3x3 : Shape := ⟨3, ![1, 3, 3]⟩
abbrev S1x3 : Shape := ⟨2, ![1, 3]⟩
abbrev S3x3 : Shape := ⟨2, ![3, 3]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel
  bcast_S_S65536x3 : S_.BroadcastsInDim S65536x3 (![] : Fin 0 → Fin S65536x3.rank)
  reducesTo_S65536x3_S_d0_1 : S65536x3.ReducesTo [0, 1] S_

variable [Facts]

def fn {F : FTy → Type} [FloatOps F] (main_arg0 : FVec F S4096x3 .f32) (main_arg1 : FVec F S65536x3 .f32) (main_arg2 : FVec F S65536x32 .f32) (main_arg3 : FVec F S1x3x3 .f32) (main_arg4 : FVec F S1x3 .f32) (main_arg5 : FVec F S3x3 .f32) : IVec S_ 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_c : IVec S_ 1 := constantI S_ 1 1#1
  let main_v3 : IVec S_ 1 := (fun x v => Host.reduce IntOp.andi x v reducesTo_S4096x3_S_d0_1 h_S_) main_v2 main_c
  let main_v4 : FVec F S65536x3 .f32 := Host.absf main_arg1
  let main_cst_0 : FVec F S_ .f32 := constant S_ .f32 0x7F800000#32
  let main_v5 : FVec F S65536x3 .f32 := broadcastInDim S65536x3 ![] bcast_S_S65536x3 main_cst_0
  let main_v6 : IVec S65536x3 1 := cmpf .olt main_v4 main_v5
  let main_c_1 : IVec S_ 1 := constantI S_ 1 1#1
  let main_v7 : IVec S_ 1 := (fun x v => Host.reduce IntOp.andi x v reducesTo_S65536x3_S_d0_1 h_S_) main_v6 main_c_1
  let main_v8 : IVec S_ 1 := andi main_v3 main_v7
  main_v8
-- ==== Pre_in_range.lean ====
abbrev S4096x3 : Shape := ⟨2, ![4096, 3]⟩
abbrev S65536x3 : Shape := ⟨2, ![65536, 3]⟩
abbrev S65536x32 : Shape := ⟨2, ![65536, 32]⟩
abbrev S1x3x3 : Shape := ⟨3, ![1, 3, 3]⟩
abbrev S1x3 : Shape := ⟨2, ![1, 3]⟩
abbrev S3x3 : Shape := ⟨2, ![3, 3]⟩
abbrev S4096x8 : Shape := ⟨2, ![4096, 8]⟩
abbrev S_ : Shape := ⟨0, ![]⟩

class Facts : Prop where
  bcast_S_S4096x8 : S_.BroadcastsInDim S4096x8 (![] : Fin 0 → Fin S4096x8.rank)
  reducesTo_S4096x8_S_d0_1 : S4096x8.ReducesTo [0, 1] S_
  h_S_ : 0 < S_.numel

variable [Facts]

def fn {F : FTy → Type} [FloatOps F] (main_arg0 : FVec F S4096x3 .f32) (main_arg1 : FVec F S65536x3 .f32) (main_arg2 : FVec F S65536x32 .f32) (main_arg3 : FVec F S1x3x3 .f32) (main_arg4 : FVec F S1x3 .f32) (main_arg5 : FVec F S3x3 .f32) (main_arg6 : IVec S4096x8 32) : IVec S_ 1 :=
  let main_c : IVec S_ 32 := constantI S_ 32 0#32
  let main_v0 : IVec S4096x8 32 := broadcastInDim S4096x8 ![] bcast_S_S4096x8 main_c
  let main_v1 : IVec S4096x8 1 := cmpi .sge main_arg6 main_v0
  let main_c_0 : IVec S_ 32 := constantI S_ 32 65536#32
  let main_v2 : IVec S4096x8 32 := broadcastInDim S4096x8 ![] bcast_S_S4096x8 main_c_0
  let main_v3 : IVec S4096x8 1 := cmpi .slt main_arg6 main_v2
  let main_v4 : IVec S4096x8 1 := andi main_v1 main_v3
  let main_c_1 : IVec S_ 1 := constantI S_ 1 1#1
  let main_v5 : IVec S_ 1 := (fun x v => Host.reduce IntOp.andi x v reducesTo_S4096x8_S_d0_1 h_S_) main_v4 main_c_1
  main_v5
-- ==== WholeIdeal.lean ====
abbrev S4096x3 : Shape := ⟨2, ![4096, 3]⟩
abbrev S65536x3 : Shape := ⟨2, ![65536, 3]⟩
abbrev S65536x32 : Shape := ⟨2, ![65536, 32]⟩
abbrev S1x3x3 : Shape := ⟨3, ![1, 3, 3]⟩
abbrev S1x3 : Shape := ⟨2, ![1, 3]⟩
abbrev S3x3 : Shape := ⟨2, ![3, 3]⟩
abbrev S6x30 : Shape := ⟨2, ![6, 30]⟩
abbrev S32x96 : Shape := ⟨2, ![32, 96]⟩
abbrev S_ : Shape := ⟨0, ![]⟩
abbrev S4096 : Shape := ⟨1, ![4096]⟩
abbrev S4096x1 : Shape := ⟨2, ![4096, 1]⟩
abbrev S65536 : Shape := ⟨1, ![65536]⟩
abbrev S4096x8 : Shape := ⟨2, ![4096, 8]⟩
abbrev S512x3 : Shape := ⟨2, ![512, 3]⟩
abbrev S2048x3 : Shape := ⟨2, ![2048, 3]⟩
abbrev S512x1 : Shape := ⟨2, ![512, 1]⟩
abbrev S2048 : Shape := ⟨1, ![2048]⟩
abbrev S512x8 : Shape := ⟨2, ![512, 8]⟩
abbrev S512x1024 : Shape := ⟨2, ![512, 1024]⟩
abbrev S512x2048 : Shape := ⟨2, ![512, 2048]⟩
abbrev S1x2048 : Shape := ⟨2, ![1, 2048]⟩
abbrev S512 : Shape := ⟨1, ![512]⟩
abbrev S1x512 : Shape := ⟨2, ![1, 512]⟩
abbrev S1 : Shape := ⟨1, ![1]⟩
abbrev S1x1 : Shape := ⟨2, ![1, 1]⟩
abbrev S512x7 : Shape := ⟨2, ![512, 7]⟩
abbrev S65536x13 : Shape := ⟨2, ![65536, 13]⟩
abbrev S65536x80 : Shape := ⟨2, ![65536, 80]⟩
abbrev S65536x128 : Shape := ⟨2, ![65536, 128]⟩
abbrev S32768 : Shape := ⟨1, ![32768]⟩
abbrev S32768x128 : Shape := ⟨2, ![32768, 128]⟩
abbrev S128 : Shape := ⟨1, ![128]⟩
abbrev S128x128 : Shape := ⟨2, ![128, 128]⟩
abbrev S4096x8x284 : Shape := ⟨3, ![4096, 8, 284]⟩
abbrev S1024x128 : Shape := ⟨2, ![1024, 128]⟩
abbrev S128x3 : Shape := ⟨2, ![128, 3]⟩
abbrev S128x8x284 : Shape := ⟨3, ![128, 8, 284]⟩
abbrev S1024x3 : Shape := ⟨2, ![1024, 3]⟩
abbrev S1024x32 : Shape := ⟨2, ![1024, 32]⟩
abbrev S128x1 : Shape := ⟨2, ![128, 1]⟩
abbrev S1024x1 : Shape := ⟨2, ![1024, 1]⟩
abbrev S128x1x1 : Shape := ⟨3, ![128, 1, 1]⟩
abbrev S128x8x1 : Shape := ⟨3, ![128, 8, 1]⟩
abbrev S128x1x3 : Shape := ⟨3, ![128, 1, 3]⟩
abbrev S128x8x3 : Shape := ⟨3, ![128, 8, 3]⟩
abbrev S1024x6 : Shape := ⟨2, ![1024, 6]⟩
abbrev S1024x30 : Shape := ⟨2, ![1024, 30]⟩
abbrev S1024x96 : Shape := ⟨2, ![1024, 96]⟩
abbrev S1024x284 : Shape := ⟨2, ![1024, 284]⟩

abbrev nBuf : Table → Nat
  | .hbm => 25
  | .local .tc .vmem => 27
  | .local .scVector .vmem => 2
  | _ => 0

abbrev bufTy : (tb : Table) → Fin (nBuf tb) → BufTy
  | .hbm, ⟨0, _⟩ => ⟨S4096x3, .f32⟩
  | .hbm, ⟨1, _⟩ => ⟨S65536x3, .f32⟩
  | .hbm, ⟨2, _⟩ => ⟨S65536x32, .f32⟩
  | .hbm, ⟨3, _⟩ => ⟨S1x3x3, .f32⟩
  | .hbm, ⟨4, _⟩ => ⟨S1x3, .f32⟩
  | .hbm, ⟨5, _⟩ => ⟨S3x3, .f32⟩
  | .hbm, ⟨6, _⟩ => ⟨S6x30, .f32⟩
  | .hbm, ⟨7, _⟩ => ⟨S32x96, .f32⟩
  | .hbm, ⟨8, _⟩ => ⟨S4096x3, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S65536x3, .f32⟩
  | .hbm, ⟨13, _⟩ => ⟨S_, .f32⟩
  | .hbm, ⟨14, _⟩ => ⟨S65536, .f32⟩
  | .hbm, ⟨15, _⟩ => ⟨S4096x8, .i32⟩
  | .hbm, ⟨16, _⟩ => ⟨S_, .f32⟩
  | .hbm, ⟨17, _⟩ => ⟨S65536x13, .f32⟩
  | .hbm, ⟨18, _⟩ => ⟨S_, .f32⟩
  | .hbm, ⟨19, _⟩ => ⟨S65536x80, .f32⟩
  | .hbm, ⟨20, _⟩ => ⟨S65536x128, .f32⟩
  | .hbm, ⟨21, _⟩ => ⟨S32768, .i32⟩
  | .hbm, ⟨22, _⟩ => ⟨S32768x128, .f32⟩
  | .hbm, ⟨23, _⟩ => ⟨S3x3, .f32⟩
  | .hbm, ⟨24, _⟩ => ⟨S4096x8x284, .f32⟩
  | .local .tc .vmem, ⟨0, _⟩ => ⟨S512x3, .f32⟩
  | .local .tc .vmem, ⟨1, _⟩ => ⟨S512x3, .f32⟩
  | .local .tc .vmem, ⟨2, _⟩ => ⟨S2048x3, .f32⟩
  | .local .tc .vmem, ⟨3, _⟩ => ⟨S2048x3, .f32⟩
  | .local .tc .vmem, ⟨4, _⟩ => ⟨S512x1, .f32⟩
  | .local .tc .vmem, ⟨5, _⟩ => ⟨S512x1, .f32⟩
  | .local .tc .vmem, ⟨6, _⟩ => ⟨S2048, .f32⟩
  | .local .tc .vmem, ⟨7, _⟩ => ⟨S2048, .f32⟩
  | .local .tc .vmem, ⟨8, _⟩ => ⟨S512x8, .i32⟩
  | .local .tc .vmem, ⟨9, _⟩ => ⟨S512x8, .i32⟩
  | .local .tc .vmem, ⟨10, _⟩ => ⟨S512x1024, .f32⟩
  | .local .tc .vmem, ⟨11, _⟩ => ⟨S512x1024, .i32⟩
  | .local .tc .vmem, ⟨12, _⟩ => ⟨S512x1024, .f32⟩
  | .local .tc .vmem, ⟨13, _⟩ => ⟨S512x1024, .i32⟩
  | .local .tc .vmem, ⟨14, _⟩ => ⟨S512x8, .f32⟩
  | .local .tc .vmem, ⟨15, _⟩ => ⟨S512x8, .i32⟩
  | .local .tc .vmem, ⟨16, _⟩ => ⟨S1024x128, .f32⟩
  | .local .tc .vmem, ⟨17, _⟩ => ⟨S1024x128, .f32⟩
  | .local .tc .vmem, ⟨18, _⟩ => ⟨S128x3, .f32⟩
  | .local .tc .vmem, ⟨19, _⟩ => ⟨S128x3, .f32⟩
  | .local .tc .vmem, ⟨20, _⟩ => ⟨S3x3, .f32⟩
  | .local .tc .vmem, ⟨21, _⟩ => ⟨S1x3, .f32⟩
  | .local .tc .vmem, ⟨22, _⟩ => ⟨S3x3, .f32⟩
  | .local .tc .vmem, ⟨23, _⟩ => ⟨S6x30, .f32⟩
  | .local .tc .vmem, ⟨24, _⟩ => ⟨S32x96, .f32⟩
  | .local .tc .vmem, ⟨25, _⟩ => ⟨S128x8x284, .f32⟩
  | .local .tc .vmem, ⟨26, _⟩ => ⟨S128x8x284, .f32⟩
  | .local .scVector .vmem, ⟨0, _⟩ => ⟨S128, .i32⟩
  | .local .scVector .vmem, ⟨1, _⟩ => ⟨S128x128, .f32⟩
  | _, _ => ⟨S4096x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTables nBuf rfl bufTy 4 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_cst_4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v8_scv : Ref sig .scVector := ⟨.hbm, 20, rfl⟩
abbrev main_v9_scv : Ref sig .scVector := ⟨.hbm, 21, rfl⟩
abbrev main_v10_scv : Ref sig .scVector := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem7_1 : DmaSem sig := 37
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 32], ![false, false]⟩

def k0_cond10 (i : grid0.Coords) : BitVec 1 :=
  let arg1 : BitVec 32 := BitVec.ofNat 32 (i 1).val
  let c31_i32 : BitVec 32 := 31#32
  let v78 : BitVec 1 := Scalar.cmpi .eq arg1 c31_i32
  let v79 : BitVec 32 := Scalar.extui v78
  let c0_i32_29 : BitVec 32 := 0#32
  let v80 : BitVec 1 := Scalar.cmpi .ne v79 c0_i32_29
  v80

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  ![v3.toNat]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  let c0_i32_39_r1 : BitVec 32 := 0#32
  ![v3.toNat, 0]
abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3x3 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x3 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S6x30 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x96 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S128x8x284 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== WholeRefIdeal.lean ====
abbrev S4096x3 : Shape := ⟨2, ![4096, 3]⟩
abbrev S65536x3 : Shape := ⟨2, ![65536, 3]⟩
abbrev S65536x32 : Shape := ⟨2, ![65536, 32]⟩
abbrev S1x3x3 : Shape := ⟨3, ![1, 3, 3]⟩
abbrev S1x3 : Shape := ⟨2, ![1, 3]⟩
abbrev S3x3 : Shape := ⟨2, ![3, 3]⟩
abbrev S_ : Shape := ⟨0, ![]⟩
abbrev S4096 : Shape := ⟨1, ![4096]⟩
abbrev S4096x1 : Shape := ⟨2, ![4096, 1]⟩
abbrev S65536 : Shape := ⟨1, ![65536]⟩
abbrev S1x65536 : Shape := ⟨2, ![1, 65536]⟩
abbrev S4096x65536 : Shape := ⟨2, ![4096, 65536]⟩
abbrev S3x65536 : Shape := ⟨2, ![3, 65536]⟩
abbrev S4096x8 : Shape := ⟨2, ![4096, 8]⟩
abbrev S32768 : Shape := ⟨1, ![32768]⟩
abbrev S32768x1 : Shape := ⟨2, ![32768, 1]⟩
abbrev S1 : Shape := ⟨1, ![1]⟩
abbrev S1x1 : Shape := ⟨2, ![1, 1]⟩
abbrev S32768x3 : Shape := ⟨2, ![32768, 3]⟩
abbrev S32768x32 : Shape := ⟨2, ![32768, 32]⟩
abbrev S4096x8x3 : Shape := ⟨3, ![4096, 8, 3]⟩
abbrev S32768x3x1 : Shape := ⟨3, ![32768, 3, 1]⟩
abbrev S32768x3x3 : Shape := ⟨3, ![32768, 3, 3]⟩
abbrev S32768x6 : Shape := ⟨2, ![32768, 6]⟩
abbrev S3 : Shape := ⟨1, ![3]⟩
abbrev S32768x32x1 : Shape := ⟨3, ![32768, 32, 1]⟩
abbrev S1x1x3 : Shape := ⟨3, ![1, 1, 3]⟩
abbrev S32768x32x3 : Shape := ⟨3, ![32768, 32, 3]⟩
abbrev S32768x96 : Shape := ⟨2, ![32768, 96]⟩
abbrev S32768x192 : Shape := ⟨2, ![32768, 192]⟩
abbrev S5 : Shape := ⟨1, ![5]⟩
abbrev S32768x6x1 : Shape := ⟨3, ![32768, 6, 1]⟩
abbrev S1x1x5 : Shape := ⟨3, ![1, 1, 5]⟩
abbrev S32768x6x5 : Shape := ⟨3, ![32768, 6, 5]⟩
abbrev S32768x30 : Shape := ⟨2, ![32768, 30]⟩
abbrev S32768x60 : Shape := ⟨2, ![32768, 60]⟩
abbrev S32768x284 : Shape := ⟨2, ![32768, 284]⟩
abbrev S4096x8x284 : Shape := ⟨3, ![4096, 8, 284]⟩

abbrev nBuf : Space → Nat
  | .hbm => 168
  | .vmem => 0
  | .smem => 0
  | _ => 0

abbrev hbmTy0_0 (i : Nat) : BufTy := match i % 128 with
  | 0 => ⟨S4096x3, .f32⟩
  | 1 => ⟨S65536x3, .f32⟩
  | 2 => ⟨S65536x32, .f32⟩
  | 3 => ⟨S1x3x3, .f32⟩
  | 4 => ⟨S1x3, .f32⟩
  | 5 => ⟨S3x3, .f32⟩
  | 6 => ⟨S4096x3, .f32⟩
  | 7 => ⟨S_, .f32⟩
  | 8 => ⟨S4096, .f32⟩
  | 9 => ⟨S4096x1, .f32⟩
  | 10 => ⟨S65536x3, .f32⟩
  | 11 => ⟨S_, .f32⟩
  | 12 => ⟨S65536, .f32⟩
  | 13 => ⟨S1x65536, .f32⟩
  | 14 => ⟨S4096x65536, .f32⟩
  | 15 => ⟨S4096x65536, .f32⟩
  | 16 => ⟨S4096x65536, .f32⟩
  | 17 => ⟨S3x65536, .f32⟩
  | 18 => ⟨S4096x65536, .f32⟩
  | 19 => ⟨S_, .f32⟩
  | 20 => ⟨S4096x65536, .f32⟩
  | 21 => ⟨S4096x65536, .f32⟩
  | 22 => ⟨S4096x65536, .f32⟩
  | 23 => ⟨S4096x65536, .f32⟩
  | 24 => ⟨S4096x8, .f32⟩
  | 25 => ⟨S4096x8, .i32⟩
  | 26 => ⟨S32768, .i32⟩
  | 27 => ⟨S_, .i32⟩
  | 28 => ⟨S32768, .i32⟩
  | 29 => ⟨S32768, .i1⟩
  | 30 => ⟨S_, .i32⟩
  | 31 => ⟨S32768, .i32⟩
  | 32 => ⟨S32768, .i32⟩
  | 33 => ⟨S32768, .i32⟩
  | 34 => ⟨S32768x1, .i32⟩
  | 35 => ⟨S1, .i32⟩
  | 36 => ⟨S_, .i32⟩
  | 37 => ⟨S32768x1, .i32⟩
  | 38 => ⟨S32768x1, .i1⟩
  | 39 => ⟨S1x1, .i32⟩
  | 40 => ⟨S32768x1, .i32⟩
  | 41 => ⟨S32768x1, .i1⟩
  | 42 => ⟨S32768x1, .i1⟩
  | 43 => ⟨S_, .i1⟩
  | 44 => ⟨S32768, .i1⟩
  | 45 => ⟨S32768x3, .f32⟩
  | 46 => ⟨S32768x3, .i1⟩
  | 47 => ⟨S_, .f32⟩
  | 48 => ⟨S32768x3, .f32⟩
  | 49 => ⟨S32768x3, .f32⟩
  | 50 => ⟨S32768, .i32⟩
  | 51 => ⟨S_, .i32⟩
  | 52 => ⟨S32768, .i32⟩
  | 53 => ⟨S32768, .i1⟩
  | 54 => ⟨S_, .i32⟩
  | 55 => ⟨S32768, .i32⟩
  | 56 => ⟨S32768, .i32⟩
  | 57 => ⟨S32768, .i32⟩
  | 58 => ⟨S32768x1, .i32⟩
  | 59 => ⟨S1, .i32⟩
  | 60 => ⟨S_, .i32⟩
  | 61 => ⟨S32768x1, .i32⟩
  | 62 => ⟨S32768x1, .i1⟩
  | 63 => ⟨S1x1, .i32⟩
  | 64 => ⟨S32768x1, .i32⟩
  | 65 => ⟨S32768x1, .i1⟩
  | 66 => ⟨S32768x1, .i1⟩
  | 67 => ⟨S_, .i1⟩
  | 68 => ⟨S32768, .i1⟩
  | 69 => ⟨S32768x32, .f32⟩
  | 70 => ⟨S32768x32, .i1⟩
  | 71 => ⟨S_, .f32⟩
  | 72 => ⟨S32768x32, .f32⟩
  | 73 => ⟨S32768x32, .f32⟩
  | 74 => ⟨S4096x8x3, .f32⟩
  | 75 => ⟨S32768x3, .f32⟩
  | 76 => ⟨S32768x3, .f32⟩
  | 77 => ⟨S32768x3, .f32⟩
  | 78 => ⟨S3x3, .f32⟩
  | 79 => ⟨S1x3x3, .f32⟩
  | 80 => ⟨S32768x3x1, .f32⟩
  | 81 => ⟨S32768x3x3, .f32⟩
  | 82 => ⟨S32768x3x3, .f32⟩
  | 83 => ⟨S32768x3x3, .f32⟩
  | 84 => ⟨S_, .f32⟩
  | 85 => ⟨S32768x3, .f32⟩
  | 86 => ⟨S32768x1, .f32⟩
  | 87 => ⟨S32768, .f32⟩
  | 88 => ⟨S32768x1, .f32⟩
  | 89 => ⟨S32768, .f32⟩
  | 90 => ⟨S32768, .f32⟩
  | 91 => ⟨S32768x1, .f32⟩
  | 92 => ⟨S32768, .f32⟩
  | 93 => ⟨S32768x1, .f32⟩
  | 94 => ⟨S32768, .f32⟩
  | 95 => ⟨S32768, .f32⟩
  | 96 => ⟨S32768x1, .f32⟩
  | 97 => ⟨S32768, .f32⟩
  | 98 => ⟨S32768x3, .f32⟩
  | 99 => ⟨S32768x3, .f32⟩
  | 100 => ⟨S3x3, .f32⟩
  | 101 => ⟨S1x3x3, .f32⟩
  | 102 => ⟨S32768x3x1, .f32⟩
  | 103 => ⟨S32768x3x3, .f32⟩
  | 104 => ⟨S32768x3x3, .f32⟩
  | 105 => ⟨S32768x3x3, .f32⟩
  | 106 => ⟨S_, .f32⟩
  | 107 => ⟨S32768x3, .f32⟩
  | 108 => ⟨S32768x1, .f32⟩
  | 109 => ⟨S32768, .f32⟩
  | 110 => ⟨S32768x1, .f32⟩
  | 111 => ⟨S32768, .f32⟩
  | 112 => ⟨S32768, .f32⟩
  | 113 => ⟨S32768x1, .f32⟩
  | 114 => ⟨S32768, .f32⟩
  | 115 => ⟨S32768x1, .f32⟩
  | 116 => ⟨S32768, .f32⟩
  | 117 => ⟨S32768, .f32⟩
  | 118 => ⟨S32768x1, .f32⟩
  | 119 => ⟨S32768, .f32⟩
  | 120 => ⟨S32768, .f32⟩
  | 121 => ⟨S32768, .f32⟩
  | 122 => ⟨S32768, .f32⟩
  | 123 => ⟨S32768, .f32⟩
  | 124 => ⟨S32768, .f32⟩
  | 125 => ⟨S32768, .f32⟩
  | 126 => ⟨S32768, .f32⟩
  | 127 => ⟨S32768x1, .f32⟩
  | _ => ⟨S4096x3, .f32⟩

abbrev hbmTy0_1 (i : Nat) : BufTy := match i % 128 with
  | 0 => ⟨S32768x1, .f32⟩
  | 1 => ⟨S32768x1, .f32⟩
  | 2 => ⟨S32768x3, .f32⟩
  | 3 => ⟨S32768x3, .f32⟩
  | 4 => ⟨S_, .f32⟩
  | 5 => ⟨S32768x3, .f32⟩
  | 6 => ⟨S32768x3, .f32⟩
  | 7 => ⟨S32768x3, .f32⟩
  | 8 => ⟨S_, .f32⟩
  | 9 => ⟨S32768x3, .f32⟩
  | 10 => ⟨S32768x3, .f32⟩
  | 11 => ⟨S32768x6, .f32⟩
  | 12 => ⟨S3, .f32⟩
  | 13 => ⟨S_, .f32⟩
  | 14 => ⟨S3, .f32⟩
  | 15 => ⟨S3, .f32⟩
  | 16 => ⟨S32768x32x1, .f32⟩
  | 17 => ⟨S1x1x3, .f32⟩
  | 18 => ⟨S32768x32x3, .f32⟩
  | 19 => ⟨S32768x32x3, .f32⟩
  | 20 => ⟨S32768x32x3, .f32⟩
  | 21 => ⟨S32768x96, .f32⟩
  | 22 => ⟨S32768x96, .f32⟩
  | 23 => ⟨S32768x96, .f32⟩
  | 24 => ⟨S32768x192, .f32⟩
  | 25 => ⟨S5, .f32⟩
  | 26 => ⟨S_, .f32⟩
  | 27 => ⟨S5, .f32⟩
  | 28 => ⟨S5, .f32⟩
  | 29 => ⟨S32768x6x1, .f32⟩
  | 30 => ⟨S1x1x5, .f32⟩
  | 31 => ⟨S32768x6x5, .f32⟩
  | 32 => ⟨S32768x6x5, .f32⟩
  | 33 => ⟨S32768x6x5, .f32⟩
  | 34 => ⟨S32768x30, .f32⟩
  | 35 => ⟨S32768x30, .f32⟩
  | 36 => ⟨S32768x30, .f32⟩
  | 37 => ⟨S32768x60, .f32⟩
  | 38 => ⟨S32768x284, .f32⟩
  | 39 => ⟨S4096x8x284, .f32⟩
  | _ => ⟨S4096x3, .f32⟩

abbrev hbmTy (i : Nat) : BufTy := match i / 128 with
  | 0 => hbmTy0_0 i
  | 1 => hbmTy0_1 i
  | _ => ⟨S4096x3, .f32⟩

abbrev bufTy : (tb : Table) → Fin (tcTables nBuf tb) → BufTy
  | .hbm, ⟨i, _⟩ => hbmTy i
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_values : Ref sig .tc := ⟨.hbm, 24, rfl⟩
abbrev main_indices : Ref sig .tc := ⟨.hbm, 25, rfl⟩
abbrev main_v15 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v16 : Ref sig .tc := ⟨.hbm, 49, rfl⟩
abbrev main_v17 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_2 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_cst_3 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_cst_4 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_cst_5 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_cst_6 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_cst_7 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩

abbrev nD : Nat := 1
abbrev τ : Topo := Topo.v7x

variable {F : FTy → Type} [FloatOps F]
-- ==== Kernel.lean ====
abbrev S4096x3 : Shape := ⟨2, ![4096, 3]⟩
abbrev S65536x3 : Shape := ⟨2, ![65536, 3]⟩
abbrev S65536x32 : Shape := ⟨2, ![65536, 32]⟩
abbrev S1x3x3 : Shape := ⟨3, ![1, 3, 3]⟩
abbrev S1x3 : Shape := ⟨2, ![1, 3]⟩
abbrev S3x3 : Shape := ⟨2, ![3, 3]⟩
abbrev S4096x8 : Shape := ⟨2, ![4096, 8]⟩
abbrev S6x30 : Shape := ⟨2, ![6, 30]⟩
abbrev S32x96 : Shape := ⟨2, ![32, 96]⟩
abbrev S_ : Shape := ⟨0, ![]⟩
abbrev S65536x13 : Shape := ⟨2, ![65536, 13]⟩
abbrev S65536x80 : Shape := ⟨2, ![65536, 80]⟩
abbrev S65536x128 : Shape := ⟨2, ![65536, 128]⟩
abbrev S32768 : Shape := ⟨1, ![32768]⟩
abbrev S32768x128 : Shape := ⟨2, ![32768, 128]⟩
abbrev S128 : Shape := ⟨1, ![128]⟩
abbrev S128x128 : Shape := ⟨2, ![128, 128]⟩
abbrev S4096x8x284 : Shape := ⟨3, ![4096, 8, 284]⟩
abbrev S1024x128 : Shape := ⟨2, ![1024, 128]⟩
abbrev S128x3 : Shape := ⟨2, ![128, 3]⟩
abbrev S128x8x284 : Shape := ⟨3, ![128, 8, 284]⟩
abbrev S1024x3 : Shape := ⟨2, ![1024, 3]⟩
abbrev S1024x32 : Shape := ⟨2, ![1024, 32]⟩
abbrev S128x1 : Shape := ⟨2, ![128, 1]⟩
abbrev S1024x1 : Shape := ⟨2, ![1024, 1]⟩
abbrev S128x1x1 : Shape := ⟨3, ![128, 1, 1]⟩
abbrev S128x8x1 : Shape := ⟨3, ![128, 8, 1]⟩
abbrev S128x1x3 : Shape := ⟨3, ![128, 1, 3]⟩
abbrev S128x8x3 : Shape := ⟨3, ![128, 8, 3]⟩
abbrev S1024x6 : Shape := ⟨2, ![1024, 6]⟩
abbrev S1024x30 : Shape := ⟨2, ![1024, 30]⟩
abbrev S1024x96 : Shape := ⟨2, ![1024, 96]⟩
abbrev S1024x284 : Shape := ⟨2, ![1024, 284]⟩

abbrev nBuf : Table → Nat
  | .hbm => 18
  | .local .tc .vmem => 11
  | .local .scVector .vmem => 2
  | _ => 0

abbrev bufTy : (tb : Table) → Fin (nBuf tb) → BufTy
  | .hbm, ⟨0, _⟩ => ⟨S4096x3, .f32⟩
  | .hbm, ⟨1, _⟩ => ⟨S65536x3, .f32⟩
  | .hbm, ⟨2, _⟩ => ⟨S65536x32, .f32⟩
  | .hbm, ⟨3, _⟩ => ⟨S1x3x3, .f32⟩
  | .hbm, ⟨4, _⟩ => ⟨S1x3, .f32⟩
  | .hbm, ⟨5, _⟩ => ⟨S3x3, .f32⟩
  | .hbm, ⟨6, _⟩ => ⟨S4096x8, .i32⟩
  | .hbm, ⟨7, _⟩ => ⟨S6x30, .f32⟩
  | .hbm, ⟨8, _⟩ => ⟨S32x96, .f32⟩
  | .hbm, ⟨9, _⟩ => ⟨S_, .f32⟩
  | .hbm, ⟨10, _⟩ => ⟨S65536x13, .f32⟩
  | .hbm, ⟨11, _⟩ => ⟨S_, .f32⟩
  | .hbm, ⟨12, _⟩ => ⟨S65536x80, .f32⟩
  | .hbm, ⟨13, _⟩ => ⟨S65536x128, .f32⟩
  | .hbm, ⟨14, _⟩ => ⟨S32768, .i32⟩
  | .hbm, ⟨15, _⟩ => ⟨S32768x128, .f32⟩
  | .hbm, ⟨16, _⟩ => ⟨S3x3, .f32⟩
  | .hbm, ⟨17, _⟩ => ⟨S4096x8x284, .f32⟩
  | .local .tc .vmem, ⟨0, _⟩ => ⟨S1024x128, .f32⟩
  | .local .tc .vmem, ⟨1, _⟩ => ⟨S1024x128, .f32⟩
  | .local .tc .vmem, ⟨2, _⟩ => ⟨S128x3, .f32⟩
  | .local .tc .vmem, ⟨3, _⟩ => ⟨S128x3, .f32⟩
  | .local .tc .vmem, ⟨4, _⟩ => ⟨S3x3, .f32⟩
  | .local .tc .vmem, ⟨5, _⟩ => ⟨S1x3, .f32⟩
  | .local .tc .vmem, ⟨6, _⟩ => ⟨S3x3, .f32⟩
  | .local .tc .vmem, ⟨7, _⟩ => ⟨S6x30, .f32⟩
  | .local .tc .vmem, ⟨8, _⟩ => ⟨S32x96, .f32⟩
  | .local .tc .vmem, ⟨9, _⟩ => ⟨S128x8x284, .f32⟩
  | .local .tc .vmem, ⟨10, _⟩ => ⟨S128x8x284, .f32⟩
  | .local .scVector .vmem, ⟨0, _⟩ => ⟨S128, .i32⟩
  | .local .scVector .vmem, ⟨1, _⟩ => ⟨S128x128, .f32⟩
  | _, _ => ⟨S4096x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_v0 : Ref sig .tc := ⟨.hbm, 10, rfl⟩
abbrev main_cst_2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v2_scv : Ref sig .scVector := ⟨.hbm, 13, rfl⟩
abbrev main_v3_scv : Ref sig .scVector := ⟨.hbm, 14, rfl⟩
abbrev main_v4_scv : Ref sig .scVector := ⟨.hbm, 15, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg7_1 : Ref sig .tc := ⟨.vmem, 10, rfl⟩
abbrev cc0_scratch0 : Ref sig .scVector := ⟨.vmem, 0, rfl⟩
abbrev cc0_scratch1 : Ref sig .scVector := ⟨.vmem, 1, rfl⟩
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  ![v3.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  let c0_i32_39_r1 : BitVec 32 := 0#32
  ![v3.toNat, 0]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S6x30 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S128x8x284 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x3 : Shape := ⟨2, ![4096, 3]⟩
abbrev S65536x3 : Shape := ⟨2, ![65536, 3]⟩
abbrev S65536x32 : Shape := ⟨2, ![65536, 32]⟩
abbrev S1x3x3 : Shape := ⟨3, ![1, 3, 3]⟩
abbrev S1x3 : Shape := ⟨2, ![1, 3]⟩
abbrev S3x3 : Shape := ⟨2, ![3, 3]⟩
abbrev S4096x8 : Shape := ⟨2, ![4096, 8]⟩
abbrev S32768 : Shape := ⟨1, ![32768]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S32768x3 : Shape := ⟨2, ![32768, 3]⟩
abbrev S32768x32 : Shape := ⟨2, ![32768, 32]⟩
abbrev S4096x8x3 : Shape := ⟨3, ![4096, 8, 3]⟩
abbrev S32768x3x1 : Shape := ⟨3, ![32768, 3, 1]⟩
abbrev S32768x3x3 : Shape := ⟨3, ![32768, 3, 3]⟩
abbrev S32768x6 : Shape := ⟨2, ![32768, 6]⟩
abbrev S3 : Shape := ⟨1, ![3]⟩
abbrev S32768x32x1 : Shape := ⟨3, ![32768, 32, 1]⟩
abbrev S1x1x3 : Shape := ⟨3, ![1, 1, 3]⟩
abbrev S32768x32x3 : Shape := ⟨3, ![32768, 32, 3]⟩
abbrev S32768x96 : Shape := ⟨2, ![32768, 96]⟩
abbrev S32768x192 : Shape := ⟨2, ![32768, 192]⟩
abbrev S5 : Shape := ⟨1, ![5]⟩
abbrev S32768x6x1 : Shape := ⟨3, ![32768, 6, 1]⟩
abbrev S1x1x5 : Shape := ⟨3, ![1, 1, 5]⟩
abbrev S32768x6x5 : Shape := ⟨3, ![32768, 6, 5]⟩
abbrev S32768x30 : Shape := ⟨2, ![32768, 30]⟩
abbrev S32768x60 : Shape := ⟨2, ![32768, 60]⟩
abbrev S32768x284 : Shape := ⟨2, ![32768, 284]⟩
abbrev S4096x8x284 : Shape := ⟨3, ![4096, 8, 284]⟩

abbrev nBuf : Space → Nat
  | .hbm => 149
  | .vmem => 0
  | .smem => 0
  | _ => 0

abbrev hbmTy0_0 (i : Nat) : BufTy := match i % 128 with
  | 0 => ⟨S4096x3, .f32⟩
  | 1 => ⟨S65536x3, .f32⟩
  | 2 => ⟨S65536x32, .f32⟩
  | 3 => ⟨S1x3x3, .f32⟩
  | 4 => ⟨S1x3, .f32⟩
  | 5 => ⟨S3x3, .f32⟩
  | 6 => ⟨S4096x8, .i32⟩
  | 7 => ⟨S32768, .i32⟩
  | 8 => ⟨S_, .i32⟩
  | 9 => ⟨S32768, .i32⟩
  | 10 => ⟨S32768, .i1⟩
  | 11 => ⟨S_, .i32⟩
  | 12 => ⟨S32768, .i32⟩
  | 13 => ⟨S32768, .i32⟩
  | 14 => ⟨S32768, .i32⟩
  | 15 => ⟨S32768x1, .i32⟩
  | 16 => ⟨S1, .i32⟩
  | 17 => ⟨S_, .i32⟩
  | 18 => ⟨S32768x1, .i32⟩
  | 19 => ⟨S32768x1, .i1⟩
  | 20 => ⟨S1x1, .i32⟩
  | 21 => ⟨S32768x1, .i32⟩
  | 22 => ⟨S32768x1, .i1⟩
  | 23 => ⟨S32768x1, .i1⟩
  | 24 => ⟨S_, .i1⟩
  | 25 => ⟨S32768, .i1⟩
  | 26 => ⟨S32768x3, .f32⟩
  | 27 => ⟨S32768x3, .i1⟩
  | 28 => ⟨S_, .f32⟩
  | 29 => ⟨S32768x3, .f32⟩
  | 30 => ⟨S32768x3, .f32⟩
  | 31 => ⟨S32768, .i32⟩
  | 32 => ⟨S_, .i32⟩
  | 33 => ⟨S32768, .i32⟩
  | 34 => ⟨S32768, .i1⟩
  | 35 => ⟨S_, .i32⟩
  | 36 => ⟨S32768, .i32⟩
  | 37 => ⟨S32768, .i32⟩
  | 38 => ⟨S32768, .i32⟩
  | 39 => ⟨S32768x1, .i32⟩
  | 40 => ⟨S1, .i32⟩
  | 41 => ⟨S_, .i32⟩
  | 42 => ⟨S32768x1, .i32⟩
  | 43 => ⟨S32768x1, .i1⟩
  | 44 => ⟨S1x1, .i32⟩
  | 45 => ⟨S32768x1, .i32⟩
  | 46 => ⟨S32768x1, .i1⟩
  | 47 => ⟨S32768x1, .i1⟩
  | 48 => ⟨S_, .i1⟩
  | 49 => ⟨S32768, .i1⟩
  | 50 => ⟨S32768x32, .f32⟩
  | 51 => ⟨S32768x32, .i1⟩
  | 52 => ⟨S_, .f32⟩
  | 53 => ⟨S32768x32, .f32⟩
  | 54 => ⟨S32768x32, .f32⟩
  | 55 => ⟨S4096x8x3, .f32⟩
  | 56 => ⟨S32768x3, .f32⟩
  | 57 => ⟨S32768x3, .f32⟩
  | 58 => ⟨S32768x3, .f32⟩
  | 59 => ⟨S3x3, .f32⟩
  | 60 => ⟨S1x3x3, .f32⟩
  | 61 => ⟨S32768x3x1, .f32⟩
  | 62 => ⟨S32768x3x3, .f32⟩
  | 63 => ⟨S32768x3x3, .f32⟩
  | 64 => ⟨S32768x3x3, .f32⟩
  | 65 => ⟨S_, .f32⟩
  | 66 => ⟨S32768x3, .f32⟩
  | 67 => ⟨S32768x1, .f32⟩
  | 68 => ⟨S32768, .f32⟩
  | 69 => ⟨S32768x1, .f32⟩
  | 70 => ⟨S32768, .f32⟩
  | 71 => ⟨S32768, .f32⟩
  | 72 => ⟨S32768x1, .f32⟩
  | 73 => ⟨S32768, .f32⟩
  | 74 => ⟨S32768x1, .f32⟩
  | 75 => ⟨S32768, .f32⟩
  | 76 => ⟨S32768, .f32⟩
  | 77 => ⟨S32768x1, .f32⟩
  | 78 => ⟨S32768, .f32⟩
  | 79 => ⟨S32768x3, .f32⟩
  | 80 => ⟨S32768x3, .f32⟩
  | 81 => ⟨S3x3, .f32⟩
  | 82 => ⟨S1x3x3, .f32⟩
  | 83 => ⟨S32768x3x1, .f32⟩
  | 84 => ⟨S32768x3x3, .f32⟩
  | 85 => ⟨S32768x3x3, .f32⟩
  | 86 => ⟨S32768x3x3, .f32⟩
  | 87 => ⟨S_, .f32⟩
  | 88 => ⟨S32768x3, .f32⟩
  | 89 => ⟨S32768x1, .f32⟩
  | 90 => ⟨S32768, .f32⟩
  | 91 => ⟨S32768x1, .f32⟩
  | 92 => ⟨S32768, .f32⟩
  | 93 => ⟨S32768, .f32⟩
  | 94 => ⟨S32768x1, .f32⟩
  | 95 => ⟨S32768, .f32⟩
  | 96 => ⟨S32768x1, .f32⟩
  | 97 => ⟨S32768, .f32⟩
  | 98 => ⟨S32768, .f32⟩
  | 99 => ⟨S32768x1, .f32⟩
  | 100 => ⟨S32768, .f32⟩
  | 101 => ⟨S32768, .f32⟩
  | 102 => ⟨S32768, .f32⟩
  | 103 => ⟨S32768, .f32⟩
  | 104 => ⟨S32768, .f32⟩
  | 105 => ⟨S32768, .f32⟩
  | 106 => ⟨S32768, .f32⟩
  | 107 => ⟨S32768, .f32⟩
  | 108 => ⟨S32768x1, .f32⟩
  | 109 => ⟨S32768x1, .f32⟩
  | 110 => ⟨S32768x1, .f32⟩
  | 111 => ⟨S32768x3, .f32⟩
  | 112 => ⟨S32768x3, .f32⟩
  | 113 => ⟨S_, .f32⟩
  | 114 => ⟨S32768x3, .f32⟩
  | 115 => ⟨S32768x3, .f32⟩
  | 116 => ⟨S32768x3, .f32⟩
  | 117 => ⟨S_, .f32⟩
  | 118 => ⟨S32768x3, .f32⟩
  | 119 => ⟨S32768x3, .f32⟩
  | 120 => ⟨S32768x6, .f32⟩
  | 121 => ⟨S3, .f32⟩
  | 122 => ⟨S_, .f32⟩
  | 123 => ⟨S3, .f32⟩
  | 124 => ⟨S3, .f32⟩
  | 125 => ⟨S32768x32x1, .f32⟩
  | 126 => ⟨S1x1x3, .f32⟩
  | 127 => ⟨S32768x32x3, .f32⟩
  | _ => ⟨S4096x3, .f32⟩

abbrev hbmTy0_1 (i : Nat) : BufTy := match i % 128 with
  | 0 => ⟨S32768x32x3, .f32⟩
  | 1 => ⟨S32768x32x3, .f32⟩
  | 2 => ⟨S32768x96, .f32⟩
  | 3 => ⟨S32768x96, .f32⟩
  | 4 => ⟨S32768x96, .f32⟩
  | 5 => ⟨S32768x192, .f32⟩
  | 6 => ⟨S5, .f32⟩
  | 7 => ⟨S_, .f32⟩
  | 8 => ⟨S5, .f32⟩
  | 9 => ⟨S5, .f32⟩
  | 10 => ⟨S32768x6x1, .f32⟩
  | 11 => ⟨S1x1x5, .f32⟩
  | 12 => ⟨S32768x6x5, .f32⟩
  | 13 => ⟨S32768x6x5, .f32⟩
  | 14 => ⟨S32768x6x5, .f32⟩
  | 15 => ⟨S32768x30, .f32⟩
  | 16 => ⟨S32768x30, .f32⟩
  | 17 => ⟨S32768x30, .f32⟩
  | 18 => ⟨S32768x60, .f32⟩
  | 19 => ⟨S32768x284, .f32⟩
  | 20 => ⟨S4096x8x284, .f32⟩
  | _ => ⟨S4096x3, .f32⟩

abbrev hbmTy (i : Nat) : BufTy := match i / 128 with
  | 0 => hbmTy0_0 i
  | 1 => hbmTy0_1 i
  | _ => ⟨S4096x3, .f32⟩

abbrev bufTy : (tb : Table) → Fin (tcTables nBuf tb) → BufTy
  | .hbm, ⟨i, _⟩ => hbmTy i
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_v2 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_cst : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_cst_0 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_cst_1 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_cst_2 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_cst_3 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_cst_4 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩

abbrev nD : Nat := 1
abbrev τ : Topo := Topo.v7x

variable {F : FTy → Type} [FloatOps F]
-- ==== Proof.Chunk.lean ====
/-
  The SparseCore call, one chunk at a time: the eight chunks of a vector subcore's task are one program (`chunk`) at eight row numbers, so one triple
  about it (`chunk_wp`), for any chunk number, serves all eight, and the task is the list of them run in order (`gk_eq`).
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pointwise.Index
public import proofs.«01_k».proof.Proof.Gen.KernelIdeal
public import proofs.«01_k».proof.Proof.Gen.KernelIdeal.Skeleton

@[expose] public section

set_option maxRecDepth 16384

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Program

variable [FloatOps F]

/-- Chunk `r` of a task: 128 row numbers fetched, those rows of the table gathered, and the gathered rows written out. -/
def chunk (i : grid0.Coords) (arg2 : Memref sig .scVector .hbm S65536x128 .f32) (arg3 : Memref sig .scVector .hbm S32768 .i32)
    (arg4 : Memref sig .scVector .hbm S32768x128 .f32) (arg5 : Memref sig .scVector .vmem S128 .i32) (harg5 : arg5.IsWhole)
    (arg6 : Memref sig .scVector .vmem S128x128 .f32) (harg6 : arg6.IsWhole) (arg7 sA sB : DmaSems sig S_) (r : Fin 8) :
    Prog (TpuEff nD τ sig (Elt F) Λ₀ (.scVector ((i 0).castLE hcore0) ((i 1).castLE hsub0))) PUnit := do
  Prog.lift (.enqueueDma (arg3.slice (Rect.unit (s := S32768) (k0_off1 i (BitVec.ofNat 32 (128 * r.val))) S128.size (k0_off1_inb i r)) (fun _ => rfl))
    (.here arg5) (.dma sA.sem) (View.wordExact_bits rfl) harg5.wordExact ⟨Or.inl rfl, trivial⟩)
  Prog.lift (.waitDma2 sA.sem (arg3.slice (Rect.unit (s := S32768) (k0_off1 i (BitVec.ofNat 32 (128 * r.val))) S128.size (k0_off1_inb i r)) (fun _ => rfl))
    arg5 (View.wordExact_bits rfl) harg5.wordExact)
  SparseCore.enqueueIndirectGather rfl (arg2.slice (Rect.unit (s := S65536x128) ![0, 0] S65536x128.size inb_S65536x128_S65536x128_0_0) (fun _ => rfl))
    arg6 gathers_S65536x128_S128x128 arg5 rfl arg7.sem (View.wordExact_bits rfl) rfl (Or.inl rfl)
  SparseCore.waitIndirectGather arg7.sem (arg2.slice (Rect.unit (s := S65536x128) ![0, 0] S65536x128.size inb_S65536x128_S65536x128_0_0) (fun _ => rfl))
    arg6 (View.wordExact_bits rfl) harg6.wordExact
  Prog.lift (.enqueueDma arg6
    (.here (arg4.slice (Rect.unit (s := S32768x128) (k0_off2 i (BitVec.ofNat 32 (128 * r.val))) S128x128.size (k0_off2_inb i r)) (fun _ => rfl)))
    (.dma sB.sem) harg6.wordExact (View.wordExact_bits rfl) ⟨Or.inl rfl, trivial⟩)
  Prog.lift (.waitDma2 sB.sem arg6
    (arg4.slice (Rect.unit (s := S32768x128) (k0_off2 i (BitVec.ofNat 32 (128 * r.val))) S128x128.size (k0_off2_inb i r)) (fun _ => rfl))
    harg6.wordExact (View.wordExact_bits rfl))

/-- The semaphore of chunk `r`'s fetch, and of its write-out. -/
def semA : Fin 8 → DmaSems sig S_ :=
  ![cc0_scoped0, cc0_scoped2, cc0_scoped4, cc0_scoped6, cc0_scoped8, cc0_scoped10, cc0_scoped12, cc0_scoped14]
def semB : Fin 8 → DmaSems sig S_ :=
  ![cc0_scoped1, cc0_scoped3, cc0_scoped5, cc0_scoped7, cc0_scoped9, cc0_scoped11, cc0_scoped13, cc0_scoped15]

/-- The table, the row numbers, the output, and the two scratch buffers, as a vector subcore names them. -/
abbrev tV : Memref sig .scVector .hbm S65536x128 .f32 := Memref.whole main_v2_scv
abbrev iV : Memref sig .scVector .hbm S32768 .i32 := Memref.whole main_v3_scv
abbrev oV : Memref sig .scVector .hbm S32768x128 .f32 := Memref.whole main_v4_scv
abbrev sV : Memref sig .scVector .vmem S128 .i32 := Memref.whole cc0_scratch0
abbrev rV : Memref sig .scVector .vmem S128x128 .f32 := Memref.whole cc0_scratch1

/-- Chunk `r` on the program's own arrays, scratch and semaphores. -/
def chunkK (i : grid0.Coords) (r : Fin 8) : Prog (TpuEff nD τ sig (Elt F) Λ₀ (.scVector ((i 0).castLE hcore0) ((i 1).castLE hsub0))) PUnit :=
  chunk i tV iV oV sV (Memref.isWhole_whole _) rV (Memref.isWhole_whole _) cc0_scratch2 (semA r) (semB r) r

/-- Chunks run in order. -/
def chunks (i : grid0.Coords) : List (Fin 8) → Prog (TpuEff nD τ sig (Elt F) Λ₀ (.scVector ((i 0).castLE hcore0) ((i 1).castLE hsub0))) PUnit
  | [] => pure ⟨⟩
  | r :: l => chunkK i r >>= fun _ => chunks i l

/-- The task is its eight chunks. -/
theorem gk_eq (i : grid0.Coords) :
    cc0_gk (F := F) i tV (Memref.isWhole_whole _) iV (Memref.isWhole_whole _) oV (Memref.isWhole_whole _) sV (Memref.isWhole_whole _) rV (Memref.isWhole_whole _)
      cc0_scratch2 cc0_scoped0 cc0_scoped1 cc0_scoped2 cc0_scoped3 cc0_scoped4 cc0_scoped5 cc0_scoped6 cc0_scoped7 cc0_scoped8 cc0_scoped9 cc0_scoped10
      cc0_scoped11 cc0_scoped12 cc0_scoped13 cc0_scoped14 cc0_scoped15
      = chunks i [0, 1, 2, 3, 4, 5, 6, 7] := rfl

end Program

/-! ## The program as the launch theorem sees it -/

abbrev ΛP : Labels := Pipeline.Sig Λ₀ (Fin 1) fun p => (pcfgs (F := F) p).Adm
abbrev K : SparseCore.Cfg τ sig (ΛP (F := F)) 1 := sc (F := F)
abbrev 𝒱₀ : Variants := Variants.none

/-- The resource algebra: the handshakes' rounds, the pipeline's rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The HBM arrays of the call, as the device's TensorCore names them. -/
abbrev tLoc (d : Dev nD) : Loc nD τ sig := (SparseCore.T d).loc main_v2
abbrev iLoc (d : Dev nD) : Loc nD τ sig := (SparseCore.T d).loc main_v3
abbrev oLoc (d : Dev nD) : Loc nD τ sig := (SparseCore.T d).loc main_v4

/-- What the call computes: row `n` of the output is the table's row named by row number `n` (taken modulo the table's extent, so that the
    function is total; the numbers are in range). -/
def gath (t : S65536x128.Idx → Elt F .f32) (ids : S32768.Idx → BitVec 32) : S32768x128.Idx → Elt F .f32 := fun j =>
  t (ix2 ⟨(ids (ix1 (j 0))).toNat % 65536, Nat.mod_lt _ (by decide)⟩ (j 1))

section Values

variable (L : grid0.Coords) (r : Fin 8)

abbrev cV : Fin τ.nSC := (L 0).castLE hcore0
abbrev jV : Fin τ.nSub := (L 1).castLE hsub0
/-- The 128 row numbers of chunk `r`, its rows of the output, and all of the table, as the task addresses them. -/
abbrev iK : Memref sig .scVector .hbm S128 .i32 :=
  (iV).slice (Rect.unit (s := S32768) (k0_off1 L (BitVec.ofNat 32 (128 * r.val))) S128.size (k0_off1_inb L r)) (fun _ => rfl)
abbrev oK : Memref sig .scVector .hbm S128x128 .f32 :=
  (oV).slice (Rect.unit (s := S32768x128) (k0_off2 L (BitVec.ofNat 32 (128 * r.val))) S128x128.size (k0_off2_inb L r)) (fun _ => rfl)
abbrev tAll : Memref sig .scVector .hbm S65536x128 .f32 :=
  (tV).slice (Rect.unit (s := S65536x128) ![0, 0] S65536x128.size inb_S65536x128_S65536x128_0_0) (fun _ => rfl)
/-- The output elements chunk `r` writes. -/
abbrev oSet : Finset S32768x128.Idx := (oK L r).view.set

/-- The first row of chunk `r`. -/
abbrev row0 : ℕ := 2048 * (L 1).val + 1024 * (L 0).val + 128 * r.val

theorem emb_iK (x : S128.Idx) : ((iK L r).view.emb x 0).val = row0 L r + (x 0).val := by
  show (k0_off1 L (BitVec.ofNat 32 (128 * r.val))) 0 + 1 * (x 0).val = _
  rw [k0_off1_eq, Nat.one_mul]; rfl
theorem emb_oK_0 (x : S128x128.Idx) : ((oK L r).view.emb x 0).val = row0 L r + (x 0).val := by
  show (k0_off2 L (BitVec.ofNat 32 (128 * r.val))) 0 + 1 * (x 0).val = _
  rw [k0_off2_eq, Nat.one_mul]; rfl
theorem emb_oK_1 (x : S128x128.Idx) : (oK L r).view.emb x 1 = x 1 := by
  refine Fin.ext ?_
  show (k0_off2 L (BitVec.ofNat 32 (128 * r.val))) 1 + 1 * (x 1).val = _
  rw [k0_off2_eq, Nat.one_mul]; exact Nat.zero_add _

/-- All of the table, sliced whole, reads as its contents. -/
theorem read_tAll (t : S65536x128.Idx → Elt F .f32) : (tAll).view.read (Elt F) t = t := by
  funext x
  refine (View.read_apply _ _).trans ((cast_eq _ _).trans (congrArg t (funext fun a => Fin.ext ?_)))
  match a with
  | 0 => show 0 + 1 * (x 0).val = _; omega
  | 1 => show 0 + 1 * (x 1).val = _; omega

/-- The rows gathered for chunk `r` are the chunk's rows of `gath`. -/
theorem payload_eq (t : S65536x128.Idx → Elt F .f32) (ids : S32768.Idx → BitVec 32)
    (h : ∀ x, ((iK L r).view.read (Elt F) ids x).toNat < S65536x128.size gathers_S65536x128_S128x128.axis) (x : S128x128.Idx) :
    SparseCore.gatherPayload gathers_S65536x128_S128x128 t (SparseCore.rows (si := S128) ((iK L r).view.read (Elt F) ids) rfl h) x
      = gath t ids ((oK L r).view.emb x) := by
  unfold SparseCore.gatherPayload gath
  refine congrArg t (funext fun a => Fin.ext ?_)
  match a with
  | 0 =>
    refine (congrArg Fin.val (Shape.Gathers.idx_axis gathers_S65536x128_S128x128 _ x)).trans ?_
    have key : (iK L r).view.read (Elt F) ids (S128.rowMajor.symm ((x (gathers_S65536x128_S128x128.axis')).cast rfl)) = ids (ix1 ((oK L r).view.emb x 0)) := by
      refine (View.read_apply _ _).trans ((cast_eq _ _).trans (congrArg ids (funext fun a => Fin.ext ?_)))
      match a with
      | 0 =>
        rw [emb_iK]; refine Eq.trans ?_ (emb_oK_0 L r x).symm
        refine congrArg (row0 L r + ·) ?_
        rw [← Shape.rowMajor_val_one (d := ![128]) (S128.rowMajor.symm _)]
        exact congrArg Fin.val (Equiv.apply_symm_apply S128.rowMajor _)
    show ((iK L r).view.read (Elt F) ids (S128.rowMajor.symm _)).toNat = (ids (ix1 ((oK L r).view.emb x 0))).toNat % 65536
    rw [Nat.mod_eq_of_lt]
    · exact congrArg BitVec.toNat key
    · exact key ▸ h _
  | 1 =>
    refine (Shape.Gathers.idx_of_ne gathers_S65536x128_S128x128 _ x 1 (by decide)).trans ?_
    exact congrArg Fin.val (emb_oK_1 L r x).symm

/-- On the chunk's elements, the output written with the gathered rows is `gath`. -/
theorem written_eq (t : S65536x128.Idx → Elt F .f32) (ids : S32768.Idx → BitVec 32) (o : S32768x128.Idx → Elt F .f32) (w : S128x128.Idx → Elt F .f32)
    (h : ∀ x, ((iK L r).view.read (Elt F) ids x).toNat < S65536x128.size gathers_S65536x128_S128x128.axis)
    (hw : w = SparseCore.gatherPayload gathers_S65536x128_S128x128 t (SparseCore.rows (si := S128) ((iK L r).view.read (Elt F) ids) rfl h)) :
    ∀ i ∈ oSet L r, (oK L r).view.write (Elt F) o w Finset.univ i = gath t ids i := by
  intro i hi
  obtain ⟨x, -, rfl⟩ := Finset.mem_map.mp hi
  rw [View.write_emb_of_mem _ _ (Finset.mem_univ x), hw]
  exact (cast_eq _ _).trans (payload_eq L r t ids h x)

end Values

end Cert.Proof.Gather

end
-- ==== Proof.Tile.lean ====
/-
  The triple of one chunk of a vector subcore's task, and by induction on the list of chunks that of the task: from shares of the table and of the row
  numbers and the task's pieces of the output, to the same with every piece at the gathered rows.
-/
module

public import proofs.«01_k».proof.Proof.Chunk

@[expose] public section

set_option maxRecDepth 16384

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (q : PosShare TreeShare)
variable (t : Buf (Elt F) (tLoc d)) (ids : Buf (Elt F) (iLoc d))

abbrev thr : Thread nD τ := V d (cV L) (jV L)

/-- The share of the table and of the row numbers a task holds. -/
abbrev reads : sProp 𝕄 := iprop((tLoc d ↦{q} t) ∗ (iLoc d ↦{q} ids))
/-- The task's two scratch buffers and the gather's semaphore, which every chunk uses again. -/
abbrev scratch : sProp 𝕄 := iprop((∃ f, (thr d L).loc cc0_scratch0 ↦{fullShare} f) ∗ (∃ f, (thr d L).loc cc0_scratch1 ↦{fullShare} f)
  ∗ semVal (thr d L, .dma cc0_scratch2.sem) 0)
/-- Chunk `r`'s piece of the output, and its two semaphores. -/
abbrev piece (r : Fin 8) (o : Buf (Elt F) (oLoc d)) : sProp 𝕄 := oLoc d ↦[oSet L r]{fullShare} o
abbrev sems (r : Fin 8) : sProp 𝕄 := iprop(semVal (thr d L, .dma (semA r).sem) 0 ∗ semVal (thr d L, .dma (semB r).sem) 0)
/-- The task's debts, with the waits it has recorded. -/
abbrev debts (O : CellTallies nD τ sig (HIx 1)) (W : Waits sig (HIx 1)) : sProp 𝕄 :=
  iprop(∃ W', ⌜∀ p ∈ W', p ∈ W ∨ p.2 = none⌝ ∗ owes (thr d L) O W')

/-- The row numbers are rows of the table. -/
def InRange (ids : S32768.Idx → BitVec 32) : Prop := ∀ x, (ids x).toNat < 65536

theorem inb_of_range (hin : InRange ids) (r : Fin 8) : ∀ x, ((iK L r).view.read (Elt F) ids x).toNat < S65536x128.size gathers_S65536x128_S128x128.axis :=
  fun x => hin ((iK L r).view.emb x)

/-- The gathered rows' credits sum to the row buffer's. -/
theorem credit_rows : ∑ j, ((rV).slice (S128x128.rowRect gathers_S65536x128_S128x128.axis' j) (S128x128.stride_rowRect gathers_S65536x128_S128x128.axis' j)).view.dmaCredit
    = (rV).view.dmaCredit := by
  refine (Finset.sum_const ((rV).view.ref.dmaCredit (S128x128.rowShape gathers_S65536x128_S128x128.axis') .f32)).trans ?_
  rw [Finset.card_univ, Fintype.card_fin]
  decide

set_option maxHeartbeats 4000000 in
/-- One chunk: its row numbers fetched, their rows of the table gathered and written out. -/
theorem chunk_wp (hin : InRange ids) (r : Fin 8) (o : Buf (Elt F) (oLoc d)) (O : CellTallies nD τ sig (HIx 1)) (W : Waits sig (HIx 1)) (hO : ∀ g, O g none = 0) :
    iprop(levAts (K (F := F)).L (K (F := F)).lev ∗ reads d q t ids ∗ scratch d L ∗ piece d L r o ∗ sems d L r ∗ owes (thr d L) O W)
      ⊢ wp frame (wpE (defs₀ (F := F)) 𝒱₀ (thr d L) none) Set.univ (chunkK L r)
          fun _ => iprop(reads d q t ids ∗ scratch d L ∗ piece d L r (gath t ids) ∗ sems d L r ∗ debts d L O W) := by
  unfold chunkK chunk
  iintro ⟨#Hlv, ⟨Ht, Hi⟩, ⟨⟨%fs, Hs⟩, ⟨%fr, Hr⟩, HsemG⟩, Ho, ⟨HsemA, HsemB⟩, HO⟩
  ihave Hmw := (show levAts (K (F := F)).L (K (F := F)).lev ⊢ Transfers.MayWaits (thr d L) (default : HIx 1) O from
    (K (F := F)).mayWaits_none (thr := thr d L) hO) $$ Hlv
  ihave Hi' := (pointsTo_split_subset (ℓ := (iK L r).view.loc (thr d L)) (q := q) (f := ids) (S := Finset.univ) (Finset.subset_univ (iK L r).view.set)).1 $$ Hi
  icases Hi' with ⟨Hi, Hirest⟩
  ihave Hs' := (Entails.of_eq (show ((thr d L).loc cc0_scratch0 ↦{fullShare} fs : sProp 𝕄) = (sV).view.loc (thr d L) ↦{fullShare} fs from rfl)) $$ Hs
  ihave Hr' := (Entails.of_eq (show ((thr d L).loc cc0_scratch1 ↦{fullShare} fr : sProp 𝕄) = (rV).view.loc (thr d L) ↦{fullShare} fr from rfl)) $$ Hr
  ihave Ho' := (Entails.of_eq (show (piece d L r o : sProp 𝕄) = (oK L r).view.loc (thr d L) ↦[(oK L r).view.set]{fullShare} o from rfl)) $$ Ho
  sl_exec
  have hrs : (rV).view.set = Finset.univ := View.set_whole _
  have hss : (sV).view.set = Finset.univ := View.set_whole _
  ihave Hs2 := (Entails.of_eq (show ((sV).view.loc (thr d L) ↦{fullShare} View.write (Elt F) (sV).view fs (chunk_wp.sl.dma0 d L ids r) Finset.univ : sProp 𝕄)
      = (sV).view.loc (thr d L) ↦[(sV).view.set]{fullShare} (iK L r).view.read (Elt F) ids by
        rw [hss]; exact congrArg _ (View.write_whole_univ _ _ _))) $$ Hs'
  ihave Hr2 := (Entails.of_eq (show ((rV).view.loc (thr d L) ↦{fullShare} fr : sProp 𝕄)
      = (rV).view.loc (thr d L) ↦[(rV).view.set]{fullShare} fr by rw [hrs])) $$ Hr'
  ihave Hts := (pointsTo_split_subset (ℓ := (tAll).view.loc (thr d L)) (q := q) (f := t) (S := Finset.univ) (Finset.subset_univ (tAll).view.set)).1 $$ Ht
  icases Hts with ⟨Hts, Htr⟩
  iapply (SparseCore.wp_indirectGatherLocal countersEmb 𝒱₀ (thr d L) none (hg := gathers_S65536x128_S128x128) (fo := (iK L r).view.read (Elt F) ids) (default : HIx 1)
      (rV).view.dmaCredit credit_rows (by decide) (inb_of_range d L ids hin r)) $$ [Hts Hr2 Hs2 HsemG]
  · isplitl [Hts]; · iexact Hts
    isplitl [Hr2]; · iexact Hr2
    isplitl [Hs2]; · iexact Hs2
    iexact HsemG
  iintro Hfl
  sl_exec
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr2, Hts, Hs2⟩, HsemG, HO⟩
  ihave Ht := (pointsTo_split_subset (ℓ := (tAll).view.loc (thr d L)) (q := q) (f := t) (S := Finset.univ) (Finset.subset_univ (tAll).view.set)).2 $$ [Hts Htr]
  · isplitl [Hts] <;> iassumption
  ihave Hr3 := (Entails.of_eq (show ((rV).view.loc (thr d L) ↦[(rV).view.set]{fullShare} _ : sProp 𝕄)
      = (rV).view.loc (thr d L) ↦{fullShare} _ by rw [hrs])) $$ Hr2
  ihave Hs3 := (Entails.of_eq (show ((sV).view.loc (thr d L) ↦[(sV).view.set]{fullShare} _ : sProp 𝕄)
      = (sV).view.loc (thr d L) ↦{fullShare} _ by rw [hss])) $$ Hs2
  sl_exec
  have hw : chunk_wp.sl.dma0_1 d L t ids hin r fr
      = SparseCore.gatherPayload gathers_S65536x128_S128x128 t (SparseCore.rows (si := S128) ((iK L r).view.read (Elt F) ids) rfl (inb_of_range d L ids hin r)) := by
    refine Eq.trans (b := (rV).view.write (Elt F) fr (SparseCore.gatherPayload gathers_S65536x128_S128x128 ((tAll).view.read (Elt F) t)
      (SparseCore.rows (si := S128) ((iK L r).view.read (Elt F) ids) rfl (inb_of_range d L ids hin r))) Finset.univ) rfl ?_
    refine (View.write_whole_univ _ _ _).trans ?_
    exact congrArg (fun u => SparseCore.gatherPayload gathers_S65536x128_S128x128 u _) (read_tAll t)
  have hfin : ∀ i ∈ oSet L r, (oK L r).view.writes (Elt F) o [⟨Rect.whole S128x128, chunk_wp.sl.dma0_1 d L t ids hin r fr⟩] i = gath t ids i := fun i hi =>
    (congrFun (View.write_univ_eq_writes_whole (oK L r).view o [] (chunk_wp.sl.dma0_1 d L t ids hin r fr)) i).symm.trans
      (written_eq L r t ids o _ (inb_of_range d L ids hin r) hw i hi)
  sl_step
  isplitl [Ht Hirest]
  · isplitl [Ht]; · iexact Ht
    iexact Hirest
  isplitl [Hs3 Hr3 HsemG]
  · isplitl [Hs3]; · iexists _; iexact Hs3
    isplitl [Hr3]; · iexists _; iexact Hr3
    iexact HsemG
  isplitl [Ho']
  · iapply (Entails.of_eq (pointsTo_congr (ℓ := oLoc d) (q := fullShare) hfin)); iexact Ho'
  isplitl [HsemA HsemB]; · isplitl [HsemA] <;> iassumption
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The eight chunks' pieces of the output, each at its own contents, and their semaphores. -/
abbrev pieces (o : Fin 8 → Buf (Elt F) (oLoc d)) : sProp 𝕄 := bigSep Finset.univ fun r : Fin 8 => piece d L r (o r)
abbrev allSems : sProp 𝕄 := bigSep Finset.univ fun r : Fin 8 => sems (F := F) d L r

/-- A list of chunks: the pieces of the chunks in it are left at the gathered rows, the others' untouched. -/
theorem chunks_wp (hin : InRange ids) (O : CellTallies nD τ sig (HIx 1)) (hO : ∀ g, O g none = 0) :
    ∀ (l : List (Fin 8)) (o : Fin 8 → Buf (Elt F) (oLoc d)) (W : Waits sig (HIx 1)),
    iprop(levAts (K (F := F)).L (K (F := F)).lev ∗ reads d q t ids ∗ scratch d L ∗ pieces d L o ∗ allSems d L ∗ owes (thr d L) O W)
      ⊢ wp frame (wpE (defs₀ (F := F)) 𝒱₀ (thr d L) none) Set.univ (chunks L l)
          fun _ => iprop(reads d q t ids ∗ scratch d L ∗ pieces d L (fun r => if r ∈ l then gath t ids else o r) ∗ allSems d L ∗ debts d L O W)
  | [], o, W => by
    show _ ⊢ wp frame _ _ (.ret _) _
    rw [wp_ret]
    iintro ⟨-, Hr, Hs, Hp, Hm, HO⟩
    imodintro
    isplitl [Hr]; · iexact Hr
    isplitl [Hs]; · iexact Hs
    isplitl [Hp]; · simp only [List.not_mem_nil, ↓reduceIte]; iexact Hp
    isplitl [Hm]; · iexact Hm
    iexists W; isplitr
    · ipureintro; exact fun p hp => .inl hp
    · iexact HO
  | r :: l, o, W => by
    have ih := fun W => chunks_wp hin O hO l (Function.update o r (gath t ids)) W
    have hp : ∀ o : Fin 8 → Buf (Elt F) (oLoc d), (pieces d L o : sProp 𝕄) = iprop(piece d L r (o r) ∗ bigSep (Finset.univ.erase r) fun r => piece d L r (o r)) :=
      fun o => SparseCore.bigSep_erase' (Finset.mem_univ r)
    have hm : (allSems (F := F) d L : sProp 𝕄) = iprop(sems d L r ∗ bigSep (Finset.univ.erase r) fun r => sems d L r) := SparseCore.bigSep_erase' (Finset.mem_univ r)
    have he : (bigSep (Finset.univ.erase r) fun r => piece d L r (o r) : sProp 𝕄) = bigSep (Finset.univ.erase r) fun r' => piece d L r' (Function.update o r (gath t ids) r') :=
      bigSep_congr fun r' h => by rw [Function.update_of_ne (Finset.ne_of_mem_erase h)]
    have hl : (fun r' => if r' ∈ l then gath t ids else Function.update o r (gath t ids) r') = fun r' => if r' ∈ r :: l then gath t ids else o r' := by
      funext r'
      by_cases h : r' = r
      · subst h; simp
      · simp [h]
    show _ ⊢ wp frame _ _ (chunkK L r >>= fun _ => chunks L l) _
    rw [wp_bind, hp o]
    iintro ⟨#Hlv, Hr, Hs, ⟨Hp, Hps⟩, Hm, HO⟩
    ihave Hm' := (Entails.of_eq hm) $$ Hm
    icases Hm' with ⟨Hm, Hms⟩
    iapply (wp_wand_r frame _ Set.univ)
    isplitl [Hr Hs Hp Hm HO]
    · iapply (chunk_wp d L q t ids hin r (o r) O W hO)
      isplitr; · iexact Hlv
      isplitl [Hr]; · iexact Hr
      isplitl [Hs]; · iexact Hs
      isplitl [Hp]; · iexact Hp
      isplitl [Hm]; · iexact Hm
      iexact HO
    iintro %_ ⟨Hr, Hs, Hp, Hm, %W', %hW', HO⟩
    iapply (wp_wand_r frame _ Set.univ)
    isplitl [Hr Hs Hp Hps Hm Hms HO]
    · iapply (ih W')
      isplitr; · iexact Hlv
      isplitl [Hr]; · iexact Hr
      isplitl [Hs]; · iexact Hs
      isplitl [Hp Hps]
      · rw [hp, ← he, Function.update_self]
        isplitl [Hp]; · iexact Hp
        iexact Hps
      isplitl [Hm Hms]
      · iapply (Entails.of_eq hm.symm)
        isplitl [Hm] <;> iassumption
      iexact HO
    iintro %_ ⟨Hr, Hs, Hp, Hm, %W'', %hW'', HO⟩
    isplitl [Hr]; · iexact Hr
    isplitl [Hs]; · iexact Hs
    isplitl [Hp]; · rw [← hl]; iexact Hp
    isplitl [Hm]; · iexact Hm
    iexists W''; isplitr
    · ipureintro; exact fun p hp => (hW'' p hp).elim (hW' p) .inr
    · iexact HO

/-- The task's seventeen semaphores: each chunk's two and the gather's. -/
def semOf : (Fin 8 ⊕ Fin 8) ⊕ Unit → SemLoc sig
  | .inl (.inl r) => .dma (semA r).sem
  | .inl (.inr r) => .dma (semB r).sem
  | .inr _ => .dma cc0_scratch2.sem

theorem semOf_inj : Function.Injective semOf := by decide
theorem semOf_scoped : ∀ x, (semOf x).isScoped .scVector = true := by decide

def cellOf : (Fin 8 ⊕ Fin 8) ⊕ Unit ↪ GSem nD τ sig := ⟨fun x => (thr d L, semOf x), fun _ _ h => semOf_inj (congrArg Prod.snd h)⟩

/-- They are among the subcore's own: the own semaphores are them and the rest. -/
theorem ownSems0_V :
    (ownSems0 (thr d L) : sProp 𝕄)
      = iprop((allSems (F := F) d L ∗ semVal (thr d L, .dma cc0_scratch2.sem) 0) ∗ bigSep (ownCells (thr d L) \ Finset.univ.map (cellOf d L)) fun g => semVal g 0) := by
  unfold SparseCore.Cfg.ownSems0
  rw [bigSep_sdiff_split (t := Finset.univ.map (cellOf d L)) (fun g hg => by
    obtain ⟨x, -, rfl⟩ := Finset.mem_map.mp hg
    exact mem_ownCells.mpr ⟨rfl, semOf_scoped x⟩), bigSep_map, bigSep_univ_sum, bigSep_univ_sum, bigSep_univ_of_subsingleton ()]
  unfold allSems
  rw [bigSep_sep']
  rfl

/-- The two scratch buffers are among the subcore's own: the own buffers are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The whole task, from its shares, its own buffers and its own semaphores. -/
theorem task_wp (hF : (K (F := F)).Facts) (hin : InRange ids) (o : Buf (Elt F) (oLoc d)) (O : CellTallies nD τ sig (HIx 1)) (W : Waits sig (HIx 1)) (hO : ∀ g, O g none = 0) :
    iprop(levAts (K (F := F)).L (K (F := F)).lev ∗ emp ∗ (reads d q t ids ∗ pieces d L fun _ => o)
        ∗ scopedBufs (thr d L) ∗ scopedSems0 (thr d L) ∗ owes (thr d L) O W)
      ⊢ wp frame (wpE (defs₀ (F := F)) 𝒱₀ (thr d L) none) Set.univ (chunks L [0, 1, 2, 3, 4, 5, 6, 7])
          fun _ => iprop((reads d q t ids ∗ pieces d L fun _ => gath t ids) ∗ scopedBufs (thr d L) ∗ scopedSems0 (thr d L) ∗ debts d L O W) := by
  have hall : (fun r : Fin 8 => if r ∈ [0, 1, 2, 3, 4, 5, 6, 7] then gath t ids else o) = fun _ => gath t ids :=
    funext fun r => if_pos (by revert r; decide)
  rw [(K (F := F)).scopedBufs_V hF d (cV L) (jV L), SparseCore.Cfg.scopedSems0_V (Val := Elt F) d (cV L) (jV L), ownSems0_V, ownBufs_V]
  iintro ⟨#Hlv, -, ⟨Hr, Hp⟩, ⟨Hs0, Hs1, Hbufs⟩, ⟨⟨Hm, HG⟩, Hsems⟩, HO⟩
  iapply (wp_wand_r frame _ Set.univ)
  isplitl [Hr Hp Hs0 Hs1 Hm HG HO]
  · iapply (chunks_wp d L q t ids hin O hO [0, 1, 2, 3, 4, 5, 6, 7] (fun _ => o) W)
    isplitr; · iexact Hlv
    isplitl [Hr]; · iexact Hr
    isplitl [Hs0 Hs1 HG]
    · isplitl [Hs0]; · iexact Hs0
      isplitl [Hs1]; · iexact Hs1
      iexact HG
    isplitl [Hp]; · iexact Hp
    isplitl [Hm]; · iexact Hm
    iexact HO
  iintro %_ ⟨Hr, ⟨Hs0, Hs1, HG⟩, Hp, Hm, HO⟩
  isplitl [Hr Hp]
  · isplitl [Hr]; · iexact Hr
    rw [← hall]; iexact Hp
  isplitl [Hs0 Hs1 Hbufs]
  · isplitl [Hs0]; · iexact Hs0
    isplitl [Hs1]; · iexact Hs1
    iexact Hbufs
  isplitl [Hm HG Hsems]
  · isplitl [Hm HG]; · isplitl [Hm] <;> iassumption
    iexact Hsems
  iexact HO

end Cert.Proof.Gather

end
-- ==== Proof.Call.lean ====
/-
  The SparseCore call: what its handshakes carry, the obligation of each vector subcore's task, and the split of the call's arrays among the tasks — to
  each a share of the table and of the row numbers, and its eight pieces of the output, which the pieces of all tasks make up.
-/
module

public import proofs.«01_k».proof.Proof.Tile

@[expose] public section

set_option maxRecDepth 16384

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The coordinates of task `(c, s)`, and the share of the table and of the row numbers it reads by: one of thirty-two. -/
def coordsV (c : Fin 2) (s : Fin 16) : grid0.Coords :=
  fun | 0 => c | 1 => s | ⟨_ + 2, h⟩ => absurd h (Nat.not_lt.2 (Nat.le_add_left _ _))
def share (x : Fin 2 × Fin 16) : PosShare TreeShare := pieceOf fullShare 32 (by decide) (finProdFinEquiv x)

-- The contents of the table, of the row numbers, and of the output when the call starts.
variable (t : (d : Dev nD) → Buf (Elt F) (tLoc d)) (ids : (d : Dev nD) → Buf (Elt F) (iLoc d)) (o : (d : Dev nD) → Buf (Elt F) (oLoc d))

/-- What task `(c, s)` is given, the output at `f`. -/
def task (d : Dev nD) (c : Fin 2) (s : Fin 16) (f : Buf (Elt F) (oLoc d)) : sProp 𝕄 :=
  iprop(reads d (share (c, s)) (t d) (ids d) ∗ pieces d (coordsV c s) fun _ => f)
/-- What a core is given: its sixteen tasks'. -/
def core (d : Dev nD) (c : Fin 2) (f : Buf (Elt F) (oLoc d)) : sProp 𝕄 := bigSep Finset.univ fun s : Fin 16 => task t ids d c s f

instance (d : Dev nD) (c : Fin 2) (s : Fin 16) (f : Buf (Elt F) (oLoc d)) : BI.Storable (upEmb : UEmb _ 𝕄) (task t ids d c s f) := by
  unfold task; infer_instance
instance (d : Dev nD) (c : Fin 2) (f : Buf (Elt F) (oLoc d)) : BI.Storable (upEmb : UEmb _ 𝕄) (core t ids d c f) := by
  unfold core; infer_instance

def P : (K (F := F)).Pay (nD := nD) (Val := Elt F) (Name := ℕ) (U := UU) where
  st := fun q d c => match q with | 0 => core t ids d c (o d)
  dn := fun q d c => match q with | 0 => core t ids d c (gath (t d) (ids d))
  go := fun q d c i => match q with | 0 => task t ids d c i (o d)
  td := fun q d c i => match q with | 0 => task t ids d c i (gath (t d) (ids d))
  x := fun _ _ => iprop(emp)

instance P_storable : (P t ids o).IsStorable where
  st q d c := match q with | 0 => (inferInstance : BI.Storable (upEmb : UEmb _ 𝕄) (core t ids d c (o d)))
  dn q d c := match q with | 0 => (inferInstance : BI.Storable (upEmb : UEmb _ 𝕄) (core t ids d c (gath (t d) (ids d))))
  go q d c i := match q with | 0 => (inferInstance : BI.Storable (upEmb : UEmb _ 𝕄) (task t ids d c i (o d)))
  td q d c i := match q with | 0 => (inferInstance : BI.Storable (upEmb : UEmb _ 𝕄) (task t ids d c i (gath (t d) (ids d))))

theorem vecSplit : (K (F := F)).VecSplit' (P t ids o) 0 := by
  intro d c
  show core t ids d c (o d) ⊢ |={Set.univ}=> iprop((bigSep Finset.univ fun s : Fin 16 => task t ids d c s (o d))
    ∗ ((bigSep Finset.univ fun s : Fin 16 => task t ids d c s (gath (t d) (ids d))) -∗ core t ids d c (gath (t d) (ids d))))
  unfold core
  iintro H; imodintro
  isplitl [H]; · iexact H
  iintro H; iexact H

/-- A subcore's body at the call is the task's chunks at its coordinates. -/
theorem defs₀_vector (c : Fin 2) (s : Fin 16) :
    defs₀ (F := F) (.scVector (c.castLE hcore0) (s.castLE hsub0)) 0 () = chunks (coordsV c s) [0, 1, 2, 3, 4, 5, 6, 7] :=
  (show _ = SparseCore.onTile hcore0 hsub0 (fun c s => chunks (F := F) (coordsV c s) [0, 1, 2, 3, 4, 5, 6, 7]) ⟨⟩ (c.castLE hcore0) (s.castLE hsub0)
    from rfl).trans (dif_pos ⟨c.isLt, s.isLt⟩)

theorem tileObl (hin : ∀ d, InRange (ids d)) : (K (F := F)).TileObl (D (F := F)) 𝒱 (P t ids o) v₀ 0 := by
  intro d c i O W hO _ _
  simp only [show (P t ids o).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [show defs₀ (F := F) (.scVector ((K (F := F)).core 0 c) ((K (F := F)).sub 0 i)) 0 () = _ from defs₀_vector c i]
  refine (task_wp d (coordsV c i) (share (c, i)) (t d) (ids d) facts (hin d) (o d) O W hO).trans (wp_mono frame _ _ fun _ => ?_)
  show _ ⊢ iprop(task t ids d c i (gath (t d) (ids d)) ∗ _)
  unfold task
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## The output is its tasks' pieces -/

omit [FloatOps F] in
/-- Chunk `r` of a task is the rows from its first on. -/
theorem mem_oSet (L : grid0.Coords) (r : Fin 8) (j : S32768x128.Idx) : j ∈ oSet L r ↔ row0 L r ≤ (j 0).val ∧ (j 0).val < row0 L r + 128 := by
  constructor
  · intro h
    obtain ⟨x, -, rfl⟩ := Finset.mem_map.mp h
    have := (x 0).isLt
    have h128 : S128x128.size 0 = 128 := rfl
    rw [emb_oK_0]; omega
  · rintro ⟨h1, h2⟩
    refine Finset.mem_map.mpr ⟨ix2 ⟨(j 0).val - row0 L r, by omega⟩ (j 1), Finset.mem_univ _, funext fun a => ?_⟩
    match a with
    | 0 => exact Fin.ext ((emb_oK_0 L r _).trans (Nat.add_sub_cancel' h1))
    | 1 => exact emb_oK_1 L r _

/-- The pieces, by core, subcore and chunk. -/
abbrev pieceSet (x : (Fin 2 × Fin 16) × Fin 8) : Finset S32768x128.Idx := oSet (coordsV x.1.1 x.1.2) x.2
abbrev first (x : (Fin 2 × Fin 16) × Fin 8) : ℕ := 2048 * x.1.2.val + 1024 * x.1.1.val + 128 * x.2.val

theorem pieces_disjoint : ∀ x ∈ (Finset.univ : Finset ((Fin 2 × Fin 16) × Fin 8)), ∀ y ∈ (Finset.univ : Finset ((Fin 2 × Fin 16) × Fin 8)),
    x ≠ y → Disjoint (pieceSet x) (pieceSet y) := by
  rintro ⟨⟨c, s⟩, r⟩ - ⟨⟨c', s'⟩, r'⟩ - h
  refine Finset.disjoint_left.mpr fun j hj hj' => h ?_
  obtain ⟨h1, h2⟩ := (mem_oSet _ _ j).mp hj
  obtain ⟨h3, h4⟩ := (mem_oSet _ _ j).mp hj'
  have e1 : row0 (coordsV c s) r = 2048 * s.val + 1024 * c.val + 128 * r.val := rfl
  have e2 : row0 (coordsV c' s') r' = 2048 * s'.val + 1024 * c'.val + 128 * r'.val := rfl
  have := c.isLt; have := c'.isLt; have := s.isLt; have := s'.isLt; have := r.isLt; have := r'.isLt
  rw [e1] at h1 h2; rw [e2] at h3 h4
  have a1 : s = s' := Fin.ext (by omega)
  have a2 : c = c' := Fin.ext (by omega)
  have a3 : r = r' := Fin.ext (by omega)
  rw [a1, a2, a3]

theorem pieces_cover : (Finset.univ : Finset ((Fin 2 × Fin 16) × Fin 8)).biUnion pieceSet = Finset.univ := by
  refine Finset.eq_univ_iff_forall.mpr fun j => Finset.mem_biUnion.mpr ?_
  have hj : (j 0).val < 32768 := (j 0).isLt
  refine ⟨((⟨(j 0).val / 1024 % 2, by omega⟩, ⟨(j 0).val / 2048, by omega⟩), ⟨(j 0).val / 128 % 8, by omega⟩), Finset.mem_univ _, (mem_oSet _ _ j).mpr ?_⟩
  show 2048 * ((j 0).val / 2048) + 1024 * ((j 0).val / 1024 % 2) + 128 * ((j 0).val / 128 % 8) ≤ (j 0).val
    ∧ (j 0).val < 2048 * ((j 0).val / 2048) + 1024 * ((j 0).val / 1024 % 2) + 128 * ((j 0).val / 128 % 8) + 128
  omega

/-- An array held whole is a share of it for every task. -/
theorem shares_eq {ℓ : Loc nD τ sig} (f : Buf (Elt F) ℓ) :
    (ℓ ↦{fullShare} f : sProp 𝕄) = bigSep Finset.univ fun x : Fin 2 × Fin 16 => ℓ ↦{share x} f :=
  (pointsTo_piecesOf Finset.univ f (by decide) fullShare).trans (bigSep_univ_equiv finProdFinEquiv _)

/-- The call's arrays, held whole, are what its two cores are given. -/
theorem cores_eq (d : Dev nD) (f : Buf (Elt F) (oLoc d)) :
    (iprop((tLoc d ↦{fullShare} t d) ∗ (iLoc d ↦{fullShare} ids d) ∗ oLoc d ↦{fullShare} f) : sProp 𝕄) = bigSep Finset.univ fun c : Fin 2 => core t ids d c f := by
  unfold core task
  rw [← bigSep_univ_prod (fun x : Fin 2 × Fin 16 => iprop(reads d (share x) (t d) (ids d) ∗ pieces d (coordsV x.1 x.2) fun _ => f)), bigSep_sep', bigSep_sep',
    ← shares_eq, ← shares_eq,
    ← bigSep_univ_prod (fun x : (Fin 2 × Fin 16) × Fin 8 => (oLoc d ↦[pieceSet x]{fullShare} f : sProp 𝕄)),
    ← pointsTo_biUnion Finset.univ (ℓ := oLoc d) pieceSet pieces_disjoint, pieces_cover]
  exact Entails.antisymm Idealize.SL.BI.sep_assoc' Idealize.SL.BI.sep_assoc

end Cert.Proof.Gather

end
-- ==== Proof.Encode.lean ====
/-
  The TensorCore encode: its body on its eight staging buffers, and the block it leaves in the output's as one function of the blocks it reads.
-/
module

public import proofs.«01_k».proof.Proof.Call
public import proofs.«01_k».proof.Proof.Gen.KernelIdeal.Launch
public import proofs.«01_k».proof.Proof.Gen.KernelIdeal.Points
public import proofs.«01_k».proof.Proof.Gen.KernelIdeal.Skeleton
public import Idealize.ShloMosaic.Lib.Tactic
public import Idealize.ShloMosaic.Lib.Pipeline.RegionsLoop
public import Idealize.ShloMosaic.Lib.Pipeline.FrameBody

@[expose] public section

set_option maxRecDepth 16384

noncomputable section

namespace Cert.Proof.Encode

open Cert.KernelIdeal Cert.KernelIdeal.Gen Cert.Proof.Gather

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The block the body stores, of the gathered rows, the query points, the camera matrix and position, the sampled matrix and the two tables of
    frequencies. -/
def enc (g : Vec F S1024x128 .f32) (x : Vec F S128x3 .f32) (cam : Vec F S3x3 .f32) (pos : Vec F S1x3 .f32) (rw : Vec F S3x3 .f32)
    (sd : Vec F S6x30 .f32) (sf : Vec F S32x96 .f32) : FVec F S128x8x284 .f32 :=
  k1_pay1 (k1_pay5 g) sd
    (k1_pay16 x rw (k1_pay4 g) (k1_pay7 x cam pos) (k1_pay8 x cam pos) (k1_pay9 x cam pos) (k1_pay11 g cam pos) (k1_pay12 cam) (k1_pay13 g pos))
    (k1_pay17 x rw (k1_pay4 g) (k1_pay7 x cam pos) (k1_pay8 x cam pos) (k1_pay9 x cam pos) (k1_pay11 g cam pos) (k1_pay12 cam) (k1_pay13 g pos))
    (k1_pay18 x rw (k1_pay4 g) (k1_pay7 x cam pos) (k1_pay8 x cam pos) (k1_pay9 x cam pos) (k1_pay11 g cam pos) (k1_pay12 cam) (k1_pay13 g pos) sd)
    (constant S1024x30 .f32 0x00000000#32) sf

/-- Memref `M`'s buffer on core `c`, whole at `f`. -/
abbrev pt (c : Dev nD) {sp : Space} {s : Shape} {e : EltTy} (M : Memref sig .tc sp s e) (f : Buf (Elt F) (M.view.loc (c : Thread nD τ))) : sProp 𝕄 :=
  M.view.loc (c : Thread nD τ) ↦{fullShare} f

/-- A load of a whole memref reads what its view reads; -/
theorem readAt_zero {sp : Space} {s : Shape} {e : EltTy} (v : View sig .tc sp s e) {off : Fin s.rank → ℕ} (h0 : off = fun _ => 0) (inb) (f : v.ty.Contents (Elt F)) :
    (v.readAt (Elt F) (Rect.unit (s := s) off s.size inb).toLoadRect f : s.Idx → Elt F e) = v.read (Elt F) f := by
  subst h0
  funext y
  rw [View.readAt_apply]
  congr 1
  funext a
  exact Fin.ext ((Nat.zero_add _).trans (Nat.one_mul _))

/-- and what one store of a whole memref leaves reads as what was stored. -/
theorem read_store_zero {sp : Space} {s : Shape} {e : EltTy} (v : View sig .tc sp s e) {off : Fin s.rank → ℕ} (h0 : off = fun _ => 0) (inb) (f : v.ty.Contents (Elt F))
    (w : s.Idx → Elt F e) : v.read (Elt F) (v.writes (Elt F) f [⟨Rect.unit (s := s) off s.size inb, w⟩]) = w := by
  subst h0
  exact View.read_writes_whole v f w

/-- Owning a whole memref at `X` is owning its buffer at some contents that read as `X`. -/
theorem owns_isWhole (c : Dev nD) {sp : Space} {s : Shape} {e : EltTy} {M : Memref sig .tc sp s e} (h : M.IsWhole) (X : s.Idx → Elt F e) :
    ((owns (c : Thread nD τ) M fullShare X : sProp 𝕄) ⊢ iprop(∃ f, ⌜M.view.read (Elt F) f = X⌝ ∗ pt c M f))
      ∧ (iprop(∃ f, ⌜M.view.read (Elt F) f = X⌝ ∗ pt c M f) ⊢ (owns (c : Thread nD τ) M fullShare X : sProp 𝕄)) := by
  unfold owns pt
  rw [h.set_eq_univ]
  exact ⟨BI.Entails.refl _, BI.Entails.refl _⟩

section Body
variable (c : Dev nD) (i : grid1.Coords)
  (M1 : Memref sig .tc .vmem S1024x128 .f32) (h1 : M1.IsWhole) (M2 : Memref sig .tc .vmem S128x3 .f32) (h2 : M2.IsWhole)
  (M3 : Memref sig .tc .vmem S3x3 .f32) (h3 : M3.IsWhole) (M4 : Memref sig .tc .vmem S1x3 .f32) (h4 : M4.IsWhole)
  (M5 : Memref sig .tc .vmem S3x3 .f32) (h5 : M5.IsWhole) (M6 : Memref sig .tc .vmem S6x30 .f32) (h6 : M6.IsWhole)
  (M7 : Memref sig .tc .vmem S32x96 .f32) (h7 : M7.IsWhole) (M8 : Memref sig .tc .vmem S128x8x284 .f32) (h8 : M8.IsWhole)

/-- From its eight buffers held whole the body runs to its return, the seven inputs as they were and the output reading `enc` of what they hold. -/
theorem body_wp (f1 : Buf (Elt F) (M1.view.loc (c : Thread nD τ))) (f2 : Buf (Elt F) (M2.view.loc (c : Thread nD τ))) (f3 : Buf (Elt F) (M3.view.loc (c : Thread nD τ)))
    (f4 : Buf (Elt F) (M4.view.loc (c : Thread nD τ))) (f5 : Buf (Elt F) (M5.view.loc (c : Thread nD τ))) (f6 : Buf (Elt F) (M6.view.loc (c : Thread nD τ)))
    (f7 : Buf (Elt F) (M7.view.loc (c : Thread nD τ))) (f8 : Buf (Elt F) (M8.view.loc (c : Thread nD τ))) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8
        ∗ (∀ g8, ⌜M8.view.read (Elt F) g8 = enc (M1.view.read (Elt F) f1) (M2.view.read (Elt F) f2) (M3.view.read (Elt F) f3) (M4.view.read (Elt F) f4)
              (M5.view.read (Elt F) f5) (M6.view.read (Elt F) f6) (M7.view.read (Elt F) f7)⌝
            -∗ pt c M1 f1 ∗ pt c M2 f2 ∗ pt c M3 f3 ∗ pt c M4 f4 ∗ pt c M5 f5 ∗ pt c M6 f6 ∗ pt c M7 f7 ∗ pt c M8 g8 -∗ Q ⟨⟩))
      ⊢ wp frame (wpE (defs₀ (F := F)) Variants.none c none) E (cc1__encode_body i M1 h1 M2 h2 M3 h3 M4 h4 M5 h5 M6 h6 M7 h7 M8 h8) Q := by
  iintro ⟨H1, H2, H3, H4, H5, H6, H7, H8, Hk⟩
  rw [cc1__encode_body_eq_skeleton]; unfold cc1__encode_body_skel
  rw [k1_part1_eq_skeleton, k1_part2_eq_skeleton]; unfold k1_part1_skel k1_part2_skel
  sl_exec!
  sl_step
  iapply Hk $$ [] [H1 H2 H3 H4 H5 H6 H7 H8]
  swap
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · ipureintro
    unfold body_wp.sl.H8_1
    refine (read_store_zero _ (by decide) _ _ _).trans ?_
    unfold enc
    iterate 7 rw [readAt_zero _ (by decide)]
    unfold body_wp.sl.cst_16
    rfl

end Body

/-! ## The region, entered from any valuation of the program's buffers -/

abbrev adm : (p : Fin 1) → (pcfgs (F := F) p).Adm := fun p => (cfgs p).toPCfg_adm

variable (V : (c : Dev nD) → (b : Ref sig .tc) → Buf (Elt F) ((c : Thread nD τ).loc b))

/-- The block of window `w` at grid point `t`, read out of the window's array at the entry. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block the output's window holds after grid point `t`. -/
def oblk (c : Dev nD) (t : Fin cfg1.N) : FVec F S128x8x284 .f32 :=
  enc (iblk V c 0 t) (iblk V c 1 t) (iblk V c 2 t) (iblk V c 3 t) (iblk V c 4 t) (iblk V c 5 t) (iblk V c 6 t)

/-- The proof data: each array at the valuation; after the body an input's buffer as fetched and the output's at its block; nothing owed. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => oblk V c t
  Φ _ := BI.emp
  q _ := fullShare
  owed _ := 0

def pdats : (p : Fin 1) → (c : Dev nD) → Dat τ (Elt F) (HIx 1) ℕ UU ℕ (Pipeline.pin (pcfgs (F := F)) adm p) c
  | ⟨0, _⟩ => fun c => dat V c

/-- An input's buffer holds its block of the entry's array whenever the body runs: whether the pipeline fetches it at this point or has kept it. -/
theorem before_in (c : Dev nD) (t : Fin cfg1.N) :
    (∀ d, (dat V c).before 0 t d = iblk V c 0 t) ∧ (∀ d, (dat V c).before 1 t d = iblk V c 1 t) ∧ (∀ d, (dat V c).before 2 t d = iblk V c 2 t)
      ∧ (∀ d, (dat V c).before 3 t d = iblk V c 3 t) ∧ (∀ d, (dat V c).before 4 t d = iblk V c 4 t) ∧ (∀ d, (dat V c).before 5 t d = iblk V c 5 t)
      ∧ ∀ d, (dat V c).before 6 t d = iblk V c 6 t := by
  refine ⟨fun d => ?_, fun d => ?_, fun d => ?_, fun d => ?_, fun d => ?_, fun d => ?_, fun d => ?_⟩ <;>
    exact ((dat V c).before_in_eq_fetched _ rfl (fun _ => rfl) (fun _ _ _ => rfl) (fun _ => rfl) t d).trans rfl

/-- The body's obligation at every grid point. -/
theorem body_obligation (c : Dev nD) : BodyObligation (dat V c) (defs₀ (F := F)) 𝒱₀ none Set.univ := fun t => by
  obtain ⟨b0, b1, b2, b3, b4, b5, b6⟩ := before_in V c t
  rw [bigSep_W1, bigSep_W1]
  simp only [b0, b1, b2, b3, b4, b5, b6]
  rw [show (dat V c).Φ t.succ = (dat V c).Φ t.castSucc from rfl, show (dat V c).owesAt none t.succ = (dat V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (owns_isWhole c (hstage1_0 _) _).1 $$ H0; icases H0 with ⟨%f0, %e0, H0⟩
  ihave H1 := (owns_isWhole c (hstage1_1 _) _).1 $$ H1; icases H1 with ⟨%f1, %e1, H1⟩
  ihave H2 := (owns_isWhole c (hstage1_2 _) _).1 $$ H2; icases H2 with ⟨%f2, %e2, H2⟩
  ihave H3 := (owns_isWhole c (hstage1_3 _) _).1 $$ H3; icases H3 with ⟨%f3, %e3, H3⟩
  ihave H4 := (owns_isWhole c (hstage1_4 _) _).1 $$ H4; icases H4 with ⟨%f4, %e4, H4⟩
  ihave H5 := (owns_isWhole c (hstage1_5 _) _).1 $$ H5; icases H5 with ⟨%f5, %e5, H5⟩
  ihave H6 := (owns_isWhole c (hstage1_6 _) _).1 $$ H6; icases H6 with ⟨%f6, %e6, H6⟩
  ihave H7 := (owns_isWhole c (hstage1_7 _) _).1 $$ H7; icases H7 with ⟨%f7, -, H7⟩
  iapply (body_wp c (grid1.coords t) _ (hstage1_0 _) _ (hstage1_1 _) _ (hstage1_2 _) _ (hstage1_3 _) _ (hstage1_4 _) _ (hstage1_5 _) _ (hstage1_6 _) _ (hstage1_7 _)
    f0 f1 f2 f3 f4 f5 f6 f7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro %g %hg ⟨H0, H1, H2, H3, H4, H5, H6, H7⟩
  rw [e0, e1, e2, e3, e4, e5, e6] at hg
  isplitl [HΦ]; · iexact HΦ
  isplitl [Howes]; · iexact Howes
  isplitl [H0]; · iapply (owns_isWhole c (hstage1_0 _) _).2; iexists f0; isplitr; (· ipureintro; exact e0); iexact H0
  isplitl [H1]; · iapply (owns_isWhole c (hstage1_1 _) _).2; iexists f1; isplitr; (· ipureintro; exact e1); iexact H1
  isplitl [H2]; · iapply (owns_isWhole c (hstage1_2 _) _).2; iexists f2; isplitr; (· ipureintro; exact e2); iexact H2
  isplitl [H3]; · iapply (owns_isWhole c (hstage1_3 _) _).2; iexists f3; isplitr; (· ipureintro; exact e3); iexact H3
  isplitl [H4]; · iapply (owns_isWhole c (hstage1_4 _) _).2; iexists f4; isplitr; (· ipureintro; exact e4); iexact H4
  isplitl [H5]; · iapply (owns_isWhole c (hstage1_5 _) _).2; iexists f5; isplitr; (· ipureintro; exact e5); iexact H5
  isplitl [H6]; · iapply (owns_isWhole c (hstage1_6 _) _).2; iexists f6; isplitr; (· ipureintro; exact e6); iexact H6
  iapply (owns_isWhole c (hstage1_7 _) _).2; iexists g; isplitr; (· ipureintro; exact hg); iexact H7

/-- The output array the region leaves. -/
def out (c : Dev nD) : Buf (Elt F) ((c : Thread nD τ).loc main_v6) := (dat V c).arrAt 7 cfg1.N

/-- The valuation the region leaves: the entry's, but the output array. -/
def left (c : Dev nD) (b : Ref sig .tc) : Buf (Elt F) ((c : Thread nD τ).loc b) :=
  if h : b = main_v6 then h ▸ out V c else V c b

theorem left_out (c : Dev nD) : left V c main_v6 = out V c := dif_pos rfl
theorem left_of_ne (c : Dev nD) (b : Ref sig .tc) (h : b ≠ main_v6) : left V c b = V c b := dif_neg h

set_option backward.isDefEq.respectTransparency.types false in
/-- The region over the thread state "every buffer of the program at `V c`, and the core owing nothing": it leaves the state at `left V c`. -/
def reg : Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ ∃ W, owes (c : Thread nD τ) (0 : CellTallies nD τ sig (HIx 1)) W)
  post c := iprop(unscopedBufs c (left V c) ∗ ∃ W, owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 0 c).Φ 0 = (BI.emp : sProp 𝕄) from rfl]
    rw [scopedRest1_eq]
    iintro ⟨-, -, Hr⟩
    iexact Hr
  hout c := by
    rw [Pipeline.ownSems0_none, show (pdats V 0 c).Φ (Fin.last _) = (BI.emp : sProp 𝕄) from rfl]
    rw [scopedRest1_eq]
    iintro He
    isplitr; · iempintro
    isplitr; · iempintro
    iexact He
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (left V c) ((pdats V 0 c).arrAt · cfg1.N)
      (fun w => by
        by_cases h : w = 7
        · subst h; exact (left_out V c).symm
        · exact ((pdats V 0 c).arrAt_in w ((by decide : ∀ w : Fin 8, w ≠ 7 → (spec1 w).isOut = false) w h) _).trans
            (left_of_ne V c _ ((by decide : ∀ w : Fin 8, w ≠ 7 → Pipeline.arrRef spec1 w ≠ main_v6) w h)).symm)
      (fun b hb => left_of_ne V c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem reg_pre (c : Dev nD) : (reg V).pre c = iprop(unscopedBufs c (V c) ∗ ∃ W, owes (c : Thread nD τ) (0 : CellTallies nD τ sig (HIx 1)) W) := rfl
theorem reg_post (c : Dev nD) : (reg V).post c = iprop(unscopedBufs c (left V c) ∗ ∃ W, owes (c : Thread nD τ) (0 : CellTallies nD τ sig (HIx 1)) W) := rfl

end Cert.Proof.Encode

end
-- ==== Proof.Main.lean ====
/-
  The program's run: the host's operations, the SparseCore call and the encode, one after the other, and the contents every buffer has at the end.
-/
module

public import proofs.«01_k».proof.Proof.Encode
public import Idealize.ShloMosaic.Lib.Tactic
public import Idealize.ShloMosaic.Lib.Pipeline.RegionsLoop
public import Idealize.ShloMosaic.Lib.Pipeline.FrameBody

@[expose] public section

set_option maxRecDepth 16384

noncomputable section

namespace Cert.Proof.Main

open Cert.KernelIdeal Cert.KernelIdeal.Gen Cert.Proof.Gather Cert.Proof.Encode

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-- The host's operations before the SparseCore call: the tables of frequencies, the packed table and the row numbers; -/
abbrev ops0 : List (HloOp τ sig (Elt F)) :=
  [ StableHlo.nullary main_cst (fun i => FloatOps.ofBits .f32 (lit0 (S6x30.rowMajor i))),
    StableHlo.nullary main_cst_0 (fun i => FloatOps.ofBits .f32 (lit1 (S32x96.rowMajor i))),
    StableHlo.nullary main_cst_1 (constant S_ .f32 0x00000000#32),
    StableHlo.unary main_cst_1 main_v0 (broadcastInDim S65536x13 ![] bcast_S_S65536x13 : (⟨S_, .f32⟩ : BufTy).Contents (Elt F) → (⟨S65536x13, .f32⟩ : BufTy).Contents (Elt F)),
    StableHlo.nullary main_cst_2 (constant S_ .f32 0x00000000#32),
    StableHlo.unary main_cst_2 main_v1 (broadcastInDim S65536x80 ![] bcast_S_S65536x80 : (⟨S_, .f32⟩ : BufTy).Contents (Elt F) → (⟨S65536x80, .f32⟩ : BufTy).Contents (Elt F)),
    StableHlo.nary ![main_arg1, main_v0, main_arg2, main_v1] main_v2 (fun u => (concatenate S65536x128 1 [⟨S65536x3, (u 0 : (⟨S65536x3, .f32⟩ : BufTy).Contents (Elt F))⟩, ⟨S65536x13, (u 1 : (⟨S65536x13, .f32⟩ : BufTy).Contents (Elt F))⟩, ⟨S65536x32, (u 2 : (⟨S65536x32, .f32⟩ : BufTy).Contents (Elt F))⟩, ⟨S65536x80, (u 3 : (⟨S65536x80, .f32⟩ : BufTy).Contents (Elt F))⟩] concatenates_S65536x3_S65536x13_S65536x32_S65536x80_S65536x128_d1 : (⟨S65536x128, .f32⟩ : BufTy).Contents (Elt F))),
    StableHlo.reshape main_arg6 main_v3 (rfl : (.i32 : EltTy) = .i32) shapeCasts_S4096x8_S32768 ]
/-- and the one between the call and the encode: the camera matrix. -/
abbrev ops1 : List (HloOp τ sig (Elt F)) :=
  [ StableHlo.reshape main_arg3 main_v5 (rfl : (.f32 : EltTy) = .f32) shapeCasts_S1x3x3_S3x3 ]

theorem ops0_tc : (ops0 : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.nullary_bufs_sub ..,
    StableHlo.unary_bufs_sub .., StableHlo.nary_bufs_sub .., StableHlo.reshape_bufs_sub ..⟩
theorem ops1_tc : (ops1 : List (HloOp τ sig (Elt F))).Forall fun op => op.bufs ⊆ StableHlo.tcRefs τ sig := StableHlo.reshape_bufs_sub ..
theorem ops0_sub : ∀ op ∈ (ops0 : List (HloOp τ sig (Elt F))), op.bufs ⊆ Pipeline.ucRefs τ sig :=
  fun op h => Pipeline.sub_ucRefs op (List.forall_iff_forall_mem.mp ops0_tc op h)
theorem ops0_fresh : ∀ op ∈ (ops0 : List (HloOp τ sig (Elt F))), op.fresh = ∅ :=
  List.forall_iff_forall_mem.mp ⟨rfl, rfl, rfl, rfl, rfl, rfl, rfl, rfl⟩
theorem ops1_sub : ∀ op ∈ (ops1 : List (HloOp τ sig (Elt F))), op.bufs ⊆ Pipeline.ucRefs τ sig :=
  fun op h => Pipeline.sub_ucRefs op (List.forall_iff_forall_mem.mp ops1_tc op h)
theorem ops1_fresh : ∀ op ∈ (ops1 : List (HloOp τ sig (Elt F))), op.fresh = ∅ :=
  by
  intro op h
  obtain rfl := List.mem_singleton.mp h
  rfl

theorem main_eq (d : Dev nD) : main (F := F) d
    = (StableHlo.seq ops0 >>= fun _ => (K (F := F)).run d 0 >>= fun _ => StableHlo.seq ops1 >>= fun _ =>
        Prog.lift (.customCall (SparseCore.inner (Pipeline.entry 0)) ()) >>= fun _ => pure ⟨⟩) := by
  rfl

/-! ## The contents of the buffers after each part -/

/-- After the host's first operations; -/
def V0 (d : Dev nD) : Valuation τ sig (Elt F) := StableHlo.after ops0 fun b => m (d, b)
/-- the packed table, the row numbers and the output array the call is given; -/
abbrev tab (d : Dev nD) : Buf (Elt F) (tLoc d) := V0 m d (Proc.devRef .tc main_v2)
abbrev rows (d : Dev nD) : Buf (Elt F) (iLoc d) := V0 m d (Proc.devRef .tc main_v3)
abbrev junk (d : Dev nD) : Buf (Elt F) (oLoc d) := V0 m d (Proc.devRef .tc main_v4)
/-- after the call; -/
def V1 (d : Dev nD) : Valuation τ sig (Elt F) := Function.update (V0 m d) (Proc.devRef .tc main_v4) (gath (tab m d) (rows m d))
/-- after the host's last operation; -/
def V2 (d : Dev nD) : Valuation τ sig (Elt F) := StableHlo.after ops1 (V1 m d)
/-- and after the encode. -/
def V3 (d : Dev nD) : Valuation τ sig (Elt F) :=
  Function.update (V2 m d) (Proc.devRef .tc main_v6) (Encode.out (fun c b => V2 m c (Proc.devRef .tc b)) d)

theorem left_eq (d : Dev nD) (b : Ref sig .tc) : left (fun c b => V2 m c (Proc.devRef .tc b)) d b = V3 m d (Proc.devRef .tc b) := by
  by_cases h : b = main_v6
  · subst h; unfold V3; rw [Function.update_self]; exact left_out _ d
  · exact (left_of_ne _ d b h).trans (Function.update_of_ne (StableHlo.devRef_ne_of_ne h) ..).symm

/-! ## The launch element of the ghost state -/

/-- The pipeline library's half of the algebra. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

abbrev pcs : Fin 1 → Pipeline.Cfg sig Λ₀ := Pipeline.pin (pcfgs (F := F)) adm

theorem pcs_inj : Function.Injective (Pipeline.cellOf (nD := nD) (τ := τ) (pcs (F := F))) := cellOf_inj

def u₀ : UU := (initOf (K (F := F)).hsCells (K (F := F)).hsToks,
  (initOf (Pipeline.cells (nD := nD) (τ := τ) (pcs (F := F)) pcs_inj) (Pipeline.launchToks (pcs (F := F)) pcs_inj), 1))

theorem ownU_split (a : UH) (b : UP) : (ownU ((a, (b, 1)) : UU) : sProp 𝕄) ⊢ BI.own (EH a) ∗ BI.own (EP b) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What the encode's region takes of the launch's ghost state, on device `d`. -/
def G (d : Dev nD) : sProp 𝕄 := iprop(Pipeline.cellsGhost (pcs (F := F)) EP 0 d ∗ Pipeline.toksInit (pcs (F := F)) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (tab m) (rows m) (junk m)).x q thr) := by
  unfold u₀
  iintro Hu
  ihave H := (ownU_split _ _) $$ Hu
  icases H with ⟨HH, HP⟩
  imod (Pipeline.fund_ghost (pcs (F := F)) EP pcs_inj) $$ HP with ⟨Hc, Ht⟩
  imodintro
  isplitl [HH]; · iexact HH
  isplitl [Hc Ht]
  · unfold G
    rw [bigSep_sep', bigSep_congr (Φ := fun d : Dev nD => Pipeline.cellsGhost (pcs (F := F)) EP 0 d) fun d _ => (bigSep_univ_of_subsingleton (Φ := fun p : Fin 1 => Pipeline.cellsGhost (pcs (F := F)) EP p d) (0 : Fin 1)).symm,
      bigSep_congr (Φ := fun d : Dev nD => (Pipeline.toksInit (pcs (F := F)) EP 0 d : sProp 𝕄)) fun d _ => (bigSep_univ_of_subsingleton (Φ := fun p : Fin 1 => Pipeline.toksInit (pcs (F := F)) EP p d) (0 : Fin 1)).symm]
    isplitl [Hc] <;> iassumption
  rw [show (bigSep Finset.univ fun thr : Thread nD τ => bigSep Finset.univ fun q : Fin 1 => (P (F := F) (tab m) (rows m) (junk m)).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-! ## @main on the TensorCore -/

/-- The call's three buffers, held one by one. -/
theorem held_call (d : Dev nD) (W : Valuation τ sig (Elt F)) :
    (StableHlo.held (d.tc : Thread nD τ) {Proc.devRef .tc main_v2, Proc.devRef .tc main_v3, Proc.devRef .tc main_v4} W : sProp 𝕄)
      = iprop((tLoc d ↦{fullShare} W (Proc.devRef .tc main_v2)) ∗ (iLoc d ↦{fullShare} W (Proc.devRef .tc main_v3)) ∗ oLoc d ↦{fullShare} W (Proc.devRef .tc main_v4)) := by
  unfold StableHlo.held
  rw [SparseCore.bigSep_insert' (by decide), SparseCore.bigSep_insert' (by decide), bigSep_singleton]

theorem call_sub : ({Proc.devRef .tc main_v2, Proc.devRef .tc main_v3, Proc.devRef .tc main_v4} : Finset (DevRef τ sig)) ⊆ Pipeline.ucRefs τ sig := by decide

/-- At the call's start its cores are given the three buffers; -/
theorem st_eq (d : Dev nD) : (bigSep Finset.univ fun c : Fin ((K (F := F)).nCore 0) => (P (tab m) (rows m) (junk m)).st 0 d c)
    = (iprop((tLoc d ↦{fullShare} tab m d) ∗ (iLoc d ↦{fullShare} rows m d) ∗ oLoc d ↦{fullShare} junk m d) : sProp 𝕄) :=
  (cores_eq (tab m) (rows m) d (junk m d)).symm
/-- at its end they hand them back, the output gathered. -/
theorem dn_eq (d : Dev nD) : (bigSep Finset.univ fun c : Fin ((K (F := F)).nCore 0) => (P (tab m) (rows m) (junk m)).dn 0 d c)
    = (iprop((tLoc d ↦{fullShare} tab m d) ∗ (iLoc d ↦{fullShare} rows m d) ∗ oLoc d ↦{fullShare} gath (tab m d) (rows m d)) : sProp 𝕄) :=
  (cores_eq (tab m) (rows m) d (gath (tab m d) (rows m d))).symm

/-- Taking the call's buffers out of all, and putting them back with the output gathered. -/
theorem held_V0 (d : Dev nD) : (StableHlo.held (d.tc : Thread nD τ) (Pipeline.ucRefs τ sig) (StableHlo.after ops0 fun b => m (d, b)) : sProp 𝕄)
    = iprop(((tLoc d ↦{fullShare} tab m d) ∗ (iLoc d ↦{fullShare} rows m d) ∗ oLoc d ↦{fullShare} junk m d)
        ∗ StableHlo.held (d.tc : Thread nD τ) (Pipeline.ucRefs τ sig \ {Proc.devRef .tc main_v2, Proc.devRef .tc main_v3, Proc.devRef .tc main_v4}) (V0 m d)) := by
  rw [show (StableHlo.after ops0 fun b => m (d, b)) = V0 m d from rfl, StableHlo.held_sub_split _ call_sub, held_call]
theorem held_V1 (d : Dev nD) : (StableHlo.held (d.tc : Thread nD τ) (Pipeline.ucRefs τ sig) (V1 m d) : sProp 𝕄)
    = iprop(((tLoc d ↦{fullShare} tab m d) ∗ (iLoc d ↦{fullShare} rows m d) ∗ oLoc d ↦{fullShare} gath (tab m d) (rows m d))
        ∗ StableHlo.held (d.tc : Thread nD τ) (Pipeline.ucRefs τ sig \ {Proc.devRef .tc main_v2, Proc.devRef .tc main_v3, Proc.devRef .tc main_v4}) (V0 m d)) := by
  rw [StableHlo.held_sub_split _ call_sub, held_call,
    StableHlo.held_congr _ (S := Pipeline.ucRefs τ sig \ {Proc.devRef .tc main_v2, Proc.devRef .tc main_v3, Proc.devRef .tc main_v4}) (V := V1 m d) (V' := V0 m d) fun b hb =>
      Function.update_of_ne (fun e => (Finset.mem_sdiff.mp hb).2 (by rw [e]; decide)) ..]
  unfold V1
  rw [Function.update_self, Function.update_of_ne (StableHlo.devRef_ne_of_ne (by decide)), Function.update_of_ne (StableHlo.devRef_ne_of_ne (by decide))]

/-- With one call every recorded pair is below the bound of the state after it. -/
theorem below_end (thr : Thread nD τ) (W : Waits sig (HIx 1)) : (K (F := F)).WBelow thr W 8 := by
  rintro ⟨x, i⟩ _
  match i with
  | none => exact Nat.zero_le _
  | some q => exact ((K (F := F)).lev_some_le _ q).trans (by have := q.isLt; omega)

/-- A separating conjunction's first part may be exchanged for an equivalent. -/
theorem split_off {A B R : sProp 𝕄} (h₁ : A ⊢ B) (h₂ : B ⊢ A) : ∃ R' : sProp 𝕄, (iprop(A ∗ R) ⊢ iprop(B ∗ R')) ∧ (iprop(B ∗ R') ⊢ iprop(A ∗ R)) :=
  ⟨R, sep_mono h₁ .rfl, sep_mono h₂ .rfl⟩

/-- The state after the call: nothing is owed, whatever pairs are recorded, and the rest of the state. -/
theorem tcSt_owes (d : Dev nD) : ∃ R : sProp 𝕄,
    ((K (F := F)).tcSt EH d 1 ⊢ iprop((∃ W, owes (d.tc : Thread nD τ) (0 : CellTallies nD τ sig (HIx 1)) W) ∗ R))
      ∧ (iprop((∃ W, owes (d.tc : Thread nD τ) (0 : CellTallies nD τ sig (HIx 1)) W) ∗ R) ⊢ (K (F := F)).tcSt EH d 1) := by
  unfold SparseCore.Cfg.tcSt
  rw [(K (F := F)).Otc_end d le_rfl]
  refine split_off ?_ ?_
  · iintro ⟨%W, -, HO⟩; iexists W; iexact HO
  · iintro ⟨%W, HO⟩; iexists W; isplitr; · ipureintro; exact below_end _ W
    iexact HO

abbrev FIN (d : Dev nD) : sProp 𝕄 := StableHlo.held (d.tc : Thread nD τ) (Pipeline.ucRefs τ sig) (V3 m d)

theorem pre_eq (d : Dev nD) : (StableHlo.held (d.tc : Thread nD τ) (Pipeline.ucRefs τ sig) (V2 m d) : sProp 𝕄)
    = unscopedBufs d fun b => V2 m d (Proc.devRef .tc b) := (Pipeline.unscopedBufs_held d (V2 m d)).symm
theorem post_eq (d : Dev nD) : (unscopedBufs d (left (fun c b => V2 m c (Proc.devRef .tc b)) d) : sProp 𝕄) = FIN m d := by
  rw [show left (fun c b => V2 m c (Proc.devRef .tc b)) d = fun b => V3 m d (Proc.devRef .tc b) from funext (left_eq m d)]
  exact Pipeline.unscopedBufs_held d (V3 m d)

/-- The encode's call as the pipeline library's signature has it, and that the program's is its image. -/
def call (F : FTy → Type) [FloatOps F] : Prog (TpuEff nD τ sig (Elt F) (ΛP (F := F)) .tc) PUnit := .op (.customCall (Pipeline.entry 0) ()) fun _ => .ret ⟨⟩
theorem lift_call : SparseCore.liftProg (call F) = (Prog.lift (.customCall (SparseCore.inner (Pipeline.entry 0)) ()) :
    Prog (TpuEff nD τ sig (Elt F) (SparseCore.Sig (ΛP (F := F)) 1) .tc) PUnit) := rfl

/-- The encode's call, under the whole program's table of bodies. -/
theorem region_wp (κ : GSem nD τ sig → ℕ) (d : Dev nD) (Φ : PUnit → sProp 𝕄) :
    iprop((K (F := F)).ctx EH (P (tab m) (rows m) (junk m)) κ ∗ boundary (d.tc : Thread nD τ)
        ∗ StableHlo.held (d.tc : Thread nD τ) (Pipeline.ucRefs τ sig) (V2 m d)
        ∗ (∃ W, owes (d.tc : Thread nD τ) (0 : CellTallies nD τ sig (HIx 1)) W)
        ∗ Pipeline.cellsGhost (pcs (F := F)) EP 0 d ∗ Pipeline.toksInit (pcs (F := F)) EP 0 d
        ∗ ((boundary (d.tc : Thread nD τ) ∗ FIN m d ∗ ∃ W, owes (d.tc : Thread nD τ) (0 : CellTallies nD τ sig (HIx 1)) W) -∗ Φ ⟨⟩))
      ⊢ wp frame (wpE ((K (F := F)).defs (D (F := F))) 𝒱 (SparseCore.T d) none) Set.univ
          (Prog.lift (.customCall (SparseCore.inner (Pipeline.entry 0)) ())) Φ := by
  rw [← lift_call]
  refine BI.Entails.trans ?_ ((K (F := F)).wp_liftProg (D (F := F)) 𝒱 (SparseCore.T d) Set.univ none (call F) Φ)
  unfold call
  show (_ : sProp 𝕄) ⊢ _
  iintro ⟨#Hctx, Hb, Hh, HO, Hcg, Htk, Hk⟩
  iapply (Pipeline.RegionSeg.wp (pcfgs (F := F)) adm (pdats fun c b => V2 m c (Proc.devRef .tc b)) none pcs_inj EP defs₀ 𝒱₀ (K (F := F)).L (K (F := F)).lev
    (reg fun c b => V2 m c (Proc.devRef .tc b)) d none (fun _ h => nomatch h) (fun _ => .ret ⟨⟩) Φ)
  isplitl [Hk]
  · rw [reg_post, post_eq, wp_ret]
    iintro ⟨Hb, Hh, HO⟩
    imodintro
    iapply Hk
    isplitl [Hb]; · iexact Hb
    isplitl [Hh] <;> iassumption
  isplitl [Hb]; · iexact Hb
  isplitl [Hh HO]
  · rw [reg_pre, ← pre_eq]
    isplitl [Hh] <;> iassumption
  isplitr; · iapply (SparseCore.Cfg.ctx_levAts κ); iexact Hctx
  isplitl [Hcg] <;> iassumption

/-- @main on device `d`'s TensorCore: from the launch's buffers to their contents at the end. -/
theorem hmain (κ : GSem nD τ sig → ℕ) (d : Dev nD) :
    iprop((K (F := F)).ctx EH (P (tab m) (rows m) (junk m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [main_eq, Pipeline.unscopedBufs_held d fun b => m (d, b)]
  iintro ⟨#Hctx, Hst, ⟨Hb, Hh, Hts, -⟩, Hcg, Htk⟩
  iapply (StableHlo.wp_seq 𝒱 none Set.univ d (Pipeline.ucRefs τ sig) _ ops0 ops0_sub ops0_fresh _) $$ [Hb Hh]
  · isplitl [Hb]; · iexact Hb
    iexact Hh
  iintro ⟨Hb, Hh⟩
  ihave Hh := (Entails.of_eq (held_V0 m d)) $$ Hh
  icases Hh with ⟨Hcall, Hrest⟩
  rw [wp_bind]
  iapply ((K (F := F)).wp_run (D (F := F)) 𝒱 (EH := EH) (P := P (tab m) (rows m) (junk m)) κ d 0)
  isplitr; · iexact Hctx
  isplitl [Hst]; · iexact Hst
  isplitl [Hcall]; · rw [st_eq]; iexact Hcall
  iintro ⟨Hst, Hdn⟩
  ihave Hdn := (Entails.of_eq (dn_eq m d)) $$ Hdn
  ihave Hh := (Entails.of_eq (held_V1 m d).symm) $$ [Hdn Hrest]
  · isplitl [Hdn] <;> iassumption
  iapply (StableHlo.wp_seq 𝒱 none Set.univ d (Pipeline.ucRefs τ sig) _ ops1 ops1_sub ops1_fresh _) $$ [Hb Hh]
  · isplitl [Hb]; · iexact Hb
    iexact Hh
  iintro ⟨Hb, Hh⟩
  rw [wp_bind]
  obtain ⟨R, hR1, hR2⟩ := tcSt_owes (F := F) d
  ihave Hst := (show (K (F := F)).tcSt EH d ((0 : Fin 1).val + 1) ⊢ _ from hR1) $$ Hst
  icases Hst with ⟨HO, Hst⟩
  iapply (region_wp m κ d _)
  isplitr; · iexact Hctx
  isplitl [Hb]; · iexact Hb
  isplitl [Hh]; · iexact Hh
  isplitl [HO]; · iexact HO
  isplitl [Hcg]; · iexact Hcg
  isplitl [Htk]; · iexact Htk
  iintro ⟨Hb, Hh, HO⟩
  rw [wp_pure]
  imodintro
  isplitl [Hst HO]; · iapply hR2; isplitl [HO] <;> iassumption
  isplitl [Hh]; · iexact Hh
  isplitl [Hb] <;> iassumption

/-! ## The program's run -/

/-- Every buffer of the program at its final contents. -/
def fq (d : Dev nD) (s' : Phys nD τ sig (Elt F)) : Prop := ∀ b ∈ Pipeline.ucRefs τ sig, s'.mem.mem (d, b) = V3 m d b

theorem hfin (d : Dev nD) (s' : Phys nD τ sig (Elt F)) : iprop(FIN m d ∗ SI s') ⊢ (⌜fq m d s'⌝ : sProp 𝕄) := by
  have h (b : DevRef τ sig) (hb : b ∈ Pipeline.ucRefs τ sig) : iprop(FIN m d ∗ SI s') ⊢ (⌜s'.mem.mem (d, b) = V3 m d b⌝ : sProp 𝕄) := by
    iintro ⟨Hh, HSI⟩
    ihave H := (show FIN m d ⊢ ((d, b) ↦{fullShare} V3 m d b : sProp 𝕄) from
      bigSep_elim (Φ := fun b => ((d, b) ↦{fullShare} V3 m d b : sProp 𝕄)) hb) $$ Hh
    ihave H := (SI_pointsTo_agree (st := s') (ℓ := (d, b)) (I := Finset.univ) (q := fullShare) (f := V3 m d b)) $$ [HSI H]
    · isplitl [HSI] <;> iassumption
    icases H with %h
    ipureintro; exact funext fun i => h i (Finset.mem_univ i)
  exact fun x hx b hb => h b hb x hx

/-- What a run ends at: every buffer of the program at its final contents, every semaphore at zero. -/
def QC : PUnit × MemSt nD τ sig (Elt F) → Prop := fun r => (∀ d : Dev nD, ∀ b ∈ Pipeline.ucRefs τ sig, r.2.mem (d, b) = V3 m d b) ∧ r.2.sem = fun _ => 0

theorem run_main [∀ e, Nonempty (Elt F e)] (hpre : ∀ d, InRange (rows m d)) :
    θ_run (defs (F := F)) (threads (F := F)) ⟨m, fun _ => 0, ρ⟩ (QC m) :=
  SparseCore.Cfg.θ_run_sc_quiescent (K := K (F := F)) (D := D (F := F)) (𝒱 := 𝒱) (EH := EH) (P := P (tab m) (rows m) (junk m)) (A := ∅) facts v₀
    (fun q hq => match q with | 0 => nomatch hq)
    (fun q _ => match q with | 0 => tileObl (tab m) (rows m) (junk m) hpre)
    (fun q _ => match q with | 0 => SparseCore.Cfg.VecSplit.of_plain (vecSplit (tab m) (rows m) (junk m)))
    m ρ main (fun d => G d) (FIN m) (u₀ (F := F)) (sep_elim_left.trans (hu₀ m)) (hmain m ρ) (fq m) (hfin m) (QC m) (fun _ h hz => ⟨h, hz⟩)

end Cert.Proof.Main

end
-- ==== Proof.Spec.lean ====
module

public import Idealize.ShloMosaic.Lib.Pointwise

@[expose] public section

noncomputable section

/-! One row of the result, over the extended reals: the features of one neighbour, their encoding, and the encoding of its six distances from the query. -/

namespace Cert.Proof.Spec

open Idealize.ShloMosaic

/-- A point in the camera's frame. -/
def turn (cam : Fin 3 → Fin 3 → EReal) (pos x : Fin 3 → EReal) (k : Fin 3) : EReal := ∑ j, cam j k * (x j - pos j)
/-- The perspective distances of a point and a query, both in the camera's frame. -/
def pers (s u : Fin 3 → EReal) (k : Fin 3) : EReal :=
  if k.val < 1 then Ideal.div (s 0) (s 2) * s 2 - Ideal.div (u 0) (u 2) * u 2
  else if k.val - 1 < 1 then Ideal.div (s 1) (s 2) * s 2 - Ideal.div (u 1) (u 2) * u 2
  else s 2 - u 2
/-- The voxel's diagonal. -/
def deno : EReal := Ideal.ofBits .f32 0x3BE305FC#32
/-- The six distances: of the coordinates, turned by `rw`, and of the perspective coordinates. -/
def dist (cam : Fin 3 → Fin 3 → EReal) (pos : Fin 3 → EReal) (rw : Fin 3 → Fin 3 → EReal) (y x : Fin 3 → EReal) (k : Fin 6) : EReal :=
  if h : k.val < 3 then ∑ j, Ideal.div (y j - x j) deno * rw j ⟨k, h⟩
  else Ideal.div (pers (turn cam pos y) (turn cam pos x) ⟨k - 3, by omega⟩) deno
/-- The frequencies. -/
def band (e : ℕ) : EReal := ((2 ^ e : ℝ) : EReal)
/-- The row: features, sines and cosines of the features, sines and cosines of the distances. -/
def row (f : Fin 32 → EReal) (d : Fin 6 → EReal) (k : Fin 284) : EReal :=
  if h : k.val < 32 then f ⟨k, h⟩
  else if h : k.val < 128 then Ideal.sin (f ⟨(k - 32) / 3, by omega⟩ * band ((k - 32) % 3))
  else if h : k.val < 224 then Ideal.cos (f ⟨(k - 128) / 3, by omega⟩ * band ((k - 128) % 3))
  else if h : k.val < 254 then Ideal.sin (d ⟨(k - 224) / 5, by omega⟩ * band ((k - 224) % 5))
  else Ideal.cos (d ⟨(k - 254) / 5, by omega⟩ * band ((k - 254) % 5))

/-- The word of 2. -/
theorem ofBits_two : Ideal.ofBits .f32 0x40000000#32 = ((2 : ℝ) : EReal) := by
  simp [Ideal.ofBits, Ideal.ieee, -EReal.coe_mul]; norm_num
/-- The words of the frequencies. -/
theorem ofBits_band (e : Fin 5) : Ideal.ofBits .f32 (0x3F800000#32 + BitVec.ofNat 32 e.val * 0x800000#32) = band e.val := by
  unfold band
  fin_cases e <;> simp [Ideal.ofBits, Ideal.ieee] <;> rw [← EReal.coe_mul] <;> norm_num
  all_goals rw [← EReal.coe_pow]; norm_num

/-- The frequencies as powers of 2. -/
theorem pow_band (e : ℕ) (h : e < 5) : Ideal.pow (Ideal.ofBits FTy.f32 1073741824#32) (FloatOps.sitofp (F := Ideal) FTy.f32 (BitVec.ofNat 32 e)) = band e := by
  rw [show (1073741824#32) = 0x40000000#32 from rfl, ofBits_two]
  show ((Real.rpow 2 ((BitVec.ofNat 32 e).toInt : ℝ) : ℝ) : EReal) = _
  have : (BitVec.ofNat 32 e).toInt = (e : ℤ) := by
    rw [BitVec.toInt_eq_toNat_of_lt] <;> rw [BitVec.toNat_ofNat, Nat.mod_eq_of_lt (by omega)]; omega
  rw [this, band]
  congr 1
  simp

/-- A value cut into three parts, each times a frequency, added again: on a finite value nothing changes, at an infinity the sum is `⊥`. -/
theorem cut (x : EReal) (e : ℕ) : (x * band e + (x - x) * band e) + (x - x - (x - x)) * band e = x * band e ∨
    (((x * band e + (x - x) * band e) + (x - x - (x - x)) * band e = ⊥) ∧ (x * band e = ⊤ ∨ x * band e = ⊥)) := by
  have hb : (0 : EReal) < band e := by unfold band; exact_mod_cast (by positivity : (0:ℝ) < 2 ^ e)
  induction x with
  | bot => right; simp [EReal.bot_mul_of_pos hb]
  | top => right; simp [EReal.top_mul_of_pos hb, EReal.bot_mul_of_pos hb]
  | coe r =>
    left
    rw [show ((r : EReal) - r) = 0 from by rw [← EReal.coe_sub, sub_self, EReal.coe_zero]]
    simp
theorem sin_cut (x : EReal) (e : ℕ) : Ideal.sin ((x * band e + (x - x) * band e) + (x - x - (x - x)) * band e) = Ideal.sin (x * band e) := by
  rcases cut x e with h | ⟨h, h' | h'⟩ <;> rw [h] <;> rw [h'] <;> rfl
theorem cos_cut (x : EReal) (e : ℕ) : Ideal.cos ((x * band e + (x - x) * band e) + (x - x - (x - x)) * band e) = Ideal.cos (x * band e) := by
  rcases cut x e with h | ⟨h, h' | h'⟩ <;> rw [h] <;> rw [h'] <;> rfl

end Cert.Proof.Spec

end
-- ==== Proof.EncValue.lean ====
module

public import proofs.«01_k».proof.Proof.Encode
public import proofs.«01_k».proof.Proof.Spec

@[expose] public section

set_option maxRecDepth 16384

noncomputable section

/-! The block the encode stores, over the extended reals, element by element. -/

namespace Cert.Proof.EncValue

open Cert.KernelIdeal Cert.KernelIdeal.Gen Cert.Proof.Encode Idealize.ShloMosaic

variable (g : Vec Ideal S1024x128 .f32) (x : Vec Ideal S128x3 .f32) (cam : Vec Ideal S3x3 .f32) (pos : Vec Ideal S1x3 .f32) (rw' : Vec Ideal S3x3 .f32)
    (sd : Vec Ideal S6x30 .f32) (sf : Vec Ideal S32x96 .f32)

/-- The gathered rows' coordinates and features. -/
theorem pay4_apply (n : Fin 1024) (k : Fin 3) : k1_pay4 (F := Ideal) g (ix2 n k) = g (ix2 n ⟨k, by omega⟩) := by
  pointwise [k1_pay4, k1_pay2]
theorem pay5_apply (n : Fin 1024) (k : Fin 32) : k1_pay5 (F := Ideal) g (ix2 n k) = g (ix2 n ⟨16 + k, by omega⟩) := by
  pointwise [k1_pay5, k1_pay2]
/-- The queries in the camera's frame. -/
theorem pay6_apply (a : Fin 128) (k : Fin 3) : k1_pay6 (F := Ideal) x cam pos (ix2 a k)
    = Spec.turn (fun j k => cam (ix2 j k)) (fun j => pos (ix2 0 j)) (fun j => x (ix2 a j)) k := by
  pointwise [k1_pay6, k1_pay3, Spec.turn]
  rw [Fin.sum_univ_three]
  simp only [mul_comm]
/-- The six distances of a row. -/
theorem pay14_apply (n : Fin 1024) (k : Fin 6) :
    k1_pay14 (F := Ideal) x rw' (k1_pay4 g) (k1_pay7 x cam pos) (k1_pay8 x cam pos) (k1_pay9 x cam pos) (k1_pay11 g cam pos) (k1_pay12 cam) (k1_pay13 g pos) (ix2 n k)
    = Spec.dist (fun j k => cam (ix2 j k)) (fun j => pos (ix2 0 j)) (fun j k => rw' (ix2 j k)) (fun j => g (ix2 n ⟨j, by omega⟩)) (fun j => x (ix2 ⟨n / 8, by omega⟩ j)) k := by
  have hs (k : Fin 3) : Spec.turn (fun j k => cam (ix2 j k)) (fun j => pos (ix2 0 j)) (fun j => g (ix2 n ⟨j, by omega⟩)) k
      = (k1_pay11 (F := Ideal) g cam pos (ix2 n k) + k1_pay13 (F := Ideal) g pos (ix2 n k) * k1_pay12 (F := Ideal) cam (ix2 0 k)) := by
    pointwise [k1_pay11, k1_pay12, k1_pay13, k1_pay10, k1_pay4, k1_pay3, k1_pay2, Spec.turn]
    rw [Fin.sum_univ_three]
    simp only [mul_comm]
    rfl
  pointwise [k1_pay14, k1_pay7, k1_pay8, k1_pay9]
  simp only [pay6_apply, pay4_apply]
  unfold Spec.dist Spec.pers
  simp only [hs, Spec.deno, Nat.sub_sub]
  fin_cases k <;> rfl

/-- A table with one nonzero word in each column picks one term of a product's sum. -/
theorem sel {n m w : ℕ} (u : Fin n → EReal) (c : Fin m) (sd : Fin n → EReal) (b : EReal) (hw : c.val / w < n)
    (h : ∀ k : Fin n, sd k = if c.val / w = k.val then b else 0) : ∑ k, u k * sd k = u ⟨c / w, hw⟩ * b := by
  rw [Finset.sum_eq_single ⟨c / w, hw⟩]
  · rw [h]; simp
  · intro k _ hk
    rw [h, if_neg (fun e => hk (Fin.ext e.symm)), mul_zero]
  · simp

/-- The three products of a value cut in three parts. -/
theorem sel3 {n m w : ℕ} (u : Fin n → EReal) (c : Fin m) (sd : Fin n → EReal) (b : EReal) (hw : c.val / w < n)
    (h : ∀ k : Fin n, sd k = if c.val / w = k.val then b else 0) :
    ∑ k, u k * sd k + ∑ k, (u k - u k) * sd k + ∑ k, (u k - u k - (u k - u k)) * sd k
    = u ⟨c / w, hw⟩ * b + (u ⟨c / w, hw⟩ - u ⟨c / w, hw⟩) * b + (u ⟨c / w, hw⟩ - u ⟨c / w, hw⟩ - (u ⟨c / w, hw⟩ - u ⟨c / w, hw⟩)) * b := by
  rw [sel u c sd b hw h, sel (fun k => u k - u k) c sd b hw h, sel (fun k => u k - u k - (u k - u k)) c sd b hw h]

/-- The block at a row and column. -/
theorem enc_apply (hd : ∀ (k : Fin 6) (c : Fin 30), sd (ix2 k c) = if c.val / 5 = k.val then Spec.band (c % 5) else 0)
    (hf : ∀ (k : Fin 32) (c : Fin 96), sf (ix2 k c) = if c.val / 3 = k.val then Spec.band (c % 3) else 0) (a : Fin 128) (b : Fin 8) (k : Fin 284) :
    enc (F := Ideal) g x cam pos rw' sd sf (ix3 a b k)
    = Spec.row (fun j => g (ix2 ⟨a * 8 + b, by omega⟩ ⟨16 + j, by omega⟩))
        (Spec.dist (fun j k => cam (ix2 j k)) (fun j => pos (ix2 0 j)) (fun j k => rw' (ix2 j k)) (fun j => g (ix2 ⟨a * 8 + b, by omega⟩ ⟨j, by omega⟩)) (fun j => x (ix2 a j))) k := by
  have hD (k : Fin 6) := pay14_apply g x cam pos rw' ⟨a * 8 + b, by omega⟩ k
  have ha : (⟨(a * 8 + b) / 8, by omega⟩ : Fin 128) = a := Fin.ext (by show (a.val * 8 + b) / 8 = a; omega)
  simp only [ha] at hD
  unfold enc
  pointwise [k1_pay1, k1_pay18, k1_pay16, k1_pay17, k1_pay15]
  simp only [hD, pay5_apply]
  generalize Spec.dist _ _ _ _ _ = D
  unfold Spec.row
  by_cases h1 : k.val < 32
  · simp only [h1, ↓reduceDIte]
  by_cases h2 : k.val < 128
  · simp only [h1, h2, show k.val - 32 < 96 by omega, ↓reduceDIte]
    rw [sel3 (fun j => g (ix2 ⟨a * 8 + b, by omega⟩ ⟨16 + j, by omega⟩)) ⟨k - 32, by omega⟩ (fun j => sf (ix2 j ⟨k - 32, by omega⟩)) (Spec.band ((k - 32) % 3)) (w := 3)
      (by show (k.val - 32) / 3 < 32; omega) (fun j => hf j _), Spec.sin_cut]
  by_cases h3 : k.val < 224
  · simp only [h1, h2, h3, show ¬ k.val - 32 < 96 by omega, show k.val - 32 - 96 < 96 by omega, ↓reduceDIte]
    have e : k.val - 32 - 96 = k.val - 128 := by omega
    simp only [e]
    rw [sel3 (fun j => g (ix2 ⟨a * 8 + b, by omega⟩ ⟨16 + j, by omega⟩)) ⟨k - 128, by omega⟩ (fun j => sf (ix2 j ⟨k - 128, by omega⟩)) (Spec.band ((k - 128) % 3)) (w := 3)
      (by show (k.val - 128) / 3 < 32; omega) (fun j => hf j _), Spec.cos_cut]
  by_cases h4 : k.val < 254
  · simp only [h1, h2, h3, h4, show ¬ k.val - 32 < 96 by omega, show ¬ k.val - 32 - 96 < 96 by omega, show k.val - 32 - 96 - 96 < 30 by omega, ↓reduceDIte]
    have e : k.val - 32 - 96 - 96 = k.val - 224 := by omega
    simp only [e]
    rw [sel3 D ⟨k - 224, by omega⟩ (fun j => sd (ix2 j ⟨k - 224, by omega⟩)) (Spec.band ((k - 224) % 5)) (w := 5)
      (by show (k.val - 224) / 5 < 6; omega) (fun j => hd j _), Spec.sin_cut]
  · simp only [h1, h2, h3, h4, show ¬ k.val - 32 < 96 by omega, show ¬ k.val - 32 - 96 < 96 by omega, show ¬ k.val - 32 - 96 - 96 < 30 by omega, ↓reduceDIte]
    have e : k.val - 32 - 96 - 96 - 30 = k.val - 254 := by omega
    simp only [e]
    rw [sel3 D ⟨k - 254, by omega⟩ (fun j => sd (ix2 j ⟨k - 254, by omega⟩)) (Spec.band ((k - 254) % 5)) (w := 5)
      (by show (k.val - 254) / 5 < 6; omega) (fun j => hd j _), Spec.cos_cut]

end Cert.Proof.EncValue

end
-- ==== Proof.Table.lean ====
module

public import proofs.«01_k».proof.Proof.Main
public import proofs.«01_k».proof.Proof.EncValue
public import Idealize.ShloMosaic.Lib.Pointwise

@[expose] public section

set_option maxRecDepth 16384

noncomputable section

/-! The encode's two tables of frequencies, over the extended reals. -/

namespace Cert.Proof.Table

open Cert.KernelIdeal Cert.KernelIdeal.Gen Idealize.ShloMosaic

/-- The word of frequency `e`. -/
abbrev word (e : ℕ) : BitVec 32 := 0x3F800000#32 + BitVec.ofNat 32 e * 0x800000#32

theorem lit0_eq : ∀ i : Fin 180, lit0 i = if (i.val % 30) / 5 = i.val / 30 then word (i.val % 30 % 5) else 0#32 := by decide +kernel
theorem lit1_eq : ∀ i : Fin 3072, lit1 i = if (i.val % 96) / 3 = i.val / 96 then word (i.val % 96 % 3) else 0#32 := by decide +kernel

/-- The distances' table; -/
theorem sd_apply (k : Fin 6) (c : Fin 30) : (FloatOps.ofBits .f32 (lit0 (S6x30.rowMajor (ix2 k c))) : Ideal .f32) = if c.val / 5 = k.val then Spec.band (c % 5) else 0 := by
  have hr : (S6x30.rowMajor (ix2 k c)).val = k.val * 30 + c.val := Shape.rowMajor_val_two _
  have e : lit0 (S6x30.rowMajor (ix2 k c)) = _ := lit0_eq (S6x30.rowMajor (ix2 k c))
  refine (congrArg (FloatOps.ofBits (F := Ideal) .f32) e).trans ?_
  rw [hr, show (k.val * 30 + c.val) % 30 = c.val by omega, show (k.val * 30 + c.val) / 30 = k.val by omega]
  split
  · exact Spec.ofBits_band ⟨c % 5, by omega⟩
  · exact Ideal.ofBits_zero_f32
/-- the features'. -/
theorem sf_apply (k : Fin 32) (c : Fin 96) : (FloatOps.ofBits .f32 (lit1 (S32x96.rowMajor (ix2 k c))) : Ideal .f32) = if c.val / 3 = k.val then Spec.band (c % 3) else 0 := by
  have hr : (S32x96.rowMajor (ix2 k c)).val = k.val * 96 + c.val := Shape.rowMajor_val_two _
  have e : lit1 (S32x96.rowMajor (ix2 k c)) = _ := lit1_eq (S32x96.rowMajor (ix2 k c))
  refine (congrArg (FloatOps.ofBits (F := Ideal) .f32) e).trans ?_
  rw [hr, show (k.val * 96 + c.val) % 96 = c.val by omega, show (k.val * 96 + c.val) / 96 = k.val by omega]
  split
  · exact Spec.ofBits_band ⟨c % 3, by omega⟩
  · exact Ideal.ofBits_zero_f32

end Cert.Proof.Table

end
-- ==== Proof.Value.lean ====
module

public import proofs.«01_k».proof.Proof.Table
public import Idealize.ShloMosaic.Lib.Pipeline.ValueKit.Geometry

@[expose] public section

set_option maxRecDepth 16384

noncomputable section

/-! What the kernel leaves in its result, over the extended reals, element by element. -/

namespace Cert.Proof.Value

open Cert.KernelIdeal Cert.KernelIdeal.Gen Idealize.ShloMosaic Idealize.ShloMosaic.TcCoe Cert.Proof.Main Cert.Proof.Gather
open Idealize.ShloMosaic.Pipeline (Dat Cfg Window)

section Args

variable {F : FTy → Type} [FloatOps F] (m : (ℓ : Loc nD τ sig) → Buf (Elt F) ℓ) (d : Dev nD)

/-- What the host's operations write. -/
abbrev written : List (Ref sig .tc) := [main_cst, main_cst_0, main_cst_1, main_v0, main_cst_2, main_v1, main_v2, main_v3, main_v5]

/-- A buffer that neither the host's operations nor the call write is as at the launch when the encode starts. -/
theorem V2_of (b : Ref sig .tc) (hb : b ∉ main_v4 :: written) : V2 m d (Proc.devRef .tc b) = m (d, Proc.devRef .tc b) := by
  simp only [written, List.mem_cons, List.not_mem_nil, or_false, not_or] at hb
  obtain ⟨h4, hc, hc0, hc1, h0, hc2, h1, h2, h3, h5⟩ := hb
  unfold V2
  rw [StableHlo.after_of_forall_not_mem _ _ (by
    intro op h
    obtain rfl := List.mem_singleton.1 h
    exact Finset.notMem_singleton.2 (StableHlo.devRef_ne_of_ne h5))]
  unfold V1
  rw [Function.update_of_ne (StableHlo.devRef_ne_of_ne h4)]
  unfold V0
  rw [StableHlo.after_of_forall_not_mem _ _ (by
    intro op h
    simp only [ops0, List.mem_cons, List.not_mem_nil, or_false] at h
    rcases h with rfl | rfl | rfl | rfl | rfl | rfl | rfl | rfl <;>
      exact Finset.notMem_singleton.2 (StableHlo.devRef_ne_of_ne (by assumption)))]

end Args

variable (m : (ℓ : Loc nD τ sig) → Buf (Elt Ideal) ℓ) (d : Dev nD)

/-! The buffers at the encode's entry -/

/-- The packed table, of its four pieces. -/
def pack (a : FVec Ideal S65536x3 .f32) (b : FVec Ideal S65536x13 .f32) (c : FVec Ideal S65536x32 .f32) (e : FVec Ideal S65536x80 .f32) : FVec Ideal S65536x128 .f32 :=
  concatenate S65536x128 1 [⟨S65536x3, a⟩, ⟨S65536x13, b⟩, ⟨S65536x32, c⟩, ⟨S65536x80, e⟩] concatenates_S65536x3_S65536x13_S65536x32_S65536x80_S65536x128_d1

/-- The buffers when the table is packed. -/
def W : Valuation τ sig (Elt Ideal) := StableHlo.after (ops0.take 6) fun b => m (d, b)

theorem tab_eq : tab m d = pack (W m d (Proc.devRef .tc main_arg1)) (W m d (Proc.devRef .tc main_v0)) (W m d (Proc.devRef .tc main_arg2)) (W m d (Proc.devRef .tc main_v1)) := by
  unfold tab V0 W pack
  simp only [ops0, List.take]
  after_results_simp
  rfl
theorem W_arg1 : W m d (Proc.devRef .tc main_arg1) = m (d, Proc.devRef .tc main_arg1) := by
  unfold W; simp only [ops0, List.take]; after_results_simp
theorem W_arg2 : W m d (Proc.devRef .tc main_arg2) = m (d, Proc.devRef .tc main_arg2) := by
  unfold W; simp only [ops0, List.take]; after_results_simp

/-- The packed table holds the points' coordinates in its first three columns -/
theorem tab_low (n : Fin 65536) (k : Fin 3) : tab m d (ix2 n ⟨k, by omega⟩) = m (d, Proc.devRef .tc main_arg1) (ix2 n k) := by
  rw [tab_eq, W_arg1]
  generalize W m d (Proc.devRef .tc main_v0) = b
  generalize W m d (Proc.devRef .tc main_arg2) = c
  generalize W m d (Proc.devRef .tc main_v1) = e
  pointwise [pack]
/-- and the features from column 16 on. -/
theorem tab_high (n : Fin 65536) (k : Fin 32) : tab m d (ix2 n ⟨16 + k, by omega⟩) = m (d, Proc.devRef .tc main_arg2) (ix2 n k) := by
  rw [tab_eq, W_arg2]
  generalize W m d (Proc.devRef .tc main_v0) = b
  generalize W m d (Proc.devRef .tc main_arg1) = c
  generalize W m d (Proc.devRef .tc main_v1) = e
  pointwise [pack]
  simp only [show ¬ (16 + k.val < 3) by omega, show ¬ (16 + k.val - 3 < 13) by omega, show 16 + k.val - 3 - 13 = k.val by omega, ↓reduceDIte]
  simp only [show k.val < 32 by omega, ↓reduceDIte]
theorem V0_v3 : rows m d = shapeCast S32768 (m (d, Proc.devRef .tc main_arg6)) shapeCasts_S4096x8_S32768 := by
  unfold rows V0
  after_results_simp
  rfl
theorem V2_cst : V2 m d (Proc.devRef .tc main_cst) = fun i => FloatOps.ofBits (F := Ideal) .f32 (lit0 (S6x30.rowMajor i)) := by
  unfold V2; after_results_simp
  unfold V1; rw [Function.update_of_ne (StableHlo.devRef_ne_of_ne (by decide))]
  unfold V0; after_results_simp
  rfl
theorem V2_cst_0 : V2 m d (Proc.devRef .tc main_cst_0) = fun i => FloatOps.ofBits (F := Ideal) .f32 (lit1 (S32x96.rowMajor i)) := by
  unfold V2; after_results_simp
  unfold V1; rw [Function.update_of_ne (StableHlo.devRef_ne_of_ne (by decide))]
  unfold V0; after_results_simp
  rfl
theorem V2_v4 : V2 m d (Proc.devRef .tc main_v4) = gath (tab m d) (rows m d) := by
  unfold V2; after_results_simp
  unfold V1; rw [Function.update_self]
theorem V2_v5 : V2 m d (Proc.devRef .tc main_v5) = shapeCast S3x3 (m (d, Proc.devRef .tc main_arg3)) shapeCasts_S1x3x3_S3x3 := by
  unfold V2; after_results_simp
  unfold V1; rw [Function.update_of_ne (StableHlo.devRef_ne_of_ne (by decide))]
  unfold V0; after_results_simp
  rfl

/-! The blocks the encode reads, of those buffers -/

abbrev VV : (c : Dev nD) → (b : Ref sig .tc) → Buf (Elt Ideal) ((c : Thread nD τ).loc b) := fun c b => V2 m c (Proc.devRef .tc b)

/-- The kernel's result. -/
def G : FVec Ideal S4096x8x284 .f32 := fun j =>
  Spec.row (fun k => gath (tab m d) (rows m d) (ix2 ⟨(j 0).val * 8 + (j 1).val, by have h0 : (j 0).val < 4096 := (j 0).isLt; have h1 : (j 1).val < 8 := (j 1).isLt; omega⟩ ⟨16 + k.val, by omega⟩))
    (Spec.dist (fun i k => V2 m d (Proc.devRef .tc main_v5) (ix2 i k)) (fun i => V2 m d (Proc.devRef .tc main_arg4) (ix2 0 i)) (fun i k => V2 m d (Proc.devRef .tc main_arg5) (ix2 i k))
      (fun k => gath (tab m d) (rows m d) (ix2 ⟨(j 0).val * 8 + (j 1).val, by have h0 : (j 0).val < 4096 := (j 0).isLt; have h1 : (j 1).val < 8 := (j 1).isLt; omega⟩ ⟨k.val, by omega⟩)) (fun i => V2 m d (Proc.devRef .tc main_arg0) (ix2 (j 0) i))) (j 2)

theorem G_apply (a : Fin 4096) (b : Fin 8) (k : Fin 284) : G m d (ix3 a b k) =
    Spec.row (fun k => gath (tab m d) (rows m d) (ix2 ⟨a.val * 8 + b.val, by omega⟩ ⟨16 + k.val, by omega⟩))
      (Spec.dist (fun i k => V2 m d (Proc.devRef .tc main_v5) (ix2 i k)) (fun i => V2 m d (Proc.devRef .tc main_arg4) (ix2 0 i)) (fun i k => V2 m d (Proc.devRef .tc main_arg5) (ix2 i k))
        (fun k => gath (tab m d) (rows m d) (ix2 ⟨a.val * 8 + b.val, by omega⟩ ⟨k.val, by omega⟩)) (fun i => V2 m d (Proc.devRef .tc main_arg0) (ix2 a i))) k := rfl

/-- The encode leaves it. -/
theorem out_eq : Encode.out (VV m) d = G m d := by
  have e0 : ∀ t : Fin cfg1.N, win1_0.index t = ![(grid1.coords t 0).val, 0] := by decide +kernel
  have e1 : ∀ t : Fin cfg1.N, win1_1.index t = ![(grid1.coords t 0).val, 0] := by decide +kernel
  have e2 : ∀ t : Fin cfg1.N, win1_2.index t = ![0, 0] := by decide +kernel
  have e3 : ∀ t : Fin cfg1.N, win1_3.index t = ![0, 0] := by decide +kernel
  have e4 : ∀ t : Fin cfg1.N, win1_4.index t = ![0, 0] := by decide +kernel
  have e5 : ∀ t : Fin cfg1.N, win1_5.index t = ![0, 0] := by decide +kernel
  have e6 : ∀ t : Fin cfg1.N, win1_6.index t = ![0, 0] := by decide +kernel
  have e7 : ∀ t : Fin cfg1.N, win1_7.index t = ![(grid1.coords t 0).val, 0, 0] := by decide +kernel
  unfold Encode.out
  refine (Encode.dat (VV m) d).arrAt_eq_of_covers 7 (G m d) (by decide +kernel) fun t hf y => ?_
  blk_simp
  have ht : (grid1.coords t 0).val < 32 := (grid1.coords t 0).isLt
  have b0 (r : Fin 1024) (k : Fin 128) : Encode.iblk (VV m) d 0 t (ix2 r k) = gath (tab m d) (rows m d) (ix2 ⟨(grid1.coords t 0).val * 1024 + r.val, by omega⟩ k) := by
    rw [← V2_v4]
    blk_simp [Encode.iblk]
    refine congrArg (V2 m d (Proc.devRef .tc main_v4)) ?_
    blk_ext [e0]
  have b1 (r : Fin 128) (k : Fin 3) : Encode.iblk (VV m) d 1 t (ix2 r k) = V2 m d (Proc.devRef .tc main_arg0) (ix2 ⟨(grid1.coords t 0).val * 128 + r.val, by omega⟩ k) := by
    blk_simp [Encode.iblk]
    refine congrArg (V2 m d (Proc.devRef .tc main_arg0)) ?_
    blk_ext [e1]
  have b2 (i k : Fin 3) : Encode.iblk (VV m) d 2 t (ix2 i k) = V2 m d (Proc.devRef .tc main_v5) (ix2 i k) := by
    blk_simp [Encode.iblk]
    refine congrArg (V2 m d (Proc.devRef .tc main_v5)) ?_
    blk_ext [e2]
  have b3 (i : Fin 1) (k : Fin 3) : Encode.iblk (VV m) d 3 t (ix2 i k) = V2 m d (Proc.devRef .tc main_arg4) (ix2 i k) := by
    blk_simp [Encode.iblk]
    refine congrArg (V2 m d (Proc.devRef .tc main_arg4)) ?_
    blk_ext [e3]
  have b4 (i k : Fin 3) : Encode.iblk (VV m) d 4 t (ix2 i k) = V2 m d (Proc.devRef .tc main_arg5) (ix2 i k) := by
    blk_simp [Encode.iblk]
    refine congrArg (V2 m d (Proc.devRef .tc main_arg5)) ?_
    blk_ext [e4]
  have b5 (k : Fin 6) (c : Fin 30) : Encode.iblk (VV m) d 5 t (ix2 k c) = if c.val / 5 = k.val then Spec.band (c % 5) else 0 := by
    refine Eq.trans ?_ (Table.sd_apply k c)
    refine Eq.trans ?_ (congrFun (V2_cst m d) (ix2 k c))
    blk_simp [Encode.iblk]
    refine congrArg (V2 m d (Proc.devRef .tc main_cst)) ?_
    blk_ext [e5]
  have b6 (k : Fin 32) (c : Fin 96) : Encode.iblk (VV m) d 6 t (ix2 k c) = if c.val / 3 = k.val then Spec.band (c % 3) else 0 := by
    refine Eq.trans ?_ (Table.sf_apply k c)
    refine Eq.trans ?_ (congrFun (V2_cst_0 m d) (ix2 k c))
    blk_simp [Encode.iblk]
    refine congrArg (V2 m d (Proc.devRef .tc main_cst_0)) ?_
    blk_ext [e6]
  obtain ⟨a, b, k, rfl⟩ : ∃ (a : Fin 128) (b : Fin 8) (k : Fin 284), y = ix3 a b k := ⟨y 0, y 1, y 2, ValueIdx.eq_ix3 y⟩
  have he : ((win1_7.blk t).view.emb (ix3 a b k) : S4096x8x284.Idx) = ix3 ⟨(grid1.coords t 0).val * 128 + a.val, by omega⟩ b k := by
    blk_ext [e7]
  refine (EncValue.enc_apply _ _ _ _ _ _ _ b5 b6 a b k).trans ?_
  refine Eq.trans ?_ (congrArg (G m d) he).symm
  unfold G
  simp only [b0, b1, b2, b3, b4]
  have hr : (⟨(grid1.coords t 0).val * 1024 + (a.val * 8 + b.val), by omega⟩ : Fin 32768) = ⟨((grid1.coords t 0).val * 128 + a.val) * 8 + b.val, by omega⟩ := Fin.ext (by dsimp only; omega)
  rw [hr]
  rfl

end Cert.Proof.Value

end
-- ==== Proof.RefDefs.lean ====
module

public import proofs.«01_k».proof.Proof.Gen.ReferenceIdeal
public import Idealize.ShloMosaic.PureOps.Ideal

@[expose] public section

set_option maxRecDepth 16384

noncomputable section

/-! The reference, over the extended reals, in the steps in which its text is written. -/

namespace Cert.Proof.Ref

open Cert.ReferenceIdeal Cert.ReferenceIdeal.Gen Idealize.ShloMosaic

/-- The row numbers as one list. -/
def flat (a : IVec S4096x8 32) : IVec S32768 32 := shapeCast _ a shapeCasts_S4096x8_S32768
/-- A negative row number counts from the end. -/
def wrap (ids : IVec S32768 32) : IVec S32768x1 32 :=
  broadcastInDim S32768x1 ![0] bcast_S32768_S32768x1_0 (select (cmpi .slt ids (broadcastInDim S32768 ![] bcast_S_S32768 (constantI S_ 32 0#32)))
    (addi ids (broadcastInDim S32768 ![] bcast_S_S32768 (constantI S_ 32 65536#32))) ids)
/-- Whether a row number names a row. -/
def named (i : IVec S32768x1 32) : IVec S32768 1 :=
  Host.reduce IntOp.andi (andi (cmpi .sge i (broadcastInDim S32768x1 ![] bcast_S_S32768x1 (constantI S_ 32 0#32)))
    (cmpi .sle i (broadcastInDim S32768x1 ![0, 1] bcast_S1x1_S32768x1_0_1 (broadcastInDim S1x1 ![1] bcast_S1_S1x1_1 (constantI S1 32 65535#32)))))
    (constantI S_ 1 1#1) reducesTo_S32768x1_S32768_d1 h_S_
/-- The points' rows. -/
def take3 (t : FVec Ideal S65536x3 .f32) (ids : IVec S32768 32) : FVec Ideal S32768x3 .f32 :=
  select (broadcastInDim S32768x3 ![0] bcast_S32768_S32768x3_0 (named (wrap ids)))
    (Host.gather gather_S65536x3_S32768x1_S32768x3_1_0_n_n_0_1_13 t (wrap ids))
    (broadcastInDim S32768x3 ![] bcast_S_S32768x3 (constant S_ .f32 0x7FC00000#32))
/-- The features' rows. -/
def take32 (t : FVec Ideal S65536x32 .f32) (ids : IVec S32768 32) : FVec Ideal S32768x32 .f32 :=
  select (broadcastInDim S32768x32 ![0] bcast_S32768_S32768x32_0 (named (wrap ids)))
    (Host.gather gather_S65536x32_S32768x1_S32768x32_1_0_n_n_0_1_132 t (wrap ids))
    (broadcastInDim S32768x32 ![] bcast_S_S32768x32 (constant S_ .f32 0x7FC00000#32))
/-- Every query, eight times. -/
def rep (q : FVec Ideal S4096x3 .f32) : FVec Ideal S32768x3 .f32 :=
  shapeCast _ (broadcastInDim S4096x8x3 ![0, 2] bcast_S4096x3_S4096x8x3_0_2 q) shapeCasts_S4096x8x3_S32768x3
/-- Points in the camera's frame. -/
def turn (v : FVec Ideal S32768x3 .f32) (cam : FVec Ideal S1x3x3 .f32) (pos : FVec Ideal S1x3 .f32) : FVec Ideal S32768x3 .f32 :=
  Host.reduceAdd (mulf (broadcastInDim S32768x3x3 ![0, 1, 2] bcast_S1x3x3_S32768x3x3_0_1_2 (broadcastInDim S1x3x3 ![1, 2] bcast_S3x3_S1x3x3_1_2 (shapeCast _ cam shapeCasts_S1x3x3_S3x3)))
      (broadcastInDim S32768x3x3 ![0, 1, 2] bcast_S32768x3x1_S32768x3x3_0_1_2 (broadcastInDim S32768x3x1 ![0, 1] bcast_S32768x3_S32768x3x1_0_1
        (subf v (broadcastInDim S32768x3 ![0, 1] bcast_S1x3_S32768x3_0_1 pos)))))
    (constant S_ .f32 0x00000000#32) reducesTo_S32768x3x3_S32768x3_d1 h_S_
/-- The three coordinates of a list of points. -/
def col0 (t : FVec Ideal S32768x3 .f32) : FVec Ideal S32768 .f32 := shapeCast _ (extractStridedSlice S32768x1 ![0, 0] t slices_S32768x3_S32768x1_0_0) shapeCasts_S32768x1_S32768
def col1 (t : FVec Ideal S32768x3 .f32) : FVec Ideal S32768 .f32 := shapeCast _ (extractStridedSlice S32768x1 ![0, 1] t slices_S32768x3_S32768x1_0_1) shapeCasts_S32768x1_S32768
def col2 (t : FVec Ideal S32768x3 .f32) : FVec Ideal S32768 .f32 := shapeCast _ (extractStridedSlice S32768x1 ![0, 2] t slices_S32768x3_S32768x1_0_2) shapeCasts_S32768x1_S32768
/-- The perspective distances between points `s` and queries `u`, both in the camera's frame. -/
def pers (s u : FVec Ideal S32768x3 .f32) : FVec Ideal S32768x3 .f32 :=
  concatenate S32768x3 1 [
    ⟨S32768x1, broadcastInDim S32768x1 ![0] bcast_S32768_S32768x1_0 (subf (mulf (Host.divf (col0 s) (col2 s)) (col2 s)) (mulf (Host.divf (col0 u) (col2 u)) (col2 u)))⟩,
    ⟨S32768x1, broadcastInDim S32768x1 ![0] bcast_S32768_S32768x1_0 (subf (mulf (Host.divf (col1 s) (col2 s)) (col2 s)) (mulf (Host.divf (col1 u) (col2 u)) (col2 u)))⟩,
    ⟨S32768x1, broadcastInDim S32768x1 ![0] bcast_S32768_S32768x1_0 (subf (col2 s) (col2 u))⟩] concatenates_S32768x1_S32768x1_S32768x1_S32768x3_d1
/-- The six distances. -/
def dists (v : FVec Ideal S32768x3 .f32) (q : FVec Ideal S4096x3 .f32) (cam : FVec Ideal S1x3x3 .f32) (pos : FVec Ideal S1x3 .f32) (rw : FVec Ideal S3x3 .f32) :
    FVec Ideal S32768x6 .f32 :=
  concatenate S32768x6 1 [
    ⟨S32768x3, Host.dotGeneral dot_S32768x3_S3x3_S32768x3_1_0_0_1_n_n none (Host.divf (subf v (rep q)) (broadcastInDim S32768x3 ![] bcast_S_S32768x3 (constant S_ .f32 0x3BE305FC#32))) rw⟩,
    ⟨S32768x3, Host.divf (pers (turn v cam pos) (turn (rep q) cam pos)) (broadcastInDim S32768x3 ![] bcast_S_S32768x3 (constant S_ .f32 0x3BE305FC#32))⟩]
    concatenates_S32768x3_S32768x3_S32768x6_d1
/-- Each feature times 1, 2, 4. -/
def bands3 (x : FVec Ideal S32768x32 .f32) : FVec Ideal S32768x96 .f32 :=
  shapeCast _ (mulf (broadcastInDim S32768x32x3 ![0, 1, 2] bcast_S32768x32x1_S32768x32x3_0_1_2 (broadcastInDim S32768x32x1 ![0, 1] bcast_S32768x32_S32768x32x1_0_1 x))
    (broadcastInDim S32768x32x3 ![0, 1, 2] bcast_S1x1x3_S32768x32x3_0_1_2 (broadcastInDim S1x1x3 ![2] bcast_S3_S1x1x3_2
      (Host.powf (broadcastInDim S3 ![] bcast_S_S3 (constant S_ .f32 0x40000000#32)) (sitofp .f32 (iotaInDim S3 32 0)))))) shapeCasts_S32768x32x3_S32768x96
/-- Each distance times 1, 2, 4, 8, 16. -/
def bands5 (x : FVec Ideal S32768x6 .f32) : FVec Ideal S32768x30 .f32 :=
  shapeCast _ (mulf (broadcastInDim S32768x6x5 ![0, 1, 2] bcast_S32768x6x1_S32768x6x5_0_1_2 (broadcastInDim S32768x6x1 ![0, 1] bcast_S32768x6_S32768x6x1_0_1 x))
    (broadcastInDim S32768x6x5 ![0, 1, 2] bcast_S1x1x5_S32768x6x5_0_1_2 (broadcastInDim S1x1x5 ![2] bcast_S5_S1x1x5_2
      (Host.powf (broadcastInDim S5 ![] bcast_S_S5 (constant S_ .f32 0x40000000#32)) (sitofp .f32 (iotaInDim S5 32 0)))))) shapeCasts_S32768x6x5_S32768x30
/-- The result's rows: the features, their encoding, and the distances' encoding. -/
def row (f : FVec Ideal S32768x32 .f32) (b : FVec Ideal S32768x96 .f32) (d : FVec Ideal S32768x30 .f32) : FVec Ideal S32768x284 .f32 :=
  concatenate S32768x284 1 [⟨S32768x32, f⟩,
    ⟨S32768x192, concatenate S32768x192 1 [⟨S32768x96, Host.sin b⟩, ⟨S32768x96, Host.cos b⟩] concatenates_S32768x96_S32768x96_S32768x192_d1⟩,
    ⟨S32768x60, concatenate S32768x60 1 [⟨S32768x30, Host.sin d⟩, ⟨S32768x30, Host.cos d⟩] concatenates_S32768x30_S32768x30_S32768x60_d1⟩]
    concatenates_S32768x32_S32768x192_S32768x60_S32768x284_d1
/-- The encoding of gathered points `v` and features `f`. -/
def encode (v : FVec Ideal S32768x3 .f32) (f : FVec Ideal S32768x32 .f32) (q : FVec Ideal S4096x3 .f32) (cam : FVec Ideal S1x3x3 .f32) (pos : FVec Ideal S1x3 .f32)
    (rw : FVec Ideal S3x3 .f32) : FVec Ideal S4096x8x284 .f32 :=
  shapeCast _ (row f (bands3 f) (bands5 (dists v q cam pos rw))) shapeCasts_S32768x284_S4096x8x284
/-- The whole reference. -/
def out (q : FVec Ideal S4096x3 .f32) (p : FVec Ideal S65536x3 .f32) (e : FVec Ideal S65536x32 .f32) (cam : FVec Ideal S1x3x3 .f32) (pos : FVec Ideal S1x3 .f32)
    (rw : FVec Ideal S3x3 .f32) (a : IVec S4096x8 32) : FVec Ideal S4096x8x284 .f32 :=
  encode (take3 p (flat a)) (take32 e (flat a)) q cam pos rw

end Cert.Proof.Ref

end
-- ==== Proof.RefValue.lean ====
module

public import proofs.«01_k».proof.Proof.RefDefs
public import proofs.«01_k».proof.Proof.Spec
public import proofs.«01_k».proof.Proof.Gen.ReferenceIdeal.Run

@[expose] public section

set_option maxRecDepth 16384

noncomputable section

/-! The reference's result, element by element. -/

namespace Cert.Proof.Ref

open Cert.ReferenceIdeal Cert.ReferenceIdeal.Gen Idealize.ShloMosaic Idealize.ShloMosaic.TcCoe

/-- The reference's run ends with `out` of its arguments. -/
theorem res_eq (m : (ℓ : Loc nD τ sig) → Buf (Elt Ideal) ℓ) (c : Dev nD) : Value.res_out0 m c =
    out (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold Value.res_out0 Value.res_main_v91
  rfl

variable (v : FVec Ideal S32768x3 .f32) (f : FVec Ideal S32768x32 .f32) (q : FVec Ideal S4096x3 .f32) (cam : FVec Ideal S1x3x3 .f32) (pos : FVec Ideal S1x3 .f32)
    (rw' : FVec Ideal S3x3 .f32) (s u : FVec Ideal S32768x3 .f32)

theorem rep_apply (n : Fin 32768) (k : Fin 3) : rep q (ix2 n k) = q (ix2 ⟨n / 8, by omega⟩ k) := by
  pointwise [rep]
theorem turn_apply (n : Fin 32768) (k : Fin 3) :
    turn v cam pos (ix2 n k) = Spec.turn (fun j k => cam (ix3 0 j k)) (fun j => pos (ix2 0 j)) (fun j => v (ix2 n j)) k := by
  pointwise [turn, Spec.turn]
theorem pers_apply (n : Fin 32768) (k : Fin 3) : pers s u (ix2 n k) = Spec.pers (fun j => s (ix2 n j)) (fun j => u (ix2 n j)) k := by
  pointwise [pers, col0, col1, col2, Spec.pers]
  split_ifs <;> rfl
theorem dists_apply (n : Fin 32768) (k : Fin 6) : dists v q cam pos rw' (ix2 n k)
    = Spec.dist (fun j k => cam (ix3 0 j k)) (fun j => pos (ix2 0 j)) (fun j k => rw' (ix2 j k)) (fun j => v (ix2 n j)) (fun j => q (ix2 ⟨n / 8, by omega⟩ j)) k := by
  pointwise [dists, Spec.dist]
  simp only [pers_apply, turn_apply, rep_apply, Spec.deno]
theorem bands3_apply (n : Fin 32768) (k : Fin 96) : bands3 f (ix2 n k) = f (ix2 n ⟨k / 3, by omega⟩) * Spec.band (k % 3) := by
  pointwise [bands3]
  rw [Spec.pow_band _ (by omega)]
theorem bands5_apply (x : FVec Ideal S32768x6 .f32) (n : Fin 32768) (k : Fin 30) : bands5 x (ix2 n k) = x (ix2 n ⟨k / 5, by omega⟩) * Spec.band (k % 5) := by
  pointwise [bands5]
  rw [Spec.pow_band _ (by omega)]

/-- The encoding of gathered rows at one query, neighbour and column. -/
theorem encode_apply (a : Fin 4096) (b : Fin 8) (k : Fin 284) : encode v f q cam pos rw' (ix3 a b k)
    = Spec.row (fun j => f (ix2 ⟨a * 8 + b, by omega⟩ j))
        (Spec.dist (fun j k => cam (ix3 0 j k)) (fun j => pos (ix2 0 j)) (fun j k => rw' (ix2 j k)) (fun j => v (ix2 ⟨a * 8 + b, by omega⟩ j)) (fun j => q (ix2 a j))) k := by
  have ha : (⟨(a.val * 8 + b.val) / 8, by omega⟩ : Fin 4096) = a := Fin.ext (by show (a.val * 8 + b.val) / 8 = a; omega)
  pointwise [encode, row]
  simp only [bands3_apply, bands5_apply, dists_apply, ha]
  unfold Spec.row
  simp only [Nat.sub_sub, Nat.reduceAdd]
  by_cases h32 : k.val < 32
  · simp only [h32, ↓reduceDIte]
  by_cases h128 : k.val < 128
  · simp only [h32, h128, show k.val - 32 < 192 by omega, show k.val - 32 < 96 by omega, ↓reduceDIte]
  by_cases h224 : k.val < 224
  · simp only [h32, h128, h224, show k.val - 32 < 192 by omega, show ¬ k.val - 32 < 96 by omega, ↓reduceDIte]
  by_cases h254 : k.val < 254
  · simp only [h32, h128, h224, h254, show ¬ k.val - 32 < 192 by omega, show k.val - 224 < 30 by omega, ↓reduceDIte]
  · simp only [h32, h128, h224, h254, show ¬ k.val - 32 < 192 by omega, show ¬ k.val - 224 < 30 by omega, ↓reduceDIte]

end Cert.Proof.Ref

end
-- ==== Proof.Take.lean ====
module

public import proofs.«01_k».proof.Proof.RefDefs
public import Idealize.ShloMosaic.Lib.Pointwise
public import Idealize.ShloMosaic.Lib.ReduceAll
public import Idealize.ShloMosaic.Lib.Routing.Ops

@[expose] public section

set_option maxRecDepth 16384

noncomputable section

/-! The reference's two gathers, at row numbers in range: rows of the tables. -/

namespace Cert.Proof.Ref

open Cert.ReferenceIdeal Cert.ReferenceIdeal.Gen Idealize.ShloMosaic

variable (ids : IVec S32768 32)

theorem word_eq (v : BitVec 32) (h : v.toNat < 65536) :
    IntOp.cmpi .slt v 0#32 = 0#1 ∧ IntOp.andi (IntOp.cmpi .sge v 0#32) (IntOp.cmpi .sle v 65535#32) = 1#1 := by
  have hs : v.slt 0#32 = false := by
    rw [BitVec.slt_eq_decide, decide_eq_false_iff_not, BitVec.toInt_eq_toNat_cond, BitVec.toInt_eq_toNat_cond, BitVec.toNat_ofNat]; omega
  have h0 : (0#32).sle v = true := by
    rw [BitVec.sle_eq_decide, decide_eq_true_eq, BitVec.toInt_eq_toNat_cond, BitVec.toInt_eq_toNat_cond, BitVec.toNat_ofNat]; omega
  have h1 : v.sle 65535#32 = true := by
    rw [BitVec.sle_eq_decide, decide_eq_true_eq, BitVec.toInt_eq_toNat_cond, BitVec.toInt_eq_toNat_cond, BitVec.toNat_ofNat]; omega
  simp only [IntOp.cmpi, hs, h0, h1]
  decide

/-- A row number in range is kept; -/
theorem wrap_apply (n : Fin 32768) (h : (ids (ix1 n)).toNat < 65536) : wrap ids (ix2 n 0) = ids (ix1 n) := by
  pointwise [wrap]
  rw [(word_eq _ h).1]
  rfl
/-- and names a row. -/
theorem named_apply (h : ∀ n, (ids (ix1 n)).toNat < 65536) (n : Fin 32768) : named (wrap ids) (ix1 n) = 1#1 := by
  unfold named
  refine Host.reduce_andi_one _ _ _ _ _ rfl fun i => ?_
  obtain ⟨a, b, rfl⟩ : ∃ a b, i = ix2 a b := ⟨i 0, i 1, ValueIdx.eq_ix2 i⟩
  obtain rfl : b = 0 := Subsingleton.elim _ _
  pointwise []
  rw [wrap_apply ids a (h a)]
  exact (word_eq _ (h a)).2

/-- The points' rows are the table's; -/
theorem take3_apply (t : FVec Ideal S65536x3 .f32) (h : ∀ n, (ids (ix1 n)).toNat < 65536) (n : Fin 32768) (k : Fin 3) :
    take3 t ids (ix2 n k) = t (ix2 ⟨(ids (ix1 n)).toNat, h n⟩ k) := by
  have hg : Host.gather gather_S65536x3_S32768x1_S32768x3_1_0_n_n_0_1_13 t (wrap ids) (ix2 n k) = t (ix2 ⟨(ids (ix1 n)).toNat, h n⟩ k) := Routing.gather_row gather_S65536x3_S32768x1_S32768x3_1_0_n_n_0_1_13 rfl rfl rfl rfl rfl t (wrap ids) n k ⟨(ids (ix1 n)).toNat, h n⟩
    ((wrap_apply ids n (h n)).trans (BitVec.eq_of_toNat_eq (by rw [BitVec.toNat_ofNat]; exact (Nat.mod_eq_of_lt (BitVec.isLt _)).symm))) (by norm_num)
  pointwise [take3]
  rw [named_apply ids h, hg]
  rfl
/-- so are the features'. -/
theorem take32_apply (t : FVec Ideal S65536x32 .f32) (h : ∀ n, (ids (ix1 n)).toNat < 65536) (n : Fin 32768) (k : Fin 32) :
    take32 t ids (ix2 n k) = t (ix2 ⟨(ids (ix1 n)).toNat, h n⟩ k) := by
  have hg : Host.gather gather_S65536x32_S32768x1_S32768x32_1_0_n_n_0_1_132 t (wrap ids) (ix2 n k) = t (ix2 ⟨(ids (ix1 n)).toNat, h n⟩ k) := Routing.gather_row gather_S65536x32_S32768x1_S32768x32_1_0_n_n_0_1_132 rfl rfl rfl rfl rfl t (wrap ids) n k ⟨(ids (ix1 n)).toNat, h n⟩
    ((wrap_apply ids n (h n)).trans (BitVec.eq_of_toNat_eq (by rw [BitVec.toNat_ofNat]; exact (Nat.mod_eq_of_lt (BitVec.isLt _)).symm))) (by norm_num)
  pointwise [take32]
  rw [named_apply ids h, hg]
  rfl

end Cert.Proof.Ref

end
-- ==== Proof.Agree.lean ====
module

public import proofs.«01_k».proof.Defs
public import proofs.«01_k».proof.Proof.Value
public import proofs.«01_k».proof.Proof.RefValue
public import proofs.«01_k».proof.Proof.Take
public import proofs.«01_k».proof.Proof.Gen.Kernel
public import proofs.«01_k».proof.Proof.Gen.Pre_in_range

@[expose] public section

set_option maxRecDepth 16384

noncomputable section

/-! The kernel's result is the reference's, and the claims' runs. -/

namespace Cert.Proof.Agree

open Cert.KernelIdeal Cert.KernelIdeal.Gen Idealize.ShloMosaic Idealize.ShloMosaic.TcCoe Idealize.SL.Sem Cert.Proof.Main Cert.Proof.Gather

section Run

variable {F : FTy → Type} [FloatOps F] (m : (ℓ : Loc nD τ sig) → Buf (Elt F) ℓ) (ρ : Dev nD → PrngReg)

theorem V0_rows (d : Dev nD) : rows m d = shapeCast S32768 (m (d, Proc.devRef .tc main_arg6)) shapeCasts_S4096x8_S32768 := by
  unfold rows V0
  after_results_simp
  rfl

/-- A word that is signed non-negative and signed below 65536 is below 65536. -/
theorem word_lt (v : BitVec 32) (h : IntOp.andi (IntOp.cmpi .sge v 0#32) (IntOp.cmpi .slt v 65536#32) = 1#1) : v.toNat < 65536 := by
  have hb (p q : Bool) (h : IntOp.andi (BitVec.ofBool p) (BitVec.ofBool q) = 1#1) : p = true ∧ q = true := by
    revert h; cases p <;> cases q <;> decide
  have h2 : (0#32).sle v = true ∧ v.slt 65536#32 = true := hb _ _ h
  rw [BitVec.sle_eq_decide, BitVec.slt_eq_decide, decide_eq_true_eq, decide_eq_true_eq] at h2
  have h3 := BitVec.toInt_eq_toNat_cond v
  have h4 : (65536#32).toInt = 65536 := by decide
  have h5 : (0#32).toInt = 0 := by decide
  have := v.isLt
  split at h3 <;> omega

/-- The precondition puts every row number in range. -/
theorem rows_lt (d : Dev nD) {a0 a1 a2 a3 a4 a5} (h : Cert.Pre_in_range.fn (F := F) a0 a1 a2 a3 a4 a5 (m (d, Proc.devRef .tc main_arg6)) = fun _ => 1#1) (a : Fin 4096) (b : Fin 8) :
    (m (d, Proc.devRef .tc main_arg6) (ix2 a b)).toNat < 65536 := by
  refine word_lt _ ?_
  haveI : Subsingleton Cert.Pre_in_range.S_.Idx := ⟨fun x y => funext fun i => i.elim0⟩
  exact Host.reduce_andi_all _ _ _ _ (fun i => i.elim0) (congrFun h _) (ix2 a b)
theorem inRange (d : Dev nD) {a0 a1 a2 a3 a4 a5} (h : Cert.Pre_in_range.fn (F := F) a0 a1 a2 a3 a4 a5 (m (d, Proc.devRef .tc main_arg6)) = fun _ => 1#1) : InRange (rows m d) := by
  intro x
  obtain ⟨n, rfl⟩ : ∃ n : Fin 32768, x = ix1 n := ⟨x 0, ValueIdx.eq_ix1 x⟩
  have hv : rows m d (ix1 n) = m (d, Proc.devRef .tc main_arg6) (ix2 ⟨n / 8, by omega⟩ ⟨n % 8, by omega⟩) := by
    rw [V0_rows]
    pointwise []
  rw [hv]
  exact rows_lt m d h _ _

/-- An argument is not the encode's output: it ends as it was. -/
theorem V3_of (d : Dev nD) (b : Ref sig .tc) (h6 : b ≠ main_v6) (hb : b ∉ main_v4 :: Value.written) : V3 m d (Proc.devRef .tc b) = m (d, Proc.devRef .tc b) := by
  unfold V3
  rw [Function.update_of_ne (StableHlo.devRef_ne_of_ne h6)]
  exact Value.V2_of m d b hb

/-- The buffer of a name is among those the run accounts for. -/
theorem mem_uc (b : Ref sig .tc) (h : Proc.devRef (τ := τ) .tc b ∈ Pipeline.ucRefs τ sig := by decide) : Proc.devRef (τ := τ) .tc b ∈ Pipeline.ucRefs τ sig := h

/-- The run, read at the result and the arguments. -/
theorem run [∀ e, Nonempty (Elt F e)] (hpre : ∀ d, InRange (rows m d)) : θ_run (defs (F := F)) (threads (F := F)) ⟨m, fun _ => 0, ρ⟩ fun r =>
    (∀ c : Dev nD, r.2.mem ((c.tc : Thread nD τ).loc main_v6) = Encode.out (fun c b => V2 m c (Proc.devRef .tc b)) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 := by
  refine (θ_run _ _ _).mono (fun r h => ⟨fun c => ⟨?_, ?_, ?_, ?_, ?_, ?_, ?_, ?_⟩, h.2⟩) (run_main m ρ hpre)
  · refine (h.1 c _ (mem_uc main_v6)).trans ?_
    unfold V3; rw [Function.update_self]
  · exact (h.1 c _ (mem_uc main_arg0)).trans (V3_of m c _ (by decide) (by decide))
  · exact (h.1 c _ (mem_uc main_arg1)).trans (V3_of m c _ (by decide) (by decide))
  · exact (h.1 c _ (mem_uc main_arg2)).trans (V3_of m c _ (by decide) (by decide))
  · exact (h.1 c _ (mem_uc main_arg3)).trans (V3_of m c _ (by decide) (by decide))
  · exact (h.1 c _ (mem_uc main_arg4)).trans (V3_of m c _ (by decide) (by decide))
  · exact (h.1 c _ (mem_uc main_arg5)).trans (V3_of m c _ (by decide) (by decide))
  · exact (h.1 c _ (mem_uc main_arg6)).trans (V3_of m c _ (by decide) (by decide))

end Run

/-- The kernel's result is the reference's function of the arguments. -/
theorem G_eq (m : (ℓ : Loc nD τ sig) → Buf (Elt Ideal) ℓ) (d : Dev nD) (hr : ∀ a b, (m (d, Proc.devRef .tc main_arg6) (ix2 a b)).toNat < 65536) :
    Value.G m d = Ref.out (m (d, Proc.devRef .tc main_arg0)) (m (d, Proc.devRef .tc main_arg1)) (m (d, Proc.devRef .tc main_arg2)) (m (d, Proc.devRef .tc main_arg3))
      (m (d, Proc.devRef .tc main_arg4)) (m (d, Proc.devRef .tc main_arg5)) (m (d, Proc.devRef .tc main_arg6)) := by
  funext j
  obtain ⟨a, b, k, rfl⟩ : ∃ (a : Fin 4096) (b : Fin 8) (k : Fin 284), j = ix3 a b k := ⟨j 0, j 1, j 2, ValueIdx.eq_ix3 j⟩
  have hi (n : Fin 32768) : Ref.flat (m (d, Proc.devRef .tc main_arg6)) (ix1 n) = m (d, Proc.devRef .tc main_arg6) (ix2 ⟨n / 8, by omega⟩ ⟨n % 8, by omega⟩) := by
    pointwise [Ref.flat]
  have hf (n : Fin 32768) : (Ref.flat (m (d, Proc.devRef .tc main_arg6)) (ix1 n)).toNat < 65536 := by
    rw [hi]; exact hr _ _
  have hrow : rows m d = Ref.flat (m (d, Proc.devRef .tc main_arg6)) := V0_rows m d
  have h5 (i k : Fin 3) : V2 m d (Proc.devRef .tc main_v5) (ix2 i k) = m (d, Proc.devRef .tc main_arg3) (ix3 0 i k) := by
    rw [Value.V2_v5]
    pointwise []
    done
  have g (n : Fin 32768) (k : Fin 128) : gath (tab m d) (rows m d) (ix2 n k) = tab m d (ix2 ⟨(Ref.flat (m (d, Proc.devRef .tc main_arg6)) (ix1 n)).toNat, hf n⟩ k) := by
    unfold gath
    rw [hrow]
    refine congrArg (tab m d) (funext fun i => ?_)
    match i with
    | 0 => exact Fin.ext (Nat.mod_eq_of_lt (hf n))
    | 1 => rfl
  have h0 := Value.V2_of m d main_arg0 (by decide)
  have h4 := Value.V2_of m d main_arg4 (by decide)
  have h6 := Value.V2_of m d main_arg5 (by decide)
  unfold Ref.out
  rw [Ref.encode_apply, Value.G_apply, h0, h4, h6]
  simp only [h5, g]
  have t3 (n : Fin 32768) (k : Fin 3) := Ref.take3_apply _ (m (d, Proc.devRef .tc main_arg1)) hf n k
  have t32 (n : Fin 32768) (k : Fin 32) := Ref.take32_apply _ (m (d, Proc.devRef .tc main_arg2)) hf n k
  simp only [t3, t32]
  have el (n : Fin 65536) : (fun k : Fin 3 => tab m d (ix2 n ⟨k.val, by omega⟩)) = fun k => m (d, Proc.devRef .tc main_arg1) (ix2 n k) := funext fun k => Value.tab_low m d n k
  have eh (n : Fin 65536) : (fun k : Fin 32 => tab m d (ix2 n ⟨16 + k.val, by omega⟩)) = fun k => m (d, Proc.devRef .tc main_arg2) (ix2 n k) := funext fun k => Value.tab_high m d n k
  rw [el, eh]

end Cert.Proof.Agree

end
-- ==== Proof.WChunk.lean ====
/-
  The SparseCore call, one chunk at a time: the eight chunks of a vector subcore's task are one program (`chunk`) at eight row numbers, so one triple
  about it (`chunk_wp`), for any chunk number, serves all eight, and the task is the list of them run in order (`gk_eq`).
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pointwise.Index
public import proofs.«01_k».proof.Proof.Gen.WholeIdeal
public import proofs.«01_k».proof.Proof.Gen.WholeIdeal.Skeleton

@[expose] public section

set_option maxRecDepth 16384

noncomputable section

namespace Cert.Proof.WGather

open Cert.WholeIdeal Cert.WholeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Program

variable [FloatOps F]

/-- Chunk `r` of a task: 128 row numbers fetched, those rows of the table gathered, and the gathered rows written out. -/
def chunk (i : grid1.Coords) (arg2 : Memref sig .scVector .hbm S65536x128 .f32) (arg3 : Memref sig .scVector .hbm S32768 .i32)
    (arg4 : Memref sig .scVector .hbm S32768x128 .f32) (arg5 : Memref sig .scVector .vmem S128 .i32) (harg5 : arg5.IsWhole)
    (arg6 : Memref sig .scVector .vmem S128x128 .f32) (harg6 : arg6.IsWhole) (arg7 sA sB : DmaSems sig S_) (r : Fin 8) :
    Prog (TpuEff nD τ sig (Elt F) Λ₀ (.scVector ((i 0).castLE hcore1) ((i 1).castLE hsub1))) PUnit := do
  Prog.lift (.enqueueDma (arg3.slice (Rect.unit (s := S32768) (k1_off1 i (BitVec.ofNat 32 (128 * r.val))) S128.size (k1_off1_inb i r)) (fun _ => rfl))
    (.here arg5) (.dma sA.sem) (View.wordExact_bits rfl) harg5.wordExact ⟨Or.inl rfl, trivial⟩)
  Prog.lift (.waitDma2 sA.sem (arg3.slice (Rect.unit (s := S32768) (k1_off1 i (BitVec.ofNat 32 (128 * r.val))) S128.size (k1_off1_inb i r)) (fun _ => rfl))
    arg5 (View.wordExact_bits rfl) harg5.wordExact)
  SparseCore.enqueueIndirectGather rfl (arg2.slice (Rect.unit (s := S65536x128) ![0, 0] S65536x128.size inb_S65536x128_S65536x128_0_0) (fun _ => rfl))
    arg6 gathers_S65536x128_S128x128 arg5 rfl arg7.sem (View.wordExact_bits rfl) rfl (Or.inl rfl)
  SparseCore.waitIndirectGather arg7.sem (arg2.slice (Rect.unit (s := S65536x128) ![0, 0] S65536x128.size inb_S65536x128_S65536x128_0_0) (fun _ => rfl))
    arg6 (View.wordExact_bits rfl) harg6.wordExact
  Prog.lift (.enqueueDma arg6
    (.here (arg4.slice (Rect.unit (s := S32768x128) (k1_off2 i (BitVec.ofNat 32 (128 * r.val))) S128x128.size (k1_off2_inb i r)) (fun _ => rfl)))
    (.dma sB.sem) harg6.wordExact (View.wordExact_bits rfl) ⟨Or.inl rfl, trivial⟩)
  Prog.lift (.waitDma2 sB.sem arg6
    (arg4.slice (Rect.unit (s := S32768x128) (k1_off2 i (BitVec.ofNat 32 (128 * r.val))) S128x128.size (k1_off2_inb i r)) (fun _ => rfl))
    harg6.wordExact (View.wordExact_bits rfl))

/-- The semaphore of chunk `r`'s fetch, and of its write-out. -/
def semA : Fin 8 → DmaSems sig S_ :=
  ![cc1_scoped0, cc1_scoped2, cc1_scoped4, cc1_scoped6, cc1_scoped8, cc1_scoped10, cc1_scoped12, cc1_scoped14]
def semB : Fin 8 → DmaSems sig S_ :=
  ![cc1_scoped1, cc1_scoped3, cc1_scoped5, cc1_scoped7, cc1_scoped9, cc1_scoped11, cc1_scoped13, cc1_scoped15]

/-- The table, the row numbers, the output, and the two scratch buffers, as a vector subcore names them. -/
abbrev tV : Memref sig .scVector .hbm S65536x128 .f32 := Memref.whole main_v8_scv
abbrev iV : Memref sig .scVector .hbm S32768 .i32 := Memref.whole main_v9_scv
abbrev oV : Memref sig .scVector .hbm S32768x128 .f32 := Memref.whole main_v10_scv
abbrev sV : Memref sig .scVector .vmem S128 .i32 := Memref.whole cc1_scratch0
abbrev rV : Memref sig .scVector .vmem S128x128 .f32 := Memref.whole cc1_scratch1

/-- Chunk `r` on the program's own arrays, scratch and semaphores. -/
def chunkK (i : grid1.Coords) (r : Fin 8) : Prog (TpuEff nD τ sig (Elt F) Λ₀ (.scVector ((i 0).castLE hcore1) ((i 1).castLE hsub1))) PUnit :=
  chunk i tV iV oV sV (Memref.isWhole_whole _) rV (Memref.isWhole_whole _) cc1_scratch2 (semA r) (semB r) r

/-- Chunks run in order. -/
def chunks (i : grid1.Coords) : List (Fin 8) → Prog (TpuEff nD τ sig (Elt F) Λ₀ (.scVector ((i 0).castLE hcore1) ((i 1).castLE hsub1))) PUnit
  | [] => pure ⟨⟩
  | r :: l => chunkK i r >>= fun _ => chunks i l

/-- The task is its eight chunks. -/
theorem gk_eq (i : grid1.Coords) :
    cc1_gk (F := F) i tV (Memref.isWhole_whole _) iV (Memref.isWhole_whole _) oV (Memref.isWhole_whole _) sV (Memref.isWhole_whole _) rV (Memref.isWhole_whole _)
      cc1_scratch2 cc1_scoped0 cc1_scoped1 cc1_scoped2 cc1_scoped3 cc1_scoped4 cc1_scoped5 cc1_scoped6 cc1_scoped7 cc1_scoped8 cc1_scoped9 cc1_scoped10
      cc1_scoped11 cc1_scoped12 cc1_scoped13 cc1_scoped14 cc1_scoped15
      = chunks i [0, 1, 2, 3, 4, 5, 6, 7] := rfl

end Program

/-! ## The program as the launch theorem sees it -/

abbrev ΛP : Labels := Pipeline.Sig Λ₀ (Fin 2) fun p => (pcfgs (F := F) p).Adm
abbrev K : SparseCore.Cfg τ sig (ΛP (F := F)) 1 := sc (F := F)
abbrev 𝒱₀ : Variants := Variants.none

/-- The resource algebra: the handshakes' rounds, the pipeline's rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The HBM arrays of the call, as the device's TensorCore names them. -/
abbrev tLoc (d : Dev nD) : Loc nD τ sig := (SparseCore.T d).loc main_v8
abbrev iLoc (d : Dev nD) : Loc nD τ sig := (SparseCore.T d).loc main_v9
abbrev oLoc (d : Dev nD) : Loc nD τ sig := (SparseCore.T d).loc main_v10

/-- What the call computes: row `n` of the output is the table's row named by row number `n` (taken modulo the table's extent, so that the
    function is total; the numbers are in range). -/
def gath (t : S65536x128.Idx → Elt F .f32) (ids : S32768.Idx → BitVec 32) : S32768x128.Idx → Elt F .f32 := fun j =>
  t (ix2 ⟨(ids (ix1 (j 0))).toNat % 65536, Nat.mod_lt _ (by decide)⟩ (j 1))

section Values

variable (L : grid1.Coords) (r : Fin 8)

abbrev cV : Fin τ.nSC := (L 0).castLE hcore1
abbrev jV : Fin τ.nSub := (L 1).castLE hsub1
/-- The 128 row numbers of chunk `r`, its rows of the output, and all of the table, as the task addresses them. -/
abbrev iK : Memref sig .scVector .hbm S128 .i32 :=
  (iV).slice (Rect.unit (s := S32768) (k1_off1 L (BitVec.ofNat 32 (128 * r.val))) S128.size (k1_off1_inb L r)) (fun _ => rfl)
abbrev oK : Memref sig .scVector .hbm S128x128 .f32 :=
  (oV).slice (Rect.unit (s := S32768x128) (k1_off2 L (BitVec.ofNat 32 (128 * r.val))) S128x128.size (k1_off2_inb L r)) (fun _ => rfl)
abbrev tAll : Memref sig .scVector .hbm S65536x128 .f32 :=
  (tV).slice (Rect.unit (s := S65536x128) ![0, 0] S65536x128.size inb_S65536x128_S65536x128_0_0) (fun _ => rfl)
/-- The output elements chunk `r` writes. -/
abbrev oSet : Finset S32768x128.Idx := (oK L r).view.set

/-- The first row of chunk `r`. -/
abbrev row0 : ℕ := 2048 * (L 1).val + 1024 * (L 0).val + 128 * r.val

theorem emb_iK (x : S128.Idx) : ((iK L r).view.emb x 0).val = row0 L r + (x 0).val := by
  show (k1_off1 L (BitVec.ofNat 32 (128 * r.val))) 0 + 1 * (x 0).val = _
  rw [k1_off1_eq, Nat.one_mul]; rfl
theorem emb_oK_0 (x : S128x128.Idx) : ((oK L r).view.emb x 0).val = row0 L r + (x 0).val := by
  show (k1_off2 L (BitVec.ofNat 32 (128 * r.val))) 0 + 1 * (x 0).val = _
  rw [k1_off2_eq, Nat.one_mul]; rfl
theorem emb_oK_1 (x : S128x128.Idx) : (oK L r).view.emb x 1 = x 1 := by
  refine Fin.ext ?_
  show (k1_off2 L (BitVec.ofNat 32 (128 * r.val))) 1 + 1 * (x 1).val = _
  rw [k1_off2_eq, Nat.one_mul]; exact Nat.zero_add _

/-- All of the table, sliced whole, reads as its contents. -/
theorem read_tAll (t : S65536x128.Idx → Elt F .f32) : (tAll).view.read (Elt F) t = t := by
  funext x
  refine (View.read_apply _ _).trans ((cast_eq _ _).trans (congrArg t (funext fun a => Fin.ext ?_)))
  match a with
  | 0 => show 0 + 1 * (x 0).val = _; omega
  | 1 => show 0 + 1 * (x 1).val = _; omega

/-- The rows gathered for chunk `r` are the chunk's rows of `gath`. -/
theorem payload_eq (t : S65536x128.Idx → Elt F .f32) (ids : S32768.Idx → BitVec 32)
    (h : ∀ x, ((iK L r).view.read (Elt F) ids x).toNat < S65536x128.size gathers_S65536x128_S128x128.axis) (x : S128x128.Idx) :
    SparseCore.gatherPayload gathers_S65536x128_S128x128 t (SparseCore.rows (si := S128) ((iK L r).view.read (Elt F) ids) rfl h) x
      = gath t ids ((oK L r).view.emb x) := by
  unfold SparseCore.gatherPayload gath
  refine congrArg t (funext fun a => Fin.ext ?_)
  match a with
  | 0 =>
    refine (congrArg Fin.val (Shape.Gathers.idx_axis gathers_S65536x128_S128x128 _ x)).trans ?_
    have key : (iK L r).view.read (Elt F) ids (S128.rowMajor.symm ((x (gathers_S65536x128_S128x128.axis')).cast rfl)) = ids (ix1 ((oK L r).view.emb x 0)) := by
      refine (View.read_apply _ _).trans ((cast_eq _ _).trans (congrArg ids (funext fun a => Fin.ext ?_)))
      match a with
      | 0 =>
        rw [emb_iK]; refine Eq.trans ?_ (emb_oK_0 L r x).symm
        refine congrArg (row0 L r + ·) ?_
        rw [← Shape.rowMajor_val_one (d := ![128]) (S128.rowMajor.symm _)]
        exact congrArg Fin.val (Equiv.apply_symm_apply S128.rowMajor _)
    show ((iK L r).view.read (Elt F) ids (S128.rowMajor.symm _)).toNat = (ids (ix1 ((oK L r).view.emb x 0))).toNat % 65536
    rw [Nat.mod_eq_of_lt]
    · exact congrArg BitVec.toNat key
    · exact key ▸ h _
  | 1 =>
    refine (Shape.Gathers.idx_of_ne gathers_S65536x128_S128x128 _ x 1 (by decide)).trans ?_
    exact congrArg Fin.val (emb_oK_1 L r x).symm

/-- On the chunk's elements, the output written with the gathered rows is `gath`. -/
theorem written_eq (t : S65536x128.Idx → Elt F .f32) (ids : S32768.Idx → BitVec 32) (o : S32768x128.Idx → Elt F .f32) (w : S128x128.Idx → Elt F .f32)
    (h : ∀ x, ((iK L r).view.read (Elt F) ids x).toNat < S65536x128.size gathers_S65536x128_S128x128.axis)
    (hw : w = SparseCore.gatherPayload gathers_S65536x128_S128x128 t (SparseCore.rows (si := S128) ((iK L r).view.read (Elt F) ids) rfl h)) :
    ∀ i ∈ oSet L r, (oK L r).view.write (Elt F) o w Finset.univ i = gath t ids i := by
  intro i hi
  obtain ⟨x, -, rfl⟩ := Finset.mem_map.mp hi
  rw [View.write_emb_of_mem _ _ (Finset.mem_univ x), hw]
  exact (cast_eq _ _).trans (payload_eq L r t ids h x)

end Values

end Cert.Proof.WGather

end
-- ==== Proof.WTile.lean ====
/-
  The triple of one chunk of a vector subcore's task, and by induction on the list of chunks that of the task: from shares of the table and of the row
  numbers and the task's pieces of the output, to the same with every piece at the gathered rows.
-/
module

public import proofs.«01_k».proof.Proof.WChunk

@[expose] public section

set_option maxRecDepth 16384

noncomputable section

namespace Cert.Proof.WGather

open Cert.WholeIdeal Cert.WholeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords) (q : PosShare TreeShare)
variable (t : Buf (Elt F) (tLoc d)) (ids : Buf (Elt F) (iLoc d))

abbrev thr : Thread nD τ := V d (cV L) (jV L)

/-- The share of the table and of the row numbers a task holds. -/
abbrev reads : sProp 𝕄 := iprop((tLoc d ↦{q} t) ∗ (iLoc d ↦{q} ids))
/-- The task's two scratch buffers and the gather's semaphore, which every chunk uses again. -/
abbrev scratch : sProp 𝕄 := iprop((∃ f, (thr d L).loc cc1_scratch0 ↦{fullShare} f) ∗ (∃ f, (thr d L).loc cc1_scratch1 ↦{fullShare} f)
  ∗ semVal (thr d L, .dma cc1_scratch2.sem) 0)
/-- Chunk `r`'s piece of the output, and its two semaphores. -/
abbrev piece (r : Fin 8) (o : Buf (Elt F) (oLoc d)) : sProp 𝕄 := oLoc d ↦[oSet L r]{fullShare} o
abbrev sems (r : Fin 8) : sProp 𝕄 := iprop(semVal (thr d L, .dma (semA r).sem) 0 ∗ semVal (thr d L, .dma (semB r).sem) 0)
/-- The task's debts, with the waits it has recorded. -/
abbrev debts (O : CellTallies nD τ sig (HIx 1)) (W : Waits sig (HIx 1)) : sProp 𝕄 :=
  iprop(∃ W', ⌜∀ p ∈ W', p ∈ W ∨ p.2 = none⌝ ∗ owes (thr d L) O W')

/-- The row numbers are rows of the table. -/
def InRange (ids : S32768.Idx → BitVec 32) : Prop := ∀ x, (ids x).toNat < 65536

/-- Row numbers in range keep a chunk's gather within the table. -/
theorem inb_of_range (hin : InRange ids) (r : Fin 8) : ∀ x, ((iK L r).view.read (Elt F) ids x).toNat < S65536x128.size gathers_S65536x128_S128x128.axis :=
  fun x => hin ((iK L r).view.emb x)

/-- The gathered rows' credits sum to the row buffer's. -/
theorem credit_rows : ∑ j, ((rV).slice (S128x128.rowRect gathers_S65536x128_S128x128.axis' j) (S128x128.stride_rowRect gathers_S65536x128_S128x128.axis' j)).view.dmaCredit
    = (rV).view.dmaCredit := by
  refine (Finset.sum_const ((rV).view.ref.dmaCredit (S128x128.rowShape gathers_S65536x128_S128x128.axis') .f32)).trans ?_
  rw [Finset.card_univ, Fintype.card_fin]
  decide

set_option maxHeartbeats 4000000 in
/-- One chunk: its row numbers fetched, their rows of the table gathered and written out. -/
theorem chunk_wp (hin : InRange ids) (r : Fin 8) (o : Buf (Elt F) (oLoc d)) (O : CellTallies nD τ sig (HIx 1)) (W : Waits sig (HIx 1)) (hO : ∀ g, O g none = 0) :
    iprop(levAts (K (F := F)).L (K (F := F)).lev ∗ reads d q t ids ∗ scratch d L ∗ piece d L r o ∗ sems d L r ∗ owes (thr d L) O W)
      ⊢ wp frame (wpE (defs₀ (F := F)) 𝒱₀ (thr d L) none) Set.univ (chunkK L r)
          fun _ => iprop(reads d q t ids ∗ scratch d L ∗ piece d L r (gath t ids) ∗ sems d L r ∗ debts d L O W) := by
  unfold chunkK chunk
  iintro ⟨#Hlv, ⟨Ht, Hi⟩, ⟨⟨%fs, Hs⟩, ⟨%fr, Hr⟩, HsemG⟩, Ho, ⟨HsemA, HsemB⟩, HO⟩
  ihave Hmw := (show levAts (K (F := F)).L (K (F := F)).lev ⊢ Transfers.MayWaits (thr d L) (default : HIx 1) O from
    (K (F := F)).mayWaits_none (thr := thr d L) hO) $$ Hlv
  ihave Hi' := (pointsTo_split_subset (ℓ := (iK L r).view.loc (thr d L)) (q := q) (f := ids) (S := Finset.univ) (Finset.subset_univ (iK L r).view.set)).1 $$ Hi
  icases Hi' with ⟨Hi, Hirest⟩
  ihave Hs' := (Entails.of_eq (show ((thr d L).loc cc1_scratch0 ↦{fullShare} fs : sProp 𝕄) = (sV).view.loc (thr d L) ↦{fullShare} fs from rfl)) $$ Hs
  ihave Hr' := (Entails.of_eq (show ((thr d L).loc cc1_scratch1 ↦{fullShare} fr : sProp 𝕄) = (rV).view.loc (thr d L) ↦{fullShare} fr from rfl)) $$ Hr
  ihave Ho' := (Entails.of_eq (show (piece d L r o : sProp 𝕄) = (oK L r).view.loc (thr d L) ↦[(oK L r).view.set]{fullShare} o from rfl)) $$ Ho
  sl_exec
  have hrs : (rV).view.set = Finset.univ := View.set_whole _
  have hss : (sV).view.set = Finset.univ := View.set_whole _
  ihave Hs2 := (Entails.of_eq (show ((sV).view.loc (thr d L) ↦{fullShare} View.write (Elt F) (sV).view fs (chunk_wp.sl.dma0 d L ids r) Finset.univ : sProp 𝕄)
      = (sV).view.loc (thr d L) ↦[(sV).view.set]{fullShare} (iK L r).view.read (Elt F) ids by
        rw [hss]; exact congrArg _ (View.write_whole_univ _ _ _))) $$ Hs'
  ihave Hr2 := (Entails.of_eq (show ((rV).view.loc (thr d L) ↦{fullShare} fr : sProp 𝕄)
      = (rV).view.loc (thr d L) ↦[(rV).view.set]{fullShare} fr by rw [hrs])) $$ Hr'
  ihave Hts := (pointsTo_split_subset (ℓ := (tAll).view.loc (thr d L)) (q := q) (f := t) (S := Finset.univ) (Finset.subset_univ (tAll).view.set)).1 $$ Ht
  icases Hts with ⟨Hts, Htr⟩
  iapply (SparseCore.wp_indirectGatherLocal countersEmb 𝒱₀ (thr d L) none (hg := gathers_S65536x128_S128x128) (fo := (iK L r).view.read (Elt F) ids) (default : HIx 1)
      (rV).view.dmaCredit credit_rows (by decide) (inb_of_range d L ids hin r)) $$ [Hts Hr2 Hs2 HsemG]
  · isplitl [Hts]; · iexact Hts
    isplitl [Hr2]; · iexact Hr2
    isplitl [Hs2]; · iexact Hs2
    iexact HsemG
  iintro Hfl
  sl_exec
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr2, Hts, Hs2⟩, HsemG, HO⟩
  ihave Ht := (pointsTo_split_subset (ℓ := (tAll).view.loc (thr d L)) (q := q) (f := t) (S := Finset.univ) (Finset.subset_univ (tAll).view.set)).2 $$ [Hts Htr]
  · isplitl [Hts] <;> iassumption
  ihave Hr3 := (Entails.of_eq (show ((rV).view.loc (thr d L) ↦[(rV).view.set]{fullShare} _ : sProp 𝕄)
      = (rV).view.loc (thr d L) ↦{fullShare} _ by rw [hrs])) $$ Hr2
  ihave Hs3 := (Entails.of_eq (show ((sV).view.loc (thr d L) ↦[(sV).view.set]{fullShare} _ : sProp 𝕄)
      = (sV).view.loc (thr d L) ↦{fullShare} _ by rw [hss])) $$ Hs2
  sl_exec
  have hw : chunk_wp.sl.dma0_1 d L t ids hin r fr
      = SparseCore.gatherPayload gathers_S65536x128_S128x128 t (SparseCore.rows (si := S128) ((iK L r).view.read (Elt F) ids) rfl (inb_of_range d L ids hin r)) := by
    refine Eq.trans (b := (rV).view.write (Elt F) fr (SparseCore.gatherPayload gathers_S65536x128_S128x128 ((tAll).view.read (Elt F) t)
      (SparseCore.rows (si := S128) ((iK L r).view.read (Elt F) ids) rfl (inb_of_range d L ids hin r))) Finset.univ) rfl ?_
    refine (View.write_whole_univ _ _ _).trans ?_
    exact congrArg (fun u => SparseCore.gatherPayload gathers_S65536x128_S128x128 u _) (read_tAll t)
  have hfin : ∀ i ∈ oSet L r, (oK L r).view.writes (Elt F) o [⟨Rect.whole S128x128, chunk_wp.sl.dma0_1 d L t ids hin r fr⟩] i = gath t ids i := fun i hi =>
    (congrFun (View.write_univ_eq_writes_whole (oK L r).view o [] (chunk_wp.sl.dma0_1 d L t ids hin r fr)) i).symm.trans
      (written_eq L r t ids o _ (inb_of_range d L ids hin r) hw i hi)
  sl_step
  isplitl [Ht Hirest]
  · isplitl [Ht]; · iexact Ht
    iexact Hirest
  isplitl [Hs3 Hr3 HsemG]
  · isplitl [Hs3]; · iexists _; iexact Hs3
    isplitl [Hr3]; · iexists _; iexact Hr3
    iexact HsemG
  isplitl [Ho']
  · iapply (Entails.of_eq (pointsTo_congr (ℓ := oLoc d) (q := fullShare) hfin)); iexact Ho'
  isplitl [HsemA HsemB]; · isplitl [HsemA] <;> iassumption
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The eight chunks' pieces of the output, each at its own contents, and their semaphores. -/
abbrev pieces (o : Fin 8 → Buf (Elt F) (oLoc d)) : sProp 𝕄 := bigSep Finset.univ fun r : Fin 8 => piece d L r (o r)
abbrev allSems : sProp 𝕄 := bigSep Finset.univ fun r : Fin 8 => sems (F := F) d L r

/-- A list of chunks: the pieces of the chunks in it are left at the gathered rows, the others' untouched. -/
theorem chunks_wp (hin : InRange ids) (O : CellTallies nD τ sig (HIx 1)) (hO : ∀ g, O g none = 0) :
    ∀ (l : List (Fin 8)) (o : Fin 8 → Buf (Elt F) (oLoc d)) (W : Waits sig (HIx 1)),
    iprop(levAts (K (F := F)).L (K (F := F)).lev ∗ reads d q t ids ∗ scratch d L ∗ pieces d L o ∗ allSems d L ∗ owes (thr d L) O W)
      ⊢ wp frame (wpE (defs₀ (F := F)) 𝒱₀ (thr d L) none) Set.univ (chunks L l)
          fun _ => iprop(reads d q t ids ∗ scratch d L ∗ pieces d L (fun r => if r ∈ l then gath t ids else o r) ∗ allSems d L ∗ debts d L O W)
  | [], o, W => by
    show _ ⊢ wp frame _ _ (.ret _) _
    rw [wp_ret]
    iintro ⟨-, Hr, Hs, Hp, Hm, HO⟩
    imodintro
    isplitl [Hr]; · iexact Hr
    isplitl [Hs]; · iexact Hs
    isplitl [Hp]; · simp only [List.not_mem_nil, ↓reduceIte]; iexact Hp
    isplitl [Hm]; · iexact Hm
    iexists W; isplitr
    · ipureintro; exact fun p hp => .inl hp
    · iexact HO
  | r :: l, o, W => by
    have ih := fun W => chunks_wp hin O hO l (Function.update o r (gath t ids)) W
    have hp : ∀ o : Fin 8 → Buf (Elt F) (oLoc d), (pieces d L o : sProp 𝕄) = iprop(piece d L r (o r) ∗ bigSep (Finset.univ.erase r) fun r => piece d L r (o r)) :=
      fun o => SparseCore.bigSep_erase' (Finset.mem_univ r)
    have hm : (allSems (F := F) d L : sProp 𝕄) = iprop(sems d L r ∗ bigSep (Finset.univ.erase r) fun r => sems d L r) := SparseCore.bigSep_erase' (Finset.mem_univ r)
    have he : (bigSep (Finset.univ.erase r) fun r => piece d L r (o r) : sProp 𝕄) = bigSep (Finset.univ.erase r) fun r' => piece d L r' (Function.update o r (gath t ids) r') :=
      bigSep_congr fun r' h => by rw [Function.update_of_ne (Finset.ne_of_mem_erase h)]
    have hl : (fun r' => if r' ∈ l then gath t ids else Function.update o r (gath t ids) r') = fun r' => if r' ∈ r :: l then gath t ids else o r' := by
      funext r'
      by_cases h : r' = r
      · subst h; simp
      · simp [h]
    show _ ⊢ wp frame _ _ (chunkK L r >>= fun _ => chunks L l) _
    rw [wp_bind, hp o]
    iintro ⟨#Hlv, Hr, Hs, ⟨Hp, Hps⟩, Hm, HO⟩
    ihave Hm' := (Entails.of_eq hm) $$ Hm
    icases Hm' with ⟨Hm, Hms⟩
    iapply (wp_wand_r frame _ Set.univ)
    isplitl [Hr Hs Hp Hm HO]
    · iapply (chunk_wp d L q t ids hin r (o r) O W hO)
      isplitr; · iexact Hlv
      isplitl [Hr]; · iexact Hr
      isplitl [Hs]; · iexact Hs
      isplitl [Hp]; · iexact Hp
      isplitl [Hm]; · iexact Hm
      iexact HO
    iintro %_ ⟨Hr, Hs, Hp, Hm, %W', %hW', HO⟩
    iapply (wp_wand_r frame _ Set.univ)
    isplitl [Hr Hs Hp Hps Hm Hms HO]
    · iapply (ih W')
      isplitr; · iexact Hlv
      isplitl [Hr]; · iexact Hr
      isplitl [Hs]; · iexact Hs
      isplitl [Hp Hps]
      · rw [hp, ← he, Function.update_self]
        isplitl [Hp]; · iexact Hp
        iexact Hps
      isplitl [Hm Hms]
      · iapply (Entails.of_eq hm.symm)
        isplitl [Hm] <;> iassumption
      iexact HO
    iintro %_ ⟨Hr, Hs, Hp, Hm, %W'', %hW'', HO⟩
    isplitl [Hr]; · iexact Hr
    isplitl [Hs]; · iexact Hs
    isplitl [Hp]; · rw [← hl]; iexact Hp
    isplitl [Hm]; · iexact Hm
    iexists W''; isplitr
    · ipureintro; exact fun p hp => (hW'' p hp).elim (hW' p) .inr
    · iexact HO

/-- The task's seventeen semaphores: each chunk's two and the gather's. -/
def semOf : (Fin 8 ⊕ Fin 8) ⊕ Unit → SemLoc sig
  | .inl (.inl r) => .dma (semA r).sem
  | .inl (.inr r) => .dma (semB r).sem
  | .inr _ => .dma cc1_scratch2.sem

theorem semOf_inj : Function.Injective semOf := by decide
theorem semOf_scoped : ∀ x, (semOf x).isScoped .scVector = true := by decide

def cellOf : (Fin 8 ⊕ Fin 8) ⊕ Unit ↪ GSem nD τ sig := ⟨fun x => (thr d L, semOf x), fun _ _ h => semOf_inj (congrArg Prod.snd h)⟩

/-- They are among the subcore's own: the own semaphores are them and the rest. -/
theorem ownSems0_V :
    (ownSems0 (thr d L) : sProp 𝕄)
      = iprop((allSems (F := F) d L ∗ semVal (thr d L, .dma cc1_scratch2.sem) 0) ∗ bigSep (ownCells (thr d L) \ Finset.univ.map (cellOf d L)) fun g => semVal g 0) := by
  unfold SparseCore.Cfg.ownSems0
  rw [bigSep_sdiff_split (t := Finset.univ.map (cellOf d L)) (fun g hg => by
    obtain ⟨x, -, rfl⟩ := Finset.mem_map.mp hg
    exact mem_ownCells.mpr ⟨rfl, semOf_scoped x⟩), bigSep_map, bigSep_univ_sum, bigSep_univ_sum, bigSep_univ_of_subsingleton ()]
  unfold allSems
  rw [bigSep_sep']
  rfl

/-- The two scratch buffers are among the subcore's own: the own buffers are them, at some contents, and the rest. -/
theorem ownBufs_V :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- The whole task, from its shares, its own buffers and its own semaphores. -/
theorem task_wp (hF : (K (F := F)).Facts) (hin : InRange ids) (o : Buf (Elt F) (oLoc d)) (O : CellTallies nD τ sig (HIx 1)) (W : Waits sig (HIx 1)) (hO : ∀ g, O g none = 0) :
    iprop(levAts (K (F := F)).L (K (F := F)).lev ∗ emp ∗ (reads d q t ids ∗ pieces d L fun _ => o)
        ∗ scopedBufs (thr d L) ∗ scopedSems0 (thr d L) ∗ owes (thr d L) O W)
      ⊢ wp frame (wpE (defs₀ (F := F)) 𝒱₀ (thr d L) none) Set.univ (chunks L [0, 1, 2, 3, 4, 5, 6, 7])
          fun _ => iprop((reads d q t ids ∗ pieces d L fun _ => gath t ids) ∗ scopedBufs (thr d L) ∗ scopedSems0 (thr d L) ∗ debts d L O W) := by
  have hall : (fun r : Fin 8 => if r ∈ [0, 1, 2, 3, 4, 5, 6, 7] then gath t ids else o) = fun _ => gath t ids :=
    funext fun r => if_pos (by revert r; decide)
  rw [(K (F := F)).scopedBufs_V hF d (cV L) (jV L), SparseCore.Cfg.scopedSems0_V (Val := Elt F) d (cV L) (jV L), ownSems0_V, ownBufs_V]
  iintro ⟨#Hlv, -, ⟨Hr, Hp⟩, ⟨Hs0, Hs1, Hbufs⟩, ⟨⟨Hm, HG⟩, Hsems⟩, HO⟩
  iapply (wp_wand_r frame _ Set.univ)
  isplitl [Hr Hp Hs0 Hs1 Hm HG HO]
  · iapply (chunks_wp d L q t ids hin O hO [0, 1, 2, 3, 4, 5, 6, 7] (fun _ => o) W)
    isplitr; · iexact Hlv
    isplitl [Hr]; · iexact Hr
    isplitl [Hs0 Hs1 HG]
    · isplitl [Hs0]; · iexact Hs0
      isplitl [Hs1]; · iexact Hs1
      iexact HG
    isplitl [Hp]; · iexact Hp
    isplitl [Hm]; · iexact Hm
    iexact HO
  iintro %_ ⟨Hr, ⟨Hs0, Hs1, HG⟩, Hp, Hm, HO⟩
  isplitl [Hr Hp]
  · isplitl [Hr]; · iexact Hr
    rw [← hall]; iexact Hp
  isplitl [Hs0 Hs1 Hbufs]
  · isplitl [Hs0]; · iexact Hs0
    isplitl [Hs1]; · iexact Hs1
    iexact Hbufs
  isplitl [Hm HG Hsems]
  · isplitl [Hm HG]; · isplitl [Hm] <;> iassumption
    iexact Hsems
  iexact HO

end Cert.Proof.WGather

end
-- ==== Proof.WCall.lean ====
/-
  The SparseCore call: what its handshakes carry, the obligation of each vector subcore's task, and the split of the call's arrays among the tasks — to
  each a share of the table and of the row numbers, and its eight pieces of the output, which the pieces of all tasks make up.
-/
module

public import proofs.«01_k».proof.Proof.WTile

@[expose] public section

set_option maxRecDepth 16384

noncomputable section

namespace Cert.Proof.WGather

open Cert.WholeIdeal Cert.WholeIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The coordinates of task `(c, s)`, and the share of the table and of the row numbers it reads by: one of thirty-two. -/
def coordsV (c : Fin 2) (s : Fin 16) : grid1.Coords :=
  fun | 0 => c | 1 => s | ⟨_ + 2, h⟩ => absurd h (Nat.not_lt.2 (Nat.le_add_left _ _))
def share (x : Fin 2 × Fin 16) : PosShare TreeShare := pieceOf fullShare 32 (by decide) (finProdFinEquiv x)

-- The contents of the table, of the row numbers, and of the output when the call starts.
variable (t : (d : Dev nD) → Buf (Elt F) (tLoc d)) (ids : (d : Dev nD) → Buf (Elt F) (iLoc d)) (o : (d : Dev nD) → Buf (Elt F) (oLoc d))

/-- What task `(c, s)` is given, the output at `f`. -/
def task (d : Dev nD) (c : Fin 2) (s : Fin 16) (f : Buf (Elt F) (oLoc d)) : sProp 𝕄 :=
  iprop(reads d (share (c, s)) (t d) (ids d) ∗ pieces d (coordsV c s) fun _ => f)
/-- What a core is given: its sixteen tasks'. -/
def core (d : Dev nD) (c : Fin 2) (f : Buf (Elt F) (oLoc d)) : sProp 𝕄 := bigSep Finset.univ fun s : Fin 16 => task t ids d c s f

instance (d : Dev nD) (c : Fin 2) (s : Fin 16) (f : Buf (Elt F) (oLoc d)) : BI.Storable (upEmb : UEmb _ 𝕄) (task t ids d c s f) := by
  unfold task; infer_instance
instance (d : Dev nD) (c : Fin 2) (f : Buf (Elt F) (oLoc d)) : BI.Storable (upEmb : UEmb _ 𝕄) (core t ids d c f) := by
  unfold core; infer_instance

def P : (K (F := F)).Pay (nD := nD) (Val := Elt F) (Name := ℕ) (U := UU) where
  st := fun q d c => match q with | 0 => core t ids d c (o d)
  dn := fun q d c => match q with | 0 => core t ids d c (gath (t d) (ids d))
  go := fun q d c i => match q with | 0 => task t ids d c i (o d)
  td := fun q d c i => match q with | 0 => task t ids d c i (gath (t d) (ids d))
  x := fun _ _ => iprop(emp)

instance P_storable : (P t ids o).IsStorable where
  st q d c := match q with | 0 => (inferInstance : BI.Storable (upEmb : UEmb _ 𝕄) (core t ids d c (o d)))
  dn q d c := match q with | 0 => (inferInstance : BI.Storable (upEmb : UEmb _ 𝕄) (core t ids d c (gath (t d) (ids d))))
  go q d c i := match q with | 0 => (inferInstance : BI.Storable (upEmb : UEmb _ 𝕄) (task t ids d c i (o d)))
  td q d c i := match q with | 0 => (inferInstance : BI.Storable (upEmb : UEmb _ 𝕄) (task t ids d c i (gath (t d) (ids d))))

/-- A core's part of the call is its tasks' parts. -/
theorem vecSplit : (K (F := F)).VecSplit' (P t ids o) 0 := by
  intro d c
  show core t ids d c (o d) ⊢ |={Set.univ}=> iprop((bigSep Finset.univ fun s : Fin 16 => task t ids d c s (o d))
    ∗ ((bigSep Finset.univ fun s : Fin 16 => task t ids d c s (gath (t d) (ids d))) -∗ core t ids d c (gath (t d) (ids d))))
  unfold core
  iintro H; imodintro
  isplitl [H]; · iexact H
  iintro H; iexact H

/-- A subcore's body at the call is the task's chunks at its coordinates. -/
theorem defs₀_vector (c : Fin 2) (s : Fin 16) :
    defs₀ (F := F) (.scVector (c.castLE hcore1) (s.castLE hsub1)) 1 () = chunks (coordsV c s) [0, 1, 2, 3, 4, 5, 6, 7] :=
  (show _ = SparseCore.onTile hcore1 hsub1 (fun c s => chunks (F := F) (coordsV c s) [0, 1, 2, 3, 4, 5, 6, 7]) ⟨⟩ (c.castLE hcore1) (s.castLE hsub1)
    from rfl).trans (dif_pos ⟨c.isLt, s.isLt⟩)

/-- A task does its part. -/
theorem tileObl (hin : ∀ d, InRange (ids d)) : (K (F := F)).TileObl (D (F := F)) 𝒱 (P t ids o) v₀ 0 := by
  intro d c i O W hO _ _
  simp only [show (P t ids o).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [show defs₀ (F := F) (.scVector ((K (F := F)).core 0 c) ((K (F := F)).sub 0 i)) 1 () = _ from defs₀_vector c i]
  refine (task_wp d (coordsV c i) (share (c, i)) (t d) (ids d) facts (hin d) (o d) O W hO).trans (wp_mono frame _ _ fun _ => ?_)
  show _ ⊢ iprop(task t ids d c i (gath (t d) (ids d)) ∗ _)
  unfold task
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## The output is its tasks' pieces -/

omit [FloatOps F] in
/-- Chunk `r` of a task is the rows from its first on. -/
theorem mem_oSet (L : grid1.Coords) (r : Fin 8) (j : S32768x128.Idx) : j ∈ oSet L r ↔ row0 L r ≤ (j 0).val ∧ (j 0).val < row0 L r + 128 := by
  constructor
  · intro h
    obtain ⟨x, -, rfl⟩ := Finset.mem_map.mp h
    have := (x 0).isLt
    have h128 : S128x128.size 0 = 128 := rfl
    rw [emb_oK_0]; omega
  · rintro ⟨h1, h2⟩
    refine Finset.mem_map.mpr ⟨ix2 ⟨(j 0).val - row0 L r, by omega⟩ (j 1), Finset.mem_univ _, funext fun a => ?_⟩
    match a with
    | 0 => exact Fin.ext ((emb_oK_0 L r _).trans (Nat.add_sub_cancel' h1))
    | 1 => exact emb_oK_1 L r _

/-- The pieces, by core, subcore and chunk. -/
abbrev pieceSet (x : (Fin 2 × Fin 16) × Fin 8) : Finset S32768x128.Idx := oSet (coordsV x.1.1 x.1.2) x.2
abbrev first (x : (Fin 2 × Fin 16) × Fin 8) : ℕ := 2048 * x.1.2.val + 1024 * x.1.1.val + 128 * x.2.val

/-- The chunks' rows are apart -/
theorem pieces_disjoint : ∀ x ∈ (Finset.univ : Finset ((Fin 2 × Fin 16) × Fin 8)), ∀ y ∈ (Finset.univ : Finset ((Fin 2 × Fin 16) × Fin 8)),
    x ≠ y → Disjoint (pieceSet x) (pieceSet y) := by
  rintro ⟨⟨c, s⟩, r⟩ - ⟨⟨c', s'⟩, r'⟩ - h
  refine Finset.disjoint_left.mpr fun j hj hj' => h ?_
  obtain ⟨h1, h2⟩ := (mem_oSet _ _ j).mp hj
  obtain ⟨h3, h4⟩ := (mem_oSet _ _ j).mp hj'
  have e1 : row0 (coordsV c s) r = 2048 * s.val + 1024 * c.val + 128 * r.val := rfl
  have e2 : row0 (coordsV c' s') r' = 2048 * s'.val + 1024 * c'.val + 128 * r'.val := rfl
  have := c.isLt; have := c'.isLt; have := s.isLt; have := s'.isLt; have := r.isLt; have := r'.isLt
  rw [e1] at h1 h2; rw [e2] at h3 h4
  have a1 : s = s' := Fin.ext (by omega)
  have a2 : c = c' := Fin.ext (by omega)
  have a3 : r = r' := Fin.ext (by omega)
  rw [a1, a2, a3]

/-- and together are all rows. -/
theorem pieces_cover : (Finset.univ : Finset ((Fin 2 × Fin 16) × Fin 8)).biUnion pieceSet = Finset.univ := by
  refine Finset.eq_univ_iff_forall.mpr fun j => Finset.mem_biUnion.mpr ?_
  have hj : (j 0).val < 32768 := (j 0).isLt
  refine ⟨((⟨(j 0).val / 1024 % 2, by omega⟩, ⟨(j 0).val / 2048, by omega⟩), ⟨(j 0).val / 128 % 8, by omega⟩), Finset.mem_univ _, (mem_oSet _ _ j).mpr ?_⟩
  show 2048 * ((j 0).val / 2048) + 1024 * ((j 0).val / 1024 % 2) + 128 * ((j 0).val / 128 % 8) ≤ (j 0).val
    ∧ (j 0).val < 2048 * ((j 0).val / 2048) + 1024 * ((j 0).val / 1024 % 2) + 128 * ((j 0).val / 128 % 8) + 128
  omega

/-- An array held whole is a share of it for every task. -/
theorem shares_eq {ℓ : Loc nD τ sig} (f : Buf (Elt F) ℓ) :
    (ℓ ↦{fullShare} f : sProp 𝕄) = bigSep Finset.univ fun x : Fin 2 × Fin 16 => ℓ ↦{share x} f :=
  (pointsTo_piecesOf Finset.univ f (by decide) fullShare).trans (bigSep_univ_equiv finProdFinEquiv _)

/-- The call's arrays, held whole, are what its two cores are given. -/
theorem cores_eq (d : Dev nD) (f : Buf (Elt F) (oLoc d)) :
    (iprop((tLoc d ↦{fullShare} t d) ∗ (iLoc d ↦{fullShare} ids d) ∗ oLoc d ↦{fullShare} f) : sProp 𝕄) = bigSep Finset.univ fun c : Fin 2 => core t ids d c f := by
  unfold core task
  rw [← bigSep_univ_prod (fun x : Fin 2 × Fin 16 => iprop(reads d (share x) (t d) (ids d) ∗ pieces d (coordsV x.1 x.2) fun _ => f)), bigSep_sep', bigSep_sep',
    ← shares_eq, ← shares_eq,
    ← bigSep_univ_prod (fun x : (Fin 2 × Fin 16) × Fin 8 => (oLoc d ↦[pieceSet x]{fullShare} f : sProp 𝕄)),
    ← pointsTo_biUnion Finset.univ (ℓ := oLoc d) pieceSet pieces_disjoint, pieces_cover]
  exact Entails.antisymm Idealize.SL.BI.sep_assoc' Idealize.SL.BI.sep_assoc

end Cert.Proof.WGather

end
-- ==== Proof.TopkBody.lean ====
/-
  The TensorCore top eight: its body on its five staging buffers and six scratch buffers, as a function of what they hold.
-/
module

public import proofs.«01_k».proof.Proof.WCall
public import proofs.«01_k».proof.Proof.Gen.WholeIdeal.Launch
public import proofs.«01_k».proof.Proof.Gen.WholeIdeal.Points
public import proofs.«01_k».proof.Proof.Gen.WholeIdeal.Skeleton
public import Idealize.ShloMosaic.Lib.Tactic
public import Idealize.ShloMosaic.Lib.Pipeline.RegionsLoop
public import Idealize.ShloMosaic.Lib.Pipeline.FrameBody

@[expose] public section

set_option maxRecDepth 65536

noncomputable section

namespace Cert.Proof.TopkBody

open Cert.WholeIdeal Cert.WholeIdeal.Gen Cert.Proof.WGather

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- What the six scratch buffers hold: the fronts of the block's pairs and their columns, the backs and theirs, the eight best values and their columns. -/
structure St (F : FTy → Type) [FloatOps F] where
  lov : Vec F S512x1024 .f32
  loi : Vec F S512x1024 .i32
  hiv : Vec F S512x1024 .f32
  hii : Vec F S512x1024 .i32
  rv : Vec F S512x8 .f32
  ri : Vec F S512x8 .i32

/-- The slots' numbers. -/
def slotNo : IVec S512x8 32 := iota .tc S512x8 32 [1] iota_S512x8_d1_w32

/-- The state once the first column left has been taken and put in its place. -/
def ext (s : St F) : St F where
  lov := k0_pay3 s.lov s.loi (k0_pay17 s.lov s.loi) s.hiv
  loi := k0_pay4 s.loi (k0_pay17 s.lov s.loi) s.hii
  hiv := k0_pay5 s.loi (k0_pay17 s.lov s.loi) s.hiv
  hii := s.hii
  rv := k0_pay20 slotNo s.lov s.loi s.rv s.ri
  ri := k0_pay1 s.ri (k0_pay19 s.ri) (k0_pay21 slotNo s.lov s.loi s.rv s.ri) (k0_pay22 slotNo s.lov s.loi s.rv s.ri) (k0_pay23 s.lov s.loi)

/-- Whether column number `t` is taken, of `n` to take. -/
def goes (n : BitVec 32) (t : BitVec 32) : Prop := Scalar.cmpi .ne (Scalar.extui (Scalar.cmpi .sgt n t) : BitVec 32) 0#32 = 1#1
instance (n t : BitVec 32) : Decidable (goes n t) := inferInstanceAs (Decidable (_ = _))

/-- The state after that many steps at most. -/
def stp (n : BitVec 32) (t : BitVec 32) (s : St F) : St F := if goes n t then ext s else s
/-- The steps of a block, as far as `n` says. -/
def steps (n : BitVec 32) (s : St F) : St F :=
  stp n 7#32 (stp n 6#32 (stp n 5#32 (stp n 4#32 (stp n 3#32 (stp n 2#32 (stp n 1#32 (stp n 0#32 s)))))))

/-- How many columns are taken of a block. -/
def need (q : Vec F S512x3 .f32) (p : Vec F S2048x3 .f32) (qs : Vec F S512x1 .f32) (ps : Vec F S2048 .f32) (rv : Vec F S512x8 .f32) : BitVec 32 :=
  Scalar.minsi (extractAt ![0, 0] (k0_pay83 q p qs ps rv) inpos_S1x1_p0_0) 8#32

/-- The state once a block is folded in pairs, the slots `rv`, `ri`. -/
def folded (i : grid0.Coords) (q : Vec F S512x3 .f32) (p : Vec F S2048x3 .f32) (qs : Vec F S512x1 .f32) (ps : Vec F S2048 .f32) (rv : Vec F S512x8 .f32) (ri : Vec F S512x8 .i32) : St F where
  lov := k0_pay90 (k0_pay89 q p qs ps)
  loi := k0_pay91 (k0_pay86 i) (k0_pay87 i) (k0_pay88 q p qs ps)
  hiv := k0_pay92 (k0_pay84 q p qs ps) (k0_pay85 q p qs ps) (k0_pay88 q p qs ps)
  hii := k0_pay93 (k0_pay86 i) (k0_pay87 i) (k0_pay88 q p qs ps)
  rv := rv
  ri := ri

/-- The state after a block, of the state before it. -/
def blockSt (i : grid0.Coords) (q : Vec F S512x3 .f32) (p : Vec F S2048x3 .f32) (qs : Vec F S512x1 .f32) (ps : Vec F S2048 .f32) (rv : Vec F S512x8 .f32) (ri : Vec F S512x8 .i32) : St F :=
  steps (need q p qs ps rv) (folded i q p qs ps rv ri)

/-- Whether the block is its rows' first. -/
def isFirst (i : grid0.Coords) : Prop := Scalar.cmpi .ne (Scalar.extui (Scalar.cmpi .eq (BitVec.ofNat 32 (i 1).val) 0#32) : BitVec 32) 0#32 = 1#1
instance (i : grid0.Coords) : Decidable (isFirst i) := inferInstanceAs (Decidable (_ = _))

/-- Memref `M`'s buffer on core `c`, whole at `f`. -/
abbrev pt (c : Dev nD) {sp : Space} {s : Shape} {e : EltTy} (M : Memref sig .tc sp s e) (f : Buf (Elt F) (M.view.loc (c : Thread nD τ))) : sProp 𝕄 :=
  M.view.loc (c : Thread nD τ) ↦{fullShare} f

/-- A load of a whole memref reads what its view reads; -/
theorem readAt_zero {sp : Space} {s : Shape} {e : EltTy} (v : View sig .tc sp s e) {off : Fin s.rank → ℕ} (h0 : off = fun _ => 0) (inb) (f : v.ty.Contents (Elt F)) :
    (v.readAt (Elt F) (Rect.unit (s := s) off s.size inb).toLoadRect f : s.Idx → Elt F e) = v.read (Elt F) f := by
  subst h0
  funext y
  rw [View.readAt_apply]
  congr 1
  funext a
  exact Fin.ext ((Nat.zero_add _).trans (Nat.one_mul _))

/-- and what one store of a whole memref leaves reads as what was stored. -/
theorem read_store_zero {sp : Space} {s : Shape} {e : EltTy} (v : View sig .tc sp s e) {off : Fin s.rank → ℕ} (h0 : off = fun _ => 0) (inb) (f : v.ty.Contents (Elt F))
    (w : s.Idx → Elt F e) : v.read (Elt F) (v.writes (Elt F) f [⟨Rect.unit (s := s) off s.size inb, w⟩]) = w := by
  subst h0
  exact View.read_writes_whole v f w

/-- Owning a whole memref at `X` is owning its buffer at some contents that read as `X`. -/
theorem owns_isWhole (c : Dev nD) {sp : Space} {s : Shape} {e : EltTy} {M : Memref sig .tc sp s e} (h : M.IsWhole) (X : s.Idx → Elt F e) :
    ((owns (c : Thread nD τ) M fullShare X : sProp 𝕄) ⊢ iprop(∃ f, ⌜M.view.read (Elt F) f = X⌝ ∗ pt c M f))
      ∧ (iprop(∃ f, ⌜M.view.read (Elt F) f = X⌝ ∗ pt c M f) ⊢ (owns (c : Thread nD τ) M fullShare X : sProp 𝕄)) := by
  unfold owns pt
  rw [h.set_eq_univ]
  exact ⟨BI.Entails.refl _, BI.Entails.refl _⟩

section Body
variable (c : Dev nD) (i : grid0.Coords)
  (M2 : Memref sig .tc .vmem S512x3 .f32) (h2 : M2.IsWhole) (M3 : Memref sig .tc .vmem S2048x3 .f32) (h3 : M3.IsWhole)
  (M4 : Memref sig .tc .vmem S512x1 .f32) (h4 : M4.IsWhole) (M5 : Memref sig .tc .vmem S2048 .f32) (h5 : M5.IsWhole)
  (M6 : Memref sig .tc .vmem S512x8 .i32) (h6 : M6.IsWhole) (M7 : Memref sig .tc .vmem S512x1024 .f32) (h7 : M7.IsWhole)
  (M8 : Memref sig .tc .vmem S512x1024 .i32) (h8 : M8.IsWhole) (M9 : Memref sig .tc .vmem S512x1024 .f32) (h9 : M9.IsWhole)
  (M10 : Memref sig .tc .vmem S512x1024 .i32) (h10 : M10.IsWhole) (M11 : Memref sig .tc .vmem S512x8 .f32) (h11 : M11.IsWhole)
  (M12 : Memref sig .tc .vmem S512x8 .i32) (h12 : M12.IsWhole)

/-- One step's program: take the first column left and put it in its place. -/
def ste (w : IVec S512x8 32) : Prog (TpuEff nD τ sig (Elt F) Λ₀ .tc) PUnit := do
  let ⟨v81, v82, v90, v92, v109, v122, v124, v125⟩ ← k0_part1_skel (F := F) i M2 h2 M3 h3 M4 h4 M5 h5 M6 h6 M7 h7 M8 h8 M9 h9 M10 h10 M11 h11 M12 h12 w
  let _ : Vec F S512x8 .i32 ← Prog.lift (.load M12 (Rect.unit (s := S512x8) ![0, 0] S512x8.size inb_S512x8_S512x8_0_0).toLoadRect (View.loadsAt_vmem h_S512x8))
  Prog.lift (.store M12 (Rect.unit (s := S512x8) ![0, 0] S512x8.size inb_S512x8_S512x8_0_0) (k0_pay1 v92 v109 v122 v124 v125) Finset.univ (View.stores_vmem_bits_univ h_S512x8 rfl) (.inl rfl))
  let v134 : Vec F S512x1024 .f32 ← Prog.lift (.load M9 (Rect.unit (s := S512x1024) ![0, 0] S512x1024.size inb_S512x1024_S512x1024_0_0).toLoadRect (View.loadsAt_vmem h_S512x1024))
  let _ : Vec F S512x1024 .f32 ← Prog.lift (.load M7 (Rect.unit (s := S512x1024) ![0, 0] S512x1024.size inb_S512x1024_S512x1024_0_0).toLoadRect (View.loadsAt_vmem h_S512x1024))
  Prog.lift (.store M7 (Rect.unit (s := S512x1024) ![0, 0] S512x1024.size inb_S512x1024_S512x1024_0_0) (k0_pay3 v81 v82 v90 v134) Finset.univ (View.stores_vmem_bits_univ h_S512x1024 rfl) (.inl rfl))
  let v139 : Vec F S512x1024 .i32 ← Prog.lift (.load M10 (Rect.unit (s := S512x1024) ![0, 0] S512x1024.size inb_S512x1024_S512x1024_0_0).toLoadRect (View.loadsAt_vmem h_S512x1024))
  let _ : Vec F S512x1024 .i32 ← Prog.lift (.load M8 (Rect.unit (s := S512x1024) ![0, 0] S512x1024.size inb_S512x1024_S512x1024_0_0).toLoadRect (View.loadsAt_vmem h_S512x1024))
  Prog.lift (.store M8 (Rect.unit (s := S512x1024) ![0, 0] S512x1024.size inb_S512x1024_S512x1024_0_0) (k0_pay4 (F := F) v82 v90 v139) Finset.univ (View.stores_vmem_bits_univ h_S512x1024 rfl) (.inl rfl))
  let v144 : Vec F S512x1024 .f32 ← Prog.lift (.load M9 (Rect.unit (s := S512x1024) ![0, 0] S512x1024.size inb_S512x1024_S512x1024_0_0).toLoadRect (View.loadsAt_vmem h_S512x1024))
  let _ : Vec F S512x1024 .f32 ← Prog.lift (.load M9 (Rect.unit (s := S512x1024) ![0, 0] S512x1024.size inb_S512x1024_S512x1024_0_0).toLoadRect (View.loadsAt_vmem h_S512x1024))
  Prog.lift (.store M9 (Rect.unit (s := S512x1024) ![0, 0] S512x1024.size inb_S512x1024_S512x1024_0_0) (k0_pay5 v82 v90 v144) Finset.univ (View.stores_vmem_bits_univ h_S512x1024 rfl) (.inl rfl))
  pure ⟨⟩

/-- A program run if `p` holds, then another. -/
def whenDo {α : Type} (p : Prop) [Decidable p] (A : Prog (TpuEff nD τ sig (Elt F) Λ₀ .tc) PUnit) (k : PUnit → Prog (TpuEff nD τ sig (Elt F) Λ₀ .tc) α) :
    Prog (TpuEff nD τ sig (Elt F) Λ₀ .tc) α := if p then A >>= k else k ⟨⟩

/-- The steps of the second part. -/
def stes (n : BitVec 32) (k : PUnit → Prog (TpuEff nD τ sig (Elt F) Λ₀ .tc) (Σ' (_ : IVec S512x8 32), BitVec 32)) :
    Prog (TpuEff nD τ sig (Elt F) Λ₀ .tc) (Σ' (_ : IVec S512x8 32), BitVec 32) :=
  whenDo (goes n 0#32) (ste (F := F) i M2 h2 M3 h3 M4 h4 M5 h5 M6 h6 M7 h7 M8 h8 M9 h9 M10 h10 M11 h11 M12 h12 slotNo) fun _ => whenDo (goes n 1#32) (ste (F := F) i M2 h2 M3 h3 M4 h4 M5 h5 M6 h6 M7 h7 M8 h8 M9 h9 M10 h10 M11 h11 M12 h12 slotNo) fun _ => whenDo (goes n 2#32) (ste (F := F) i M2 h2 M3 h3 M4 h4 M5 h5 M6 h6 M7 h7 M8 h8 M9 h9 M10 h10 M11 h11 M12 h12 slotNo) fun _ => whenDo (goes n 3#32) (ste (F := F) i M2 h2 M3 h3 M4 h4 M5 h5 M6 h6 M7 h7 M8 h8 M9 h9 M10 h10 M11 h11 M12 h12 slotNo) fun _ => whenDo (goes n 4#32) (ste (F := F) i M2 h2 M3 h3 M4 h4 M5 h5 M6 h6 M7 h7 M8 h8 M9 h9 M10 h10 M11 h11 M12 h12 slotNo) k

/-- The second part of the body, with its steps as `whenDo`. -/
def part10 (n : BitVec 32) (a b : FVec F S512x1024 .f32) (v33 v35 : IVec S512x1024 32) (v36 : IVec S512x1024 1) (v37 : FVec F S512x1024 .f32) :
    Prog (TpuEff nD τ sig (Elt F) Λ₀ .tc) (Σ' (_ : IVec S512x8 32), BitVec 32) := do
  let _ : Vec F S512x1024 .f32 ← Prog.lift (.load M7 (Rect.unit (s := S512x1024) ![0, 0] S512x1024.size inb_S512x1024_S512x1024_0_0).toLoadRect (View.loadsAt_vmem h_S512x1024))
  Prog.lift (.store M7 (Rect.unit (s := S512x1024) ![0, 0] S512x1024.size inb_S512x1024_S512x1024_0_0) (k0_pay90 v37) Finset.univ (View.stores_vmem_bits_univ h_S512x1024 rfl) (.inl rfl))
  let _ : Vec F S512x1024 .i32 ← Prog.lift (.load M8 (Rect.unit (s := S512x1024) ![0, 0] S512x1024.size inb_S512x1024_S512x1024_0_0).toLoadRect (View.loadsAt_vmem h_S512x1024))
  Prog.lift (.store M8 (Rect.unit (s := S512x1024) ![0, 0] S512x1024.size inb_S512x1024_S512x1024_0_0) (k0_pay91 v33 v35 v36) Finset.univ (View.stores_vmem_bits_univ h_S512x1024 rfl) (.inl rfl))
  let _ : Vec F S512x1024 .f32 ← Prog.lift (.load M9 (Rect.unit (s := S512x1024) ![0, 0] S512x1024.size inb_S512x1024_S512x1024_0_0).toLoadRect (View.loadsAt_vmem h_S512x1024))
  Prog.lift (.store M9 (Rect.unit (s := S512x1024) ![0, 0] S512x1024.size inb_S512x1024_S512x1024_0_0) (k0_pay92 a b v36) Finset.univ (View.stores_vmem_bits_univ h_S512x1024 rfl) (.inl rfl))
  let _ : Vec F S512x1024 .i32 ← Prog.lift (.load M10 (Rect.unit (s := S512x1024) ![0, 0] S512x1024.size inb_S512x1024_S512x1024_0_0).toLoadRect (View.loadsAt_vmem h_S512x1024))
  Prog.lift (.store M10 (Rect.unit (s := S512x1024) ![0, 0] S512x1024.size inb_S512x1024_S512x1024_0_0) (k0_pay93 v33 v35 v36) Finset.univ (View.stores_vmem_bits_univ h_S512x1024 rfl) (.inl rfl))
  stes i M2 h2 M3 h3 M4 h4 M5 h5 M6 h6 M7 h7 M8 h8 M9 h9 M10 h10 M11 h11 M12 h12 n fun _ => pure ⟨slotNo, Scalar.extui (Scalar.cmpi .sgt n 5#32)⟩

/-- The body's second part is that. -/
theorem part10_eq (n : BitVec 32) (a b : FVec F S512x1024 .f32) (v33 v35 : IVec S512x1024 32) (v36 : IVec S512x1024 1) (v37 : FVec F S512x1024 .f32) :
    k0_part10 i M2 h2 M3 h3 M4 h4 M5 h5 M6 h6 M7 h7 M8 h8 M9 h9 M10 h10 M11 h11 M12 h12 n a b v33 v35 v36 v37
      = part10 i M2 h2 M3 h3 M4 h4 M5 h5 M6 h6 M7 h7 M8 h8 M9 h9 M10 h10 M11 h11 M12 h12 n a b v33 v35 v36 v37 := by
  rw [k0_part10_eq_skeleton]
  rfl

/-- The six scratch buffers held whole, at a state. -/
def own6 (s : St F) : sProp 𝕄 :=
  iprop(owns (c : Thread nD τ) M7 fullShare s.lov ∗ owns (c : Thread nD τ) M8 fullShare s.loi ∗ owns (c : Thread nD τ) M9 fullShare s.hiv
    ∗ owns (c : Thread nD τ) M10 fullShare s.hii ∗ owns (c : Thread nD τ) M11 fullShare s.rv ∗ owns (c : Thread nD τ) M12 fullShare s.ri)

/-- A step leaves the next state. -/
theorem ste_wp (s : St F) (E : Set ℕ) (Q : PUnit → sProp 𝕄) : iprop((own6 (F := F) c M7 M8 M9 M10 M11 M12) s ∗ ((own6 (F := F) c M7 M8 M9 M10 M11 M12) (ext s) -∗ Q ⟨⟩)) ⊢ (wp frame (wpE (defs₀ (F := F)) Variants.none c none)) E (ste (F := F) i M2 h2 M3 h3 M4 h4 M5 h5 M6 h6 M7 h7 M8 h8 M9 h9 M10 h10 M11 h11 M12 h12 slotNo) Q := by
  unfold own6 ste k0_part1_skel
  iintro ⟨⟨H7, H8, H9, H10, H11, H12⟩, Hk⟩
  ihave H7 := (owns_isWhole c h7 _).1 $$ H7; icases H7 with ⟨%f7, %e7, H7⟩
  ihave H8 := (owns_isWhole c h8 _).1 $$ H8; icases H8 with ⟨%f8, %e8, H8⟩
  ihave H9 := (owns_isWhole c h9 _).1 $$ H9; icases H9 with ⟨%f9, %e9, H9⟩
  ihave H10 := (owns_isWhole c h10 _).1 $$ H10; icases H10 with ⟨%f10, %e10, H10⟩
  ihave H11 := (owns_isWhole c h11 _).1 $$ H11; icases H11 with ⟨%f11, %e11, H11⟩
  ihave H12 := (owns_isWhole c h12 _).1 $$ H12; icases H12 with ⟨%f12, %e12, H12⟩
  sl_exec!
  sl_step
  have r7 : M7.view.readAt (Elt F) (Rect.unit (s := S512x1024) ![0, 0] S512x1024.size inb_S512x1024_S512x1024_0_0).toLoadRect f7 = s.lov := (readAt_zero _ (by decide) _ _).trans e7
  have r8 : M8.view.readAt (Elt F) (Rect.unit (s := S512x1024) ![0, 0] S512x1024.size inb_S512x1024_S512x1024_0_0).toLoadRect f8 = s.loi := (readAt_zero _ (by decide) _ _).trans e8
  have r9 : M9.view.readAt (Elt F) (Rect.unit (s := S512x1024) ![0, 0] S512x1024.size inb_S512x1024_S512x1024_0_0).toLoadRect f9 = s.hiv := (readAt_zero _ (by decide) _ _).trans e9
  have r10 : M10.view.readAt (Elt F) (Rect.unit (s := S512x1024) ![0, 0] S512x1024.size inb_S512x1024_S512x1024_0_0).toLoadRect f10 = s.hii := (readAt_zero _ (by decide) _ _).trans e10
  have r11 : M11.view.readAt (Elt F) (Rect.unit (s := S512x8) ![0, 0] S512x8.size inb_S512x8_S512x8_0_0).toLoadRect f11 = s.rv := (readAt_zero _ (by decide) _ _).trans e11
  have r12 : M12.view.readAt (Elt F) (Rect.unit (s := S512x8) ![0, 0] S512x8.size inb_S512x8_S512x8_0_0).toLoadRect f12 = s.ri := (readAt_zero _ (by decide) _ _).trans e12
  iapply Hk
  isplitl [H7]
  · iapply (owns_isWhole c h7 _).2; iexists _; isplitr; swap; (· iexact H7)
    ipureintro; unfold ste_wp.sl.H7_1; refine (read_store_zero _ (by decide) _ _ _).trans ?_; rw [r7, r8, r9]; dsimp only [ext]
  isplitl [H8]
  · iapply (owns_isWhole c h8 _).2; iexists _; isplitr; swap; (· iexact H8)
    ipureintro; unfold ste_wp.sl.H8_1; refine (read_store_zero _ (by decide) _ _ _).trans ?_; rw [r7, r8, r10]; dsimp only [ext]
  isplitl [H9]
  · iapply (owns_isWhole c h9 _).2; iexists _; isplitr; swap; (· iexact H9)
    ipureintro; unfold ste_wp.sl.H9_1; refine (read_store_zero _ (by decide) _ _ _).trans ?_; rw [r7, r8, r9]; dsimp only [ext]
  isplitl [H10]
  · iapply (owns_isWhole c h10 _).2; iexists _; isplitr; swap; (· iexact H10)
    ipureintro; dsimp only [ext]; exact e10
  isplitl [H11]
  · iapply (owns_isWhole c h11 _).2; iexists _; isplitr; swap; (· iexact H11)
    ipureintro; unfold ste_wp.sl.H11_1; refine (read_store_zero _ (by decide) _ _ _).trans ?_; rw [r7, r8, r11, r12]; dsimp only [ext]
  iapply (owns_isWhole c h12 _).2; iexists _; isplitr; swap; (· iexact H12)
  ipureintro; unfold ste_wp.sl.H12_1; refine (read_store_zero _ (by decide) _ _ _).trans ?_; rw [r7, r8, r11, r12]; dsimp only [ext]

/-- A step that runs if `goes` leaves the state after it, and one that does not leaves the state. -/
theorem whenDo_wp {α : Type} (n t : BitVec 32) (s : St F) (k : PUnit → Prog (TpuEff nD τ sig (Elt F) Λ₀ .tc) α) (E : Set ℕ) (Q : α → sProp 𝕄) :
    iprop((own6 (F := F) c M7 M8 M9 M10 M11 M12) s ∗ ((own6 (F := F) c M7 M8 M9 M10 M11 M12) (stp n t s) -∗ (wp frame (wpE (defs₀ (F := F)) Variants.none c none)) E (k ⟨⟩) Q)) ⊢ (wp frame (wpE (defs₀ (F := F)) Variants.none c none)) E (whenDo (goes n t) (ste (F := F) i M2 h2 M3 h3 M4 h4 M5 h5 M6 h6 M7 h7 M8 h8 M9 h9 M10 h10 M11 h11 M12 h12 slotNo) k) Q := by
  unfold whenDo stp
  by_cases h : goes n t
  · rw [if_pos h, if_pos h, wp_bind]
    exact ste_wp c i M2 h2 M3 h3 M4 h4 M5 h5 M6 h6 M7 h7 M8 h8 M9 h9 M10 h10 M11 h11 M12 h12 s E (fun x => (wp frame (wpE (defs₀ (F := F)) Variants.none c none)) E (k x) Q)
  · rw [if_neg h, if_neg h]
    iintro ⟨H, Hk⟩
    iapply Hk; iexact H

/-- The body from its third part on: three more steps, and at a row block's last block the columns out. -/
def last (w : IVec S512x8 32) (v70 n : BitVec 32) : Prog (TpuEff nD τ sig (Elt F) Λ₀ .tc) PUnit :=
  whenDo (Scalar.cmpi .ne v70 0#32 = 1#1) (ste (F := F) i M2 h2 M3 h3 M4 h4 M5 h5 M6 h6 M7 h7 M8 h8 M9 h9 M10 h10 M11 h11 M12 h12 w) fun _ =>
  whenDo (goes n 6#32) (ste (F := F) i M2 h2 M3 h3 M4 h4 M5 h5 M6 h6 M7 h7 M8 h8 M9 h9 M10 h10 M11 h11 M12 h12 w) fun _ =>
  whenDo (goes n 7#32) (ste (F := F) i M2 h2 M3 h3 M4 h4 M5 h5 M6 h6 M7 h7 M8 h8 M9 h9 M10 h10 M11 h11 M12 h12 w) fun _ =>
  whenDo (k0_cond10 i = 1#1) (do
    let v81 : Vec F S512x8 .i32 ← Prog.lift (.load M12 (Rect.unit (s := S512x8) ![0, 0] S512x8.size inb_S512x8_S512x8_0_0).toLoadRect (View.loadsAt_vmem h_S512x8))
    let _ : Vec F S512x8 .i32 ← Prog.lift (.load M6 (Rect.unit (s := S512x8) ![0, 0] S512x8.size inb_S512x8_S512x8_0_0).toLoadRect (View.loadsAt_vmem h_S512x8))
    Prog.lift (.store M6 (Rect.unit (s := S512x8) ![0, 0] S512x8.size inb_S512x8_S512x8_0_0) v81 Finset.univ (View.stores_vmem_bits_univ h_S512x8 rfl) (.inl rfl))
    pure ⟨⟩) fun _ => pure ⟨⟩

/-- The body is its first part, the second and the last. -/
theorem body_eq : cc0__topk_body (F := F) i M2 h2 M3 h3 M4 h4 M5 h5 M6 h6 M7 h7 M8 h8 M9 h9 M10 h10 M11 h11 M12 h12
    = k0_part9 i M2 h2 M3 h3 M4 h4 M5 h5 M6 h6 M7 h7 M8 h8 M9 h9 M10 h10 M11 h11 M12 h12 >>= fun ⟨_, n, a, b, v33, v35, v36, v37⟩ =>
      k0_part10 i M2 h2 M3 h3 M4 h4 M5 h5 M6 h6 M7 h7 M8 h8 M9 h9 M10 h10 M11 h11 M12 h12 n a b v33 v35 v36 v37 >>= fun ⟨w, v70⟩ =>
        last i M2 h2 M3 h3 M4 h4 M5 h5 M6 h6 M7 h7 M8 h8 M9 h9 M10 h10 M11 h11 M12 h12 w v70 n := by
  rw [cc0__topk_body_eq_skeleton]
  rfl

end Body

end Cert.Proof.TopkBody

end
-- ==== Proof.TopkSpec.lean ====
/-
  The running eight best of a row, as mathematics: which columns the eight slots hold, how one column is put in its place, how a block of 2048 columns
  folded in pairs gives its columns in order, and why stopping early loses none.
-/
module

public import Idealize.ShloMosaic.Lib.SortFacts
public import Mathlib.Data.EReal.Basic
public import Mathlib.Data.Finset.Card
public import Mathlib.Order.Interval.Finset.Nat

@[expose] public section

namespace Cert.Proof.Topk

open scoped Classical

/-- Column `a` comes before column `b`: its value is less, or it is the same and its number is less. -/
def Lt (f : ℕ → EReal) (a b : ℕ) : Prop := f a < f b ∨ (f a = f b ∧ a < b)

/-- The order by value and then by number is strict, -/
theorem Lt.irrefl {f : ℕ → EReal} {a : ℕ} (h : Lt f a a) : False := by
  rcases h with h | h
  · exact lt_irrefl _ h
  · omega

/-- transitive -/
theorem Lt.trans {f : ℕ → EReal} {a b c : ℕ} (h : Lt f a b) (h' : Lt f b c) : Lt f a c := by
  rcases h with h | ⟨h, i⟩ <;> rcases h' with h' | ⟨h', i'⟩
  · exact .inl (h.trans h')
  · exact .inl (h' ▸ h)
  · exact .inl (h ▸ h')
  · exact .inr ⟨h.trans h', by omega⟩

/-- and total, -/
theorem Lt.total {f : ℕ → EReal} {a b : ℕ} (h : a ≠ b) : Lt f a b ∨ Lt f b a := by
  rcases lt_trichotomy (f a) (f b) with h' | h' | h'
  · exact .inl (.inl h')
  · rcases Nat.lt_or_gt_of_ne h with i | i
    · exact .inl (.inr ⟨h', i⟩)
    · exact .inr (.inr ⟨h'.symm, i⟩)
  · exact .inr (.inl h')

/-- and values follow it. -/
theorem Lt.le {f : ℕ → EReal} {a b : ℕ} (h : Lt f a b) : f a ≤ f b := by
  rcases h with h | h
  · exact h.le
  · exact h.1.le

/-- How many columns of `S` come before `c`. -/
noncomputable def rank (f : ℕ → EReal) (S : Finset ℕ) (c : ℕ) : ℕ := (S.filter (Lt f · c)).card

/-- A rank is at most the number of columns, -/
theorem rank_le_card (f : ℕ → EReal) (S : Finset ℕ) (c : ℕ) : rank f S c ≤ S.card := Finset.card_filter_le _ _

/-- and grows with them. -/
theorem rank_mono {f : ℕ → EReal} {S T : Finset ℕ} (h : S ⊆ T) (c : ℕ) : rank f S c ≤ rank f T c :=
  Finset.card_le_card (Finset.filter_subset_filter _ h)

/-- A column of `S` before `c` has fewer columns of `S` before it than `c` has, -/
theorem rank_lt_of_lt {f : ℕ → EReal} {S : Finset ℕ} {a c : ℕ} (ha : a ∈ S) (h : Lt f a c) : rank f S a < rank f S c := by
  classical
  refine Finset.card_lt_card ((Finset.ssubset_iff_of_subset fun x hx => ?_).2 ⟨a, ?_, ?_⟩)
  · rw [Finset.mem_filter] at hx ⊢; exact ⟨hx.1, hx.2.trans h⟩
  · exact Finset.mem_filter.2 ⟨ha, h⟩
  · exact fun hx => (Finset.mem_filter.1 hx).2.irrefl

/-- one after `c` no fewer, -/
theorem rank_le_of_lt {f : ℕ → EReal} {S : Finset ℕ} {a c : ℕ} (h : Lt f a c) : rank f S a ≤ rank f S c := by
  classical
  refine Finset.card_le_card fun x hx => ?_
  rw [Finset.mem_filter] at hx ⊢; exact ⟨hx.1, hx.2.trans h⟩

/-- so two columns of `S` with as many before them are one, -/
theorem rank_inj {f : ℕ → EReal} {S : Finset ℕ} {a c : ℕ} (ha : a ∈ S) (hc : c ∈ S) (h : rank f S a = rank f S c) : a = c := by
  by_contra hne
  rcases Lt.total (f := f) hne with i | i
  · have := rank_lt_of_lt ha i; omega
  · have := rank_lt_of_lt hc i; omega

/-- and a column of `S` is before `m`, not of `S`, exactly if fewer are before it. -/
theorem lt_iff_rank {f : ℕ → EReal} {S : Finset ℕ} {c m : ℕ} (hc : c ∈ S) (hm : m ∉ S) : Lt f c m ↔ rank f S c < rank f S m := by
  refine ⟨rank_lt_of_lt hc, fun h => ?_⟩
  rcases Lt.total (f := f) (a := c) (b := m) (fun e => hm (e ▸ hc)) with i | i
  · exact i
  · have := rank_le_of_lt (S := S) i; omega

/-- One more column `m` counts once for the columns after it, -/
theorem rank_insert {f : ℕ → EReal} {S : Finset ℕ} {c m : ℕ} (hm : m ∉ S) :
    (Lt f m c → rank f (insert m S) c = rank f S c + 1) ∧ (¬ Lt f m c → rank f (insert m S) c = rank f S c) := by
  classical
  constructor
  · intro h
    unfold rank
    rw [Finset.filter_insert, if_pos h, Finset.card_insert_of_notMem (by rw [Finset.mem_filter]; exact fun i => hm i.1)]
  · intro h
    unfold rank
    rw [Finset.filter_insert, if_neg h]

/-- and not for itself. -/
theorem rank_insert_self {f : ℕ → EReal} {S : Finset ℕ} {m : ℕ} (hm : m ∉ S) : rank f (insert m S) m = rank f S m :=
  (rank_insert hm).2 Lt.irrefl

/-- What an empty slot holds for a column number. -/
abbrev big : ℕ := 1073741824

/-- The eight slots hold the first eight columns of `S`, in order; what is over is empty. -/
def Slots (f : ℕ → EReal) (S : Finset ℕ) (rv : Fin 8 → EReal) (ri : Fin 8 → ℕ) : Prop :=
  ∀ p : Fin 8, (p.val < S.card → ∃ c ∈ S, rank f S c = p.val ∧ rv p = f c ∧ ri p = c) ∧ (S.card ≤ p.val → rv p = ⊤ ∧ ri p = big)

/-- The slots after column `i` of value `v` is put in at position `pos`. -/
def putV (pos : ℕ) (v : EReal) (rv : Fin 8 → EReal) (p : Fin 8) : EReal :=
  if p.val < pos then rv p else if p.val = pos then v else rv ⟨p.val - 1, by omega⟩

/-- The slots' numbers after the same. -/
def putI (pos : ℕ) (i : ℕ) (ri : Fin 8 → ℕ) (p : Fin 8) : ℕ :=
  if p.val < pos then ri p else if p.val = pos then i else ri ⟨p.val - 1, by omega⟩

/-- How many slots come before column `i` of value `v`. -/
noncomputable def posOf (v : EReal) (i : ℕ) (rv : Fin 8 → EReal) (ri : Fin 8 → ℕ) : ℕ :=
  (Finset.univ.filter fun p : Fin 8 => rv p < v ∨ (rv p = v ∧ ri p < i)).card

/-- The number of slots before a new column is its rank, or eight if that is less. -/
theorem posOf_eq {f : ℕ → EReal} {S : Finset ℕ} {rv : Fin 8 → EReal} {ri : Fin 8 → ℕ} (h : Slots f S rv ri) {m : ℕ} (hm : m ∉ S) (ht : f m < ⊤) :
    posOf (f m) m rv ri = min 8 (rank f S m) := by
  classical
  have e : (Finset.univ.filter fun p : Fin 8 => rv p < f m ∨ (rv p = f m ∧ ri p < m)) = Finset.univ.filter fun p : Fin 8 => p.val < rank f S m := by
    refine Finset.filter_congr fun p _ => ?_
    have hr := rank_le_card f S m
    by_cases hp : p.val < S.card
    · obtain ⟨c, hc, hk, h1, h2⟩ := (h p).1 hp
      rw [h1, h2, ← hk]
      exact lt_iff_rank hc hm
    · obtain ⟨h1, h2⟩ := (h p).2 (by omega)
      rw [h1]
      constructor
      · rintro (i | i)
        · exact absurd i (not_lt.2 le_top)
        · exact absurd i.1.symm ht.ne
      · intro i; omega
  unfold posOf
  rw [e]
  generalize rank f S m = n
  have : (Finset.univ.filter fun p : Fin 8 => p.val < n).card = min 8 n := by
    by_cases h8 : n < 8
    · have key : ∀ k : Fin 8, (Finset.univ.filter fun p : Fin 8 => p.val < k.val).card = min 8 k.val := by decide
      exact key ⟨n, h8⟩
    · rw [Finset.filter_true_of_mem (fun p _ => by omega)]; simp; omega
  exact this

/-- Putting a new column in at its position keeps the slots right. -/
theorem Slots.put {f : ℕ → EReal} {S : Finset ℕ} {rv : Fin 8 → EReal} {ri : Fin 8 → ℕ} (h : Slots f S rv ri) {m : ℕ} (hm : m ∉ S) (ht : f m < ⊤) :
    Slots f (insert m S) (putV (posOf (f m) m rv ri) (f m) rv) (putI (posOf (f m) m rv ri) m ri) := by
  rw [posOf_eq h hm ht]
  have hr := rank_le_card f S m
  intro p
  have hp8 := p.isLt
  rw [Finset.card_insert_of_notMem hm]
  unfold putV putI
  by_cases h1 : p.val < min 8 (rank f S m)
  · simp only [if_pos h1]
    refine ⟨fun _ => ?_, fun hc => by omega⟩
    obtain ⟨c, hc, hk, e1, e2⟩ := (h p).1 (by omega)
    refine ⟨c, Finset.mem_insert_of_mem hc, ?_, e1, e2⟩
    rw [(rank_insert hm).2 fun i => ?_]; · exact hk
    exact (i.trans ((lt_iff_rank hc hm).2 (by omega))).irrefl
  · simp only [if_neg h1]
    by_cases h2 : p.val = min 8 (rank f S m)
    · simp only [if_pos h2]
      refine ⟨fun _ => ⟨m, Finset.mem_insert_self _ _, ?_, rfl, rfl⟩, fun hc => by omega⟩
      rw [rank_insert_self hm]; omega
    · simp only [if_neg h2]
      refine ⟨fun hc => ?_, fun hc => (h ⟨p.val - 1, by omega⟩).2 (by change S.card ≤ p.val - 1; omega)⟩
      obtain ⟨c, hc, hk, e1, e2⟩ := (h ⟨p.val - 1, by omega⟩).1 (by change p.val - 1 < _; omega)
      replace hk : rank f S c = p.val - 1 := hk
      refine ⟨c, Finset.mem_insert_of_mem hc, ?_, e1, e2⟩
      have hn : ¬ Lt f c m := fun i => by have := (lt_iff_rank hc hm).1 i; omega
      rw [(rank_insert hm).1 ((Lt.total (f := f) (a := c) (b := m) fun e => hm (e ▸ hc)).resolve_left hn)]
      omega

/-- A column with eight before it changes no slot. -/
theorem Slots.skip {f : ℕ → EReal} {S : Finset ℕ} {rv : Fin 8 → EReal} {ri : Fin 8 → ℕ} (h : Slots f S rv ri) {m : ℕ} (hm : m ∉ S) (h8 : 8 ≤ rank f S m) :
    Slots f (insert m S) rv ri := by
  have hr := rank_le_card f S m
  intro p
  have hp8 := p.isLt
  rw [Finset.card_insert_of_notMem hm]
  refine ⟨fun _ => ?_, fun hc => by omega⟩
  obtain ⟨c, hc, hk, e1, e2⟩ := (h p).1 (by omega)
  refine ⟨c, Finset.mem_insert_of_mem hc, ?_, e1, e2⟩
  rw [(rank_insert hm).2 fun i => ?_]; · exact hk
  exact (i.trans ((lt_iff_rank hc hm).2 (by omega))).irrefl

/-- Nor do several. -/
theorem Slots.skips {f : ℕ → EReal} {S : Finset ℕ} {rv : Fin 8 → EReal} {ri : Fin 8 → ℕ} (h : Slots f S rv ri) (T : Finset ℕ)
    (h8 : ∀ m ∈ T, m ∉ S → 8 ≤ rank f S m) : Slots f (S ∪ T) rv ri := by
  classical
  induction T using Finset.induction_on with
  | empty => rwa [Finset.union_empty]
  | insert a T _ ih =>
    have ih := ih fun m hm => h8 m (Finset.mem_insert_of_mem hm)
    rw [Finset.union_insert]
    by_cases ha : a ∈ S ∪ T
    · rwa [Finset.insert_eq_of_mem ha]
    · refine ih.skip ha ((h8 a (Finset.mem_insert_self _ _) fun i => ha (Finset.mem_union_left _ i)).trans (rank_mono Finset.subset_union_left a))

/-- No column yet: every slot empty. -/
theorem Slots.start (f : ℕ → EReal) : Slots f ∅ (fun _ => ⊤) (fun _ => big) :=
  fun p => ⟨fun h => by simp at h, fun _ => ⟨rfl, rfl⟩⟩

/-! ## A block, folded in pairs -/

/-- Of the pair `b + c`, `b + c + 1024` the column that comes before the other, -/
noncomputable def lo (f : ℕ → EReal) (b c : ℕ) : ℕ := if f (b + c) ≤ f (b + c + 1024) then b + c else b + c + 1024

/-- and the other. -/
noncomputable def hi (f : ℕ → EReal) (b c : ℕ) : ℕ := if f (b + c) ≤ f (b + c + 1024) then b + c + 1024 else b + c

/-- A pair's first member comes before its second. -/
theorem lo_lt_hi (f : ℕ → EReal) (b c : ℕ) : Lt f (lo f b c) (hi f b c) := by
  unfold lo hi
  by_cases h : f (b + c) ≤ f (b + c + 1024)
  · simp only [if_pos h]
    rcases h.lt_or_eq with i | i
    · exact .inl i
    · exact .inr ⟨i, by omega⟩
  · simp only [if_neg h]
    exact .inl (not_le.1 h)

/-- A pair is two columns half a block apart. -/
theorem lo_hi (f : ℕ → EReal) (b c : ℕ) : (lo f b c = b + c ∧ hi f b c = b + c + 1024) ∨ (lo f b c = b + c + 1024 ∧ hi f b c = b + c) := by
  unfold lo hi
  by_cases h : f (b + c) ≤ f (b + c + 1024)
  · rw [if_pos h, if_pos h]; exact .inl ⟨rfl, rfl⟩
  · rw [if_neg h, if_neg h]; exact .inr ⟨rfl, rfl⟩

/-- The columns of the block at `b`. -/
abbrev blk (b : ℕ) : Finset ℕ := Finset.Ico b (b + 2048)

/-- Every column of a block is in a pair, -/
theorem mem_blk_pair {f : ℕ → EReal} {b m : ℕ} (h : m ∈ blk b) : ∃ c : Fin 1024, m = lo f b c.val ∨ m = hi f b c.val := by
  rw [Finset.mem_Ico] at h
  by_cases i : m < b + 1024
  · refine ⟨⟨m - b, by omega⟩, ?_⟩
    rcases lo_hi f b (m - b) with e | e
    · left; change m = lo f b (m - b); omega
    · right; change m = hi f b (m - b); omega
  · refine ⟨⟨m - b - 1024, by omega⟩, ?_⟩
    rcases lo_hi f b (m - b - 1024) with e | e
    · right; change m = hi f b (m - b - 1024); omega
    · left; change m = lo f b (m - b - 1024); omega

/-- and every pair is in the block. -/
theorem pair_mem_blk {f : ℕ → EReal} {b : ℕ} (c : Fin 1024) : lo f b c.val ∈ blk b ∧ hi f b c.val ∈ blk b := by
  have := c.isLt
  rw [Finset.mem_Ico, Finset.mem_Ico]
  rcases lo_hi f b c.val with e | e <;> omega

/-- What the four folded arrays of a row hold once the columns `E` of the block at `b` have been taken: a pair's front is its first column not taken. -/
structure Fold (f : ℕ → EReal) (b : ℕ) (E : Finset ℕ) (lov : Fin 1024 → EReal) (loi : Fin 1024 → ℕ) (hiv : Fin 1024 → EReal) (hii : Fin 1024 → ℕ) : Prop where
  sub : E ⊆ blk b
  out : ∀ c : Fin 1024, lo f b c.val ∉ E → lov c = f (lo f b c.val) ∧ loi c = lo f b c.val ∧ hiv c = f (hi f b c.val) ∧ hi f b c.val ∉ E
  inn : ∀ c : Fin 1024, lo f b c.val ∈ E → loi c = hi f b c.val ∧ hiv c = ⊤ ∧ (hi f b c.val ∉ E → lov c = f (hi f b c.val)) ∧ (hi f b c.val ∈ E → lov c = ⊤)
  back : ∀ c : Fin 1024, hii c = hi f b c.val
  down : ∀ e ∈ E, ∀ u ∈ blk b, u ∉ E → Lt f e u

/-- A block is folded with nothing taken. -/
theorem Fold.start (f : ℕ → EReal) (b : ℕ) :
    Fold f b ∅ (fun c => f (lo f b c.val)) (fun c => lo f b c.val) (fun c => f (hi f b c.val)) (fun c => hi f b c.val) where
  sub := Finset.empty_subset _
  out := fun c _ => ⟨rfl, rfl, rfl, Finset.notMem_empty _⟩
  inn := fun c h => absurd h (Finset.notMem_empty _)
  back := fun _ => rfl
  down := fun e h => absurd h (Finset.notMem_empty _)

/-- A set of columns with a member has a first. -/
theorem exists_first (f : ℕ → EReal) (T : Finset ℕ) (h : T.Nonempty) : ∃ m ∈ T, ∀ e ∈ T, e = m ∨ Lt f m e := by
  classical
  induction T using Finset.induction_on with
  | empty => exact absurd h Finset.not_nonempty_empty
  | insert a T _ ih =>
    by_cases hT : T.Nonempty
    · obtain ⟨m, hm, i⟩ := ih hT
      by_cases hma : Lt f m a
      · refine ⟨m, Finset.mem_insert_of_mem hm, fun e he => ?_⟩
        rcases Finset.mem_insert.1 he with rfl | he
        · exact .inr hma
        · exact i e he
      · refine ⟨a, Finset.mem_insert_self _ _, fun e he => ?_⟩
        rcases Finset.mem_insert.1 he with rfl | he
        · exact .inl rfl
        · by_cases ha : a = m
          · exact ha ▸ i e he
          · have ham := (Lt.total (f := f) ha).resolve_right hma
            rcases i e he with rfl | j
            · exact .inr ham
            · exact .inr (ham.trans j)
    · rw [Finset.not_nonempty_iff_eq_empty] at hT
      subst hT
      refine ⟨a, Finset.mem_insert_self _ _, fun e he => ?_⟩
      rcases Finset.mem_insert.1 he with rfl | he
      · exact .inl rfl
      · exact absurd he (Finset.notMem_empty _)

/-- The least front and the least column number of a front that has it are those of the first column not taken. -/
theorem Fold.first {f : ℕ → EReal} (hf : ∀ c, f c < ⊤) {b : ℕ} (hb : b + 2048 ≤ big) {E : Finset ℕ} {lov hiv : Fin 1024 → EReal} {loi hii : Fin 1024 → ℕ}
    (h : Fold f b E lov loi hiv hii) (hE : E.card < 2048) {mv : EReal} (hmv : ∀ c, mv ≤ lov c) (hmv' : ∃ c, mv = lov c)
    {mi : ℕ} (hmi : ∀ c, mi ≤ if lov c = mv then loi c else big) (hmi' : ∃ c, mi = if lov c = mv then loi c else big) :
    mv = f mi ∧ mi ∈ blk b ∧ mi ∉ E ∧ ∀ e ∈ blk b, e ∉ E → e = mi ∨ Lt f mi e := by
  classical
  obtain ⟨m, hm, i⟩ := exists_first f (blk b \ E) (by
    rw [← Finset.card_pos, Finset.card_sdiff_of_subset h.sub, Nat.card_Ico]; omega)
  rw [Finset.mem_sdiff] at hm
  have first : ∀ e ∈ blk b, e ∉ E → e = m ∨ Lt f m e := fun e he he' => i e (Finset.mem_sdiff.2 ⟨he, he'⟩)
  -- a front is `⊤` or an untaken column's
  have front : ∀ c, lov c = ⊤ ∨ (loi c ∈ blk b ∧ loi c ∉ E ∧ lov c = f (loi c)) := by
    intro c
    by_cases h1 : lo f b c.val ∈ E
    · obtain ⟨j1, j2, j3, j4⟩ := h.inn c h1
      by_cases h2 : hi f b c.val ∈ E
      · exact .inl (j4 h2)
      · right; rw [j1]; exact ⟨(pair_mem_blk c).2, h2, j3 h2⟩
    · obtain ⟨j1, j2, j3, j4⟩ := h.out c h1
      right; rw [j2]; exact ⟨(pair_mem_blk c).1, h1, j1⟩
  have at_m : ∃ c, lov c = f m ∧ loi c = m := by
    obtain ⟨c, hc⟩ := mem_blk_pair (f := f) hm.1
    refine ⟨c, ?_⟩
    by_cases h1 : lo f b c.val ∈ E
    · obtain ⟨j1, j2, j3, j4⟩ := h.inn c h1
      rcases hc with rfl | rfl
      · exact absurd h1 hm.2
      · exact ⟨j3 hm.2, j1⟩
    · obtain ⟨j1, j2, j3, j4⟩ := h.out c h1
      rcases hc with rfl | rfl
      · exact ⟨j1, j2⟩
      · rcases first _ (pair_mem_blk c).1 h1 with e | e
        · exact absurd (e ▸ lo_lt_hi f b c.val) Lt.irrefl
        · exact absurd (e.trans (lo_lt_hi f b c.val)) Lt.irrefl
  obtain ⟨cm, hc1, hc2⟩ := at_m
  have emv : mv = f m := by
    refine le_antisymm (hc1 ▸ hmv cm) ?_
    obtain ⟨c, hc⟩ := hmv'
    rw [hc]
    rcases front c with j | ⟨j1, j2, j3⟩
    · rw [j]; exact le_top
    · rw [j3]
      rcases first _ j1 j2 with e | e
      · rw [e]
      · exact e.le
  have hmb : m < big := by have := (Finset.mem_Ico.1 hm.1).2; omega
  have emi : mi = m := by
    refine le_antisymm ?_ ?_
    · have := hmi cm
      rwa [if_pos (hc1.trans emv.symm), hc2] at this
    · obtain ⟨c, hc⟩ := hmi'
      rw [hc]
      by_cases hl : lov c = mv
      · rw [if_pos hl]
        rcases front c with j | ⟨j1, j2, j3⟩
        · exact absurd (j.symm.trans (hl.trans emv)) (hf m).ne'
        · rcases first _ j1 j2 with e | e
          · omega
          · rcases e with e | e
            · exact absurd (emv.symm.trans (hl.symm.trans j3)) e.ne
            · omega
      · rw [if_neg hl]; omega
  subst emi
  exact ⟨emv, hm.1, hm.2, first⟩

/-- Taking the first column not taken: its pair's front is replaced by its back. -/
theorem Fold.take {f : ℕ → EReal} {b : ℕ} {E : Finset ℕ} {lov hiv : Fin 1024 → EReal} {loi hii : Fin 1024 → ℕ}
    (h : Fold f b E lov loi hiv hii) {m : ℕ} (hm : m ∈ blk b) (hmE : m ∉ E) (first : ∀ e ∈ blk b, e ∉ E → e = m ∨ Lt f m e) :
    Fold f b (insert m E) (fun c => if loi c = m then hiv c else lov c) (fun c => if loi c = m then hii c else loi c)
      (fun c => if loi c = m then ⊤ else hiv c) hii where
  sub := Finset.insert_subset hm h.sub
  out := by
    intro c hc
    rw [Finset.mem_insert, not_or] at hc
    obtain ⟨j1, j2, j3, j4⟩ := h.out c hc.2
    have hne : ¬ loi c = m := by rw [j2]; exact hc.1
    simp only [if_neg hne]
    refine ⟨j1, j2, j3, fun i => ?_⟩
    rcases Finset.mem_insert.1 i with i | i
    · rcases first _ (pair_mem_blk c).1 hc.2 with e | e
      · exact hc.1 e
      · exact (e.trans (i ▸ lo_lt_hi f b c.val)).irrefl
    · exact j4 i
  inn := by
    intro c hc
    by_cases h1 : lo f b c.val ∈ E
    · obtain ⟨j1, j2, j3, j4⟩ := h.inn c h1
      by_cases he : loi c = m
      · rw [if_pos he, if_pos he, if_pos he]
        refine ⟨h.back c, rfl, fun i => absurd (Finset.mem_insert.2 (.inl (j1.symm.trans he))) i, fun _ => j2⟩
      · simp only [if_neg he]
        refine ⟨j1, j2, fun i => j3 fun k => i (Finset.mem_insert_of_mem k), fun i => ?_⟩
        rcases Finset.mem_insert.1 i with i | i
        · exact absurd (j1.trans i) he
        · exact j4 i
    · obtain ⟨j1, j2, j3, j4⟩ := h.out c h1
      have he : loi c = m := j2.trans ((Finset.mem_insert.1 hc).resolve_right h1)
      rw [if_pos he, if_pos he, if_pos he]
      refine ⟨h.back c, rfl, fun _ => j3, fun i => ?_⟩
      rcases Finset.mem_insert.1 i with i | i
      · have k := lo_lt_hi f b c.val; rw [i, j2.symm.trans he] at k; exact absurd k Lt.irrefl
      · exact absurd i j4
  back := h.back
  down := by
    intro e he u hu huE
    rw [Finset.mem_insert, not_or] at huE
    rcases Finset.mem_insert.1 he with rfl | he
    · exact (first u hu huE.2).resolve_left huE.1
    · exact h.down e he u hu huE.2

/-- Stopping once eight columns are taken, or as many as are less than the last slot held at the block's start, loses none. -/
theorem Slots.stop {f : ℕ → EReal} (hf : ∀ c, f c < ⊤) {b : ℕ} {E : Finset ℕ} {rv₀ rv : Fin 8 → EReal} {ri₀ ri : Fin 8 → ℕ}
    (h₀ : Slots f (Finset.range b) rv₀ ri₀) (h : Slots f (Finset.range b ∪ E) rv ri) (hsub : E ⊆ blk b) (hdown : ∀ e ∈ E, ∀ u ∈ blk b, u ∉ E → Lt f e u)
    (hn : E.card = 8 ∨ ((blk b).filter fun c => f c < rv₀ 7).card ≤ E.card) : Slots f (Finset.range (b + 2048)) rv ri := by
  have hS : Finset.range b ∪ E ∪ blk b = Finset.range (b + 2048) := by
    ext x
    simp only [Finset.mem_union, Finset.mem_range, Finset.mem_Ico]
    refine ⟨fun i => ?_, fun i => by omega⟩
    rcases i with (i | i) | i
    · omega
    · have := Finset.mem_Ico.1 (hsub i); omega
    · omega
  rw [← hS]
  refine h.skips _ fun m hm hmS => ?_
  rw [Finset.mem_union, not_or] at hmS
  rcases hn with hn | hn
  · -- eight taken, all before `m`
    rw [← hn]
    refine Finset.card_le_card fun e he => Finset.mem_filter.2 ⟨Finset.mem_union_right _ he, hdown e he m hm hmS.2⟩
  · -- `m` is not less than the last slot
    have hge : rv₀ 7 ≤ f m := by
      by_contra hlt
      rw [not_le] at hlt
      have : (insert m E) ⊆ (blk b).filter fun c => f c < rv₀ 7 := by
        intro e he
        rcases Finset.mem_insert.1 he with rfl | he
        · exact Finset.mem_filter.2 ⟨hm, hlt⟩
        · exact Finset.mem_filter.2 ⟨hsub he, (hdown e he m hm hmS.2).le.trans_lt hlt⟩
      have := Finset.card_le_card this
      rw [Finset.card_insert_of_notMem hmS.2] at this
      omega
    have hbc : 7 < (Finset.range b).card := by
      by_contra hlt
      have := ((h₀ 7).2 (by change _ ≤ 7; omega)).1
      exact absurd (this ▸ hge) (not_le.2 (hf m))
    obtain ⟨c, hc, hk, e1, e2⟩ := (h₀ 7).1 hbc
    have hlt : Lt f c m := by
      rcases (e1 ▸ hge).lt_or_eq with i | i
      · exact .inl i
      · exact .inr ⟨i, by have := Finset.mem_range.1 hc; have := (Finset.mem_Ico.1 hm).1; omega⟩
    have := rank_lt_of_lt hc hlt
    have h2 := rank_mono (f := f) (S := Finset.range b) (T := Finset.range b ∪ E) Finset.subset_union_left m
    have : rank f (Finset.range b) c = 7 := hk
    omega

end Cert.Proof.Topk

end
-- ==== Proof.TopkRow.lean ====
/-
  One row of the TensorCore's top eight, at the ideal values: what each vector expression of the body says there.
-/
module

public import proofs.«01_k».proof.Proof.TopkBody
public import proofs.«01_k».proof.Proof.TopkSpec
public import Idealize.ShloMosaic.Lib.Pointwise
public import Idealize.ShloMosaic.Lib.SortNet.Extract

@[expose] public section

set_option maxRecDepth 65536

noncomputable section

namespace Cert.Proof.TopkRow

open Cert.WholeIdeal Cert.WholeIdeal.Gen
open Idealize.ShloMosaic

/-! ## Words that hold naturals -/

/-- Words below 2^31 are their numbers: as integers, -/
theorem toInt_word {x : ℕ} (hx : x < 2147483648) : (BitVec.ofNat 32 x).toInt = x := by
  rw [BitVec.toInt_eq_toNat_cond, BitVec.toNat_ofNat, Nat.mod_eq_of_lt (by omega), if_pos (by omega)]

/-- in equality, -/
theorem word_inj {x y : ℕ} (hx : x < 2147483648) (hy : y < 2147483648) : BitVec.ofNat 32 x = BitVec.ofNat 32 y ↔ x = y := by
  refine ⟨fun h => ?_, fun h => h ▸ rfl⟩
  have := congrArg BitVec.toInt h
  rw [toInt_word hx, toInt_word hy] at this
  exact_mod_cast this

/-- in order, -/
theorem slt_word {x y : ℕ} (hx : x < 2147483648) (hy : y < 2147483648) :
    IntOp.cmpi CmpIPredicate.slt (BitVec.ofNat 32 x) (BitVec.ofNat 32 y) = BitVec.ofBool (decide (x < y)) := by
  show BitVec.ofBool (BitVec.slt _ _) = _
  rw [BitVec.slt, toInt_word hx, toInt_word hy]
  simp only [Nat.cast_lt]

/-- in the comparison for equality, -/
theorem eq_word {x y : ℕ} (hx : x < 2147483648) (hy : y < 2147483648) :
    IntOp.cmpi CmpIPredicate.eq (BitVec.ofNat 32 x) (BitVec.ofNat 32 y) = BitVec.ofBool (decide (x = y)) := by
  show BitVec.ofBool (_ == _) = _
  congr 1
  rw [Bool.eq_iff_iff, beq_iff_eq, decide_eq_true_iff, word_inj hx hy]

/-- in the least of two -/
theorem min_word {x y : ℕ} (hx : x < 2147483648) (hy : y < 2147483648) :
    IntOp.minsi (BitVec.ofNat 32 x) (BitVec.ofNat 32 y) = BitVec.ofNat 32 (min x y) := by
  apply BitVec.eq_of_toInt_eq
  rw [SortNet.toInt_minsi, toInt_word hx, toInt_word hy, toInt_word (by omega)]
  omega

/-- and in the greatest. -/
theorem max_word {x y : ℕ} (hx : x < 2147483648) (hy : y < 2147483648) :
    IntOp.maxsi (BitVec.ofNat 32 x) (BitVec.ofNat 32 y) = BitVec.ofNat 32 (max x y) := by
  apply BitVec.eq_of_toInt_eq
  rw [SortNet.toInt_maxsi, toInt_word hx, toInt_word hy, toInt_word (by omega)]
  omega

/-! ## Folds over a row -/

/-- A row's least value, folded from plus infinity, is below every value of it and one of them. -/
theorem fold_min {n : ℕ} (g : Fin (n + 1) → EReal) :
    (∀ c, Finset.fold min ⊤ g Finset.univ ≤ g c) ∧ ∃ c, Finset.fold min ⊤ g Finset.univ = g c := by
  classical
  have h : ∀ S : Finset (Fin (n + 1)), (∀ c ∈ S, Finset.fold min ⊤ g S ≤ g c) ∧ (Finset.fold min ⊤ g S = ⊤ ∨ ∃ c ∈ S, Finset.fold min ⊤ g S = g c) := by
    intro S
    induction S using Finset.induction_on with
    | empty => exact ⟨fun c h => absurd h (Finset.notMem_empty _), .inl Finset.fold_empty⟩
    | insert a S ha ih =>
      rw [Finset.fold_insert ha]
      refine ⟨fun c hc => ?_, ?_⟩
      · rcases Finset.mem_insert.1 hc with rfl | hc
        · exact min_le_left _ _
        · exact (min_le_right _ _).trans (ih.1 c hc)
      · rcases le_total (g a) (Finset.fold min ⊤ g S) with h | h
        · exact .inr ⟨a, Finset.mem_insert_self _ _, min_eq_left h⟩
        · rw [min_eq_right h]
          exact ih.2.imp id fun ⟨c, hc, e⟩ => ⟨c, Finset.mem_insert_of_mem hc, e⟩
  refine ⟨fun c => (h Finset.univ).1 c (Finset.mem_univ _), ?_⟩
  rcases (h Finset.univ).2 with e | ⟨c, -, e⟩
  · exact ⟨0, le_antisymm ((h Finset.univ).1 0 (Finset.mem_univ _)) (le_top.trans_eq e.symm)⟩
  · exact ⟨c, e⟩

/-- A row's least word, of words that hold naturals, holds the least of them. -/
theorem fold_minsi {n : ℕ} (g : Fin (n + 1) → ℕ) (hg : ∀ c, g c < 2147483647) :
    ∃ m < 2147483647, Finset.fold IntOp.minsi (2147483647#32) (fun c => BitVec.ofNat 32 (g c)) Finset.univ = BitVec.ofNat 32 m ∧ (∀ c, m ≤ g c) ∧ ∃ c, m = g c := by
  classical
  have h : ∀ S : Finset (Fin (n + 1)), ∃ m ≤ 2147483647, Finset.fold IntOp.minsi (2147483647#32) (fun c => BitVec.ofNat 32 (g c)) S = BitVec.ofNat 32 m
      ∧ (∀ c ∈ S, m ≤ g c) ∧ (m = 2147483647 ∨ ∃ c ∈ S, m = g c) := by
    intro S
    induction S using Finset.induction_on with
    | empty => exact ⟨2147483647, le_rfl, Finset.fold_empty, fun c h => absurd h (Finset.notMem_empty _), .inl rfl⟩
    | insert a S ha ih =>
      obtain ⟨m, hm, e, l, o⟩ := ih
      have := hg a
      rw [Finset.fold_insert ha, e, min_word (by omega) (by omega)]
      refine ⟨min (g a) m, by omega, rfl, fun c hc => ?_, ?_⟩
      · rcases Finset.mem_insert.1 hc with rfl | hc
        · exact min_le_left _ _
        · exact (min_le_right _ _).trans (l c hc)
      · rcases le_total (g a) m with h | h
        · exact .inr ⟨a, Finset.mem_insert_self _ _, min_eq_left h⟩
        · rw [min_eq_right h]
          exact o.imp id fun ⟨c, hc, e⟩ => ⟨c, Finset.mem_insert_of_mem hc, e⟩
  obtain ⟨m, hm, e, l, o⟩ := h Finset.univ
  have h0 := l 0 (Finset.mem_univ _)
  have h1 := hg 0
  rcases o with o | ⟨c, -, o⟩
  · omega
  · exact ⟨m, by omega, e, fun c => l c (Finset.mem_univ _), c, o⟩

/-- A row's greatest word, of words that hold naturals, holds one that is above them all. -/
theorem fold_maxsi {n : ℕ} (g : Fin (n + 1) → ℕ) (hg : ∀ c, g c < 2147483647) :
    ∃ m < 2147483647, Finset.fold IntOp.maxsi (2147483648#32) (fun c => BitVec.ofNat 32 (g c)) Finset.univ = BitVec.ofNat 32 m ∧ ∀ c, g c ≤ m := by
  classical
  have h : ∀ S : Finset (Fin (n + 1)), (S = ∅ ∧ Finset.fold IntOp.maxsi (2147483648#32) (fun c => BitVec.ofNat 32 (g c)) S = 2147483648#32) ∨
      ∃ m < 2147483647, Finset.fold IntOp.maxsi (2147483648#32) (fun c => BitVec.ofNat 32 (g c)) S = BitVec.ofNat 32 m ∧ ∀ c ∈ S, g c ≤ m := by
    intro S
    induction S using Finset.induction_on with
    | empty => exact .inl ⟨rfl, Finset.fold_empty⟩
    | insert a S ha ih =>
      refine .inr ?_
      have := hg a
      rw [Finset.fold_insert ha]
      rcases ih with ⟨rfl, e⟩ | ⟨m, hm, e, l⟩
      · refine ⟨g a, by omega, ?_, fun c hc => ?_⟩
        · rw [e]
          apply BitVec.eq_of_toInt_eq
          rw [SortNet.toInt_maxsi, toInt_word (by omega)]
          exact max_eq_left (by have : (2147483648#32).toInt = -2147483648 := by decide
                                omega)
        · rw [Finset.mem_insert, or_iff_left (Finset.notMem_empty _)] at hc; exact hc ▸ le_rfl
      · rw [e, max_word (by omega) (by omega)]
        refine ⟨max (g a) m, by omega, rfl, fun c hc => ?_⟩
        rcases Finset.mem_insert.1 hc with rfl | hc
        · exact le_max_left _ _
        · exact (l c hc).trans (le_max_right _ _)
  rcases h Finset.univ with ⟨e, -⟩ | ⟨m, hm, e, l⟩
  · exact absurd (Finset.mem_univ (0 : Fin (n + 1))) (e ▸ Finset.notMem_empty _)
  · exact ⟨m, hm, e, fun c => l c (Finset.mem_univ _)⟩

/-- A row's sum of flags, in words, holds their count. -/
theorem fold_count {n : ℕ} (P : Fin n → Prop) [DecidablePred P] :
    Finset.fold IntOp.addi (0#32) (fun c => BitVec.setWidth 32 (BitVec.ofBool (decide (P c)))) Finset.univ = BitVec.ofNat 32 (Finset.univ.filter P).card := by
  classical
  have h : ∀ S : Finset (Fin n), Finset.fold IntOp.addi (0#32) (fun c => BitVec.setWidth 32 (BitVec.ofBool (decide (P c)))) S = BitVec.ofNat 32 (S.filter P).card := by
    intro S
    induction S using Finset.induction_on with
    | empty => rfl
    | insert a S ha ih =>
      rw [Finset.fold_insert ha, ih, Finset.filter_insert]
      by_cases hp : P a
      · rw [if_pos hp, Finset.card_insert_of_notMem (fun h => ha (Finset.mem_filter.1 h).1), decide_eq_true hp, Nat.add_comm, BitVec.ofNat_add]
        rfl
      · rw [if_neg hp, decide_eq_false hp]
        exact BitVec.zero_add _
  exact h Finset.univ

/-! ## The vector expressions at a row -/

/-- The word of infinity. -/
theorem infinity_word : Ideal.ofBits FTy.f32 2139095040#32 = ⊤ := by simp [Ideal.ofBits, Ideal.ieee]

/-- A row's least value among the pairs' first members. -/
theorem minv_apply (lov : Vec Ideal S512x1024 .f32) (a : Fin 512) :
    k0_pay16 lov (ix2 a 0) = Finset.fold min ⊤ (fun x => lov (ix2 a x)) Finset.univ := by
  rw [← infinity_word]
  pointwise [k0_pay16]

/-- The least number of those that have it. -/
theorem mini_apply (lov : Vec Ideal S512x1024 .f32) (loi : Vec Ideal S512x1024 .i32) (a : Fin 512) :
    k0_pay17 lov loi (ix2 a 0) = Finset.fold IntOp.minsi (2147483647#32)
      (fun x => if lov (ix2 a x) = k0_pay16 lov (ix2 a 0) then loi (ix2 a x) else 1073741824#32) Finset.univ := by
  generalize hm : k0_pay16 lov = m
  pointwise [k0_pay17, hm]

/-- The number of slots that come before that column. -/
theorem pos_apply (lov : Vec Ideal S512x1024 .f32) (loi : Vec Ideal S512x1024 .i32) (rv : Vec Ideal S512x8 .f32) (ri : Vec Ideal S512x8 .i32) (a : Fin 512) :
    k0_pay18 lov loi rv ri (ix2 a 0) = Finset.fold IntOp.addi (0#32)
      (fun x => BitVec.setWidth 32 (IntOp.ori (BitVec.ofBool (decide (rv (ix2 a x) < k0_pay16 lov (ix2 a 0))))
        (IntOp.andi (BitVec.ofBool (decide (rv (ix2 a x) = k0_pay16 lov (ix2 a 0)))) (IntOp.cmpi CmpIPredicate.slt (ri (ix2 a x)) (k0_pay17 lov loi (ix2 a 0)))))) Finset.univ := by
  generalize hm : k0_pay16 lov = m
  generalize hn : k0_pay17 lov loi = n
  pointwise [k0_pay18, hm, hn]

/-- A slot's number. -/
theorem slot_apply (a : Fin 512) (p : Fin 8) : TopkBody.slotNo (ix2 a p) = BitVec.ofNat 32 p.val := by
  pointwise [TopkBody.slotNo]

/-- The slots' values once the least is put in its place, -/
theorem putv_apply (sl : IVec S512x8 32) (lov : Vec Ideal S512x1024 .f32) (loi : Vec Ideal S512x1024 .i32) (rv : Vec Ideal S512x8 .f32) (ri : Vec Ideal S512x8 .i32) (a : Fin 512) (p : Fin 8) :
    k0_pay20 sl lov loi rv ri (ix2 a p) = Scalar.select (IntOp.cmpi CmpIPredicate.slt (sl (ix2 a p)) (k0_pay18 lov loi rv ri (ix2 a 0))) (rv (ix2 a p))
      (Scalar.select (IntOp.cmpi CmpIPredicate.eq (sl (ix2 a p)) (k0_pay18 lov loi rv ri (ix2 a 0))) (k0_pay16 lov (ix2 a 0))
        (if h : p.val < 1 then rv (ix2 a p) else rv (ix2 a ⟨p.val - 1, by omega⟩))) := by
  generalize hm : k0_pay16 lov = m
  generalize hn : k0_pay18 lov loi rv ri = n
  pointwise [k0_pay20, hm, hn]

/-- and their numbers. -/
theorem puti_apply (sl : IVec S512x8 32) (lov : Vec Ideal S512x1024 .f32) (loi : Vec Ideal S512x1024 .i32) (rv : Vec Ideal S512x8 .f32) (ri : Vec Ideal S512x8 .i32) (a : Fin 512) (p : Fin 8) :
    k0_pay1 (F := Ideal) ri (k0_pay19 (F := Ideal) ri) (k0_pay21 sl lov loi rv ri) (k0_pay22 sl lov loi rv ri) (k0_pay23 lov loi) (ix2 a p)
      = Scalar.select (IntOp.cmpi CmpIPredicate.slt (sl (ix2 a p)) (k0_pay18 lov loi rv ri (ix2 a 0))) (ri (ix2 a p))
      (Scalar.select (IntOp.cmpi CmpIPredicate.eq (sl (ix2 a p)) (k0_pay18 lov loi rv ri (ix2 a 0))) (k0_pay17 lov loi (ix2 a 0))
        (if h : p.val < 1 then ri (ix2 a p) else ri (ix2 a ⟨p.val - 1, by omega⟩))) := by
  unfold k0_pay21 k0_pay22 k0_pay23
  generalize hm : k0_pay17 lov loi = m
  generalize hn : k0_pay18 lov loi rv ri = n
  pointwise [k0_pay1, k0_pay19, hm, hn]

/-- The pair whose first member is taken has its second in its place: the values, -/
theorem lov_apply (lov hiv : Vec Ideal S512x1024 .f32) (loi : Vec Ideal S512x1024 .i32) (m : IVec S512x1 32) (a : Fin 512) (c : Fin 1024) :
    k0_pay3 lov loi m hiv (ix2 a c) = Scalar.select (IntOp.cmpi CmpIPredicate.eq (loi (ix2 a c)) (m (ix2 a 0))) (hiv (ix2 a c)) (lov (ix2 a c)) := by
  pointwise [k0_pay3, k0_pay2]

/-- the numbers, -/
theorem loi_apply (loi hii : Vec Ideal S512x1024 .i32) (m : IVec S512x1 32) (a : Fin 512) (c : Fin 1024) :
    k0_pay4 (F := Ideal) loi m hii (ix2 a c) = Scalar.select (IntOp.cmpi CmpIPredicate.eq (loi (ix2 a c)) (m (ix2 a 0))) (hii (ix2 a c)) (loi (ix2 a c)) := by
  pointwise [k0_pay4, k0_pay2]

/-- and infinity where the second was. -/
theorem hiv_apply (hiv : Vec Ideal S512x1024 .f32) (loi : Vec Ideal S512x1024 .i32) (m : IVec S512x1 32) (a : Fin 512) (c : Fin 1024) :
    k0_pay5 loi m hiv (ix2 a c) = Scalar.select (IntOp.cmpi CmpIPredicate.eq (loi (ix2 a c)) (m (ix2 a 0))) ⊤ (hiv (ix2 a c)) := by
  rw [← infinity_word]
  pointwise [k0_pay5, k0_pay2]

/-! ## A row of the state -/

open Cert.Proof.Topk Cert.Proof.TopkBody

/-- Row `a` of state `s`: the values, and the columns that its words hold. -/
structure RowIs (s : St Ideal) (a : Fin 512) (lov : Fin 1024 → EReal) (loi : Fin 1024 → ℕ) (hiv : Fin 1024 → EReal) (hii : Fin 1024 → ℕ) (rv : Fin 8 → EReal) (ri : Fin 8 → ℕ) : Prop where
  lov_eq : ∀ c, s.lov (ix2 a c) = lov c
  loi_eq : ∀ c, s.loi (ix2 a c) = BitVec.ofNat 32 (loi c)
  hiv_eq : ∀ c, s.hiv (ix2 a c) = hiv c
  hii_eq : ∀ c, s.hii (ix2 a c) = BitVec.ofNat 32 (hii c)
  rv_eq : ∀ p, s.rv (ix2 a p) = rv p
  ri_eq : ∀ p, s.ri (ix2 a p) = BitVec.ofNat 32 (ri p)
  loi_le : ∀ c, loi c ≤ big
  hii_le : ∀ c, hii c ≤ big
  ri_le : ∀ p, ri p ≤ big

/-- A choice by a decided bit. -/
theorem select_word {α : Type} (P : Prop) [Decidable P] (x y : α) : Scalar.select (BitVec.ofBool (decide P)) x y = if P then x else y := by
  by_cases h : P
  · rw [if_pos h, decide_eq_true h]; rfl
  · rw [if_neg h, decide_eq_false h]; rfl

/-- The state after a step, buffer by buffer. -/
theorem ext_lov (s : St Ideal) : (ext s).lov = k0_pay3 s.lov s.loi (k0_pay17 s.lov s.loi) s.hiv := by simp only [ext]
theorem ext_loi (s : St Ideal) : (ext s).loi = k0_pay4 (F := Ideal) s.loi (k0_pay17 s.lov s.loi) s.hii := by simp only [ext]
theorem ext_hiv (s : St Ideal) : (ext s).hiv = k0_pay5 s.loi (k0_pay17 s.lov s.loi) s.hiv := by simp only [ext]
theorem ext_hii (s : St Ideal) : (ext s).hii = s.hii := by simp only [ext]
theorem ext_rv (s : St Ideal) : (ext s).rv = k0_pay20 slotNo s.lov s.loi s.rv s.ri := by simp only [ext]
theorem ext_ri (s : St Ideal) : (ext s).ri = k0_pay1 (F := Ideal) s.ri (k0_pay19 (F := Ideal) s.ri) (k0_pay21 slotNo s.lov s.loi s.rv s.ri) (k0_pay22 slotNo s.lov s.loi s.rv s.ri) (k0_pay23 s.lov s.loi) := by simp only [ext]

/-- Taking the first column left of a row and putting it in its place. -/
theorem ext_row {s : St Ideal} {a : Fin 512} {lov hiv : Fin 1024 → EReal} {loi hii : Fin 1024 → ℕ} {rv : Fin 8 → EReal} {ri : Fin 8 → ℕ}
    (h : RowIs s a lov loi hiv hii rv ri) :
    ∃ (mv : EReal) (mi : ℕ), (∀ c, mv ≤ lov c) ∧ (∃ c, mv = lov c) ∧ (∀ c, mi ≤ if lov c = mv then loi c else big) ∧ (∃ c, mi = if lov c = mv then loi c else big) ∧
      RowIs (ext s) a (fun c => if loi c = mi then hiv c else lov c) (fun c => if loi c = mi then hii c else loi c) (fun c => if loi c = mi then ⊤ else hiv c) hii
        (putV (posOf mv mi rv ri) mv rv) (putI (posOf mv mi rv ri) mi ri) := by
  have hmv := minv_apply s.lov a
  simp only [h.lov_eq] at hmv
  obtain ⟨v1, v2⟩ := fold_min (n := 1023) lov
  generalize hv : Finset.fold min ⊤ lov Finset.univ = mv at hmv v1 v2
  have hb : ∀ c, (if lov c = mv then loi c else big) ≤ big := by
    intro c
    by_cases e : lov c = mv
    · rw [if_pos e]; exact h.loi_le c
    · rw [if_neg e]
  obtain ⟨mi, hmi, i0, i1, i2⟩ := fold_minsi (n := 1023) (fun c => if lov c = mv then loi c else big) (fun c => lt_of_le_of_lt (hb c) (by decide))
  have hmi' : k0_pay17 s.lov s.loi (ix2 a 0) = BitVec.ofNat 32 mi := by
    rw [mini_apply, hmv, ← i0]
    refine congrArg (fun g => Finset.fold IntOp.minsi (2147483647#32) g Finset.univ) (funext fun c => ?_)
    rw [h.lov_eq, h.loi_eq]
    by_cases e : lov c = mv
    · rw [if_pos e, if_pos e]
    · rw [if_neg e, if_neg e]
  have hle : mi ≤ big := by obtain ⟨c, e⟩ := i2; exact e ▸ hb c
  have hbig : big = 1073741824 := rfl
  have hpos : k0_pay18 s.lov s.loi s.rv s.ri (ix2 a 0) = BitVec.ofNat 32 (posOf mv mi rv ri) := by
    rw [pos_apply, hmv, hmi', posOf, ← fold_count]
    refine congrArg (fun g => Finset.fold IntOp.addi (0#32) g Finset.univ) (funext fun p => ?_)
    have := h.ri_le p
    rw [h.rv_eq, h.ri_eq, slt_word (by omega) (by omega)]
    refine congrArg (BitVec.setWidth 32) ?_
    by_cases e1 : rv p < mv <;> by_cases e2 : rv p = mv <;> by_cases e3 : ri p < mi <;> simp [e1, e2, e3, IntOp.ori, IntOp.andi]
  have hp8 : posOf mv mi rv ri ≤ 8 := (Finset.card_filter_le _ _).trans (by simp)
  have r1 : ∀ c, (ext s).lov (ix2 a c) = if loi c = mi then hiv c else lov c := by
    intro c
    have := h.loi_le c
    rw [ext_lov, lov_apply, hmi', h.loi_eq, h.hiv_eq, h.lov_eq, eq_word (by omega) (by omega), select_word]
  have r2 : ∀ c, (ext s).loi (ix2 a c) = BitVec.ofNat 32 (if loi c = mi then hii c else loi c) := by
    intro c
    have := h.loi_le c
    rw [ext_loi, loi_apply, hmi', h.loi_eq, h.hii_eq, eq_word (by omega) (by omega), select_word]
    by_cases e : loi c = mi
    · rw [if_pos e, if_pos e]
    · rw [if_neg e, if_neg e]
  have r3 : ∀ c, (ext s).hiv (ix2 a c) = if loi c = mi then ⊤ else hiv c := by
    intro c
    have := h.loi_le c
    rw [ext_hiv, hiv_apply, hmi', h.loi_eq, h.hiv_eq, eq_word (by omega) (by omega), select_word]
  have r4 : ∀ c, (ext s).hii (ix2 a c) = BitVec.ofNat 32 (hii c) := fun c => by rw [ext_hii, h.hii_eq]
  have r5 : ∀ p, (ext s).rv (ix2 a p) = putV (posOf mv mi rv ri) mv rv p := by
    intro p
    rw [ext_rv, putv_apply, slot_apply, hpos, hmv, slt_word (by omega) (by omega), eq_word (by omega) (by omega), select_word, select_word, putV]
    simp only [h.rv_eq]
    by_cases e1 : p.val < posOf mv mi rv ri
    · rw [if_pos e1, if_pos e1]
    · rw [if_neg e1, if_neg e1]
      by_cases e2 : p.val = posOf mv mi rv ri
      · rw [if_pos e2, if_pos e2]
      · rw [if_neg e2, if_neg e2, dif_neg (by omega)]
  have r6 : ∀ p, (ext s).ri (ix2 a p) = BitVec.ofNat 32 (putI (posOf mv mi rv ri) mi ri p) := by
    intro p
    rw [ext_ri, puti_apply, slot_apply, hpos, hmi', slt_word (by omega) (by omega), eq_word (by omega) (by omega), select_word, select_word, putI]
    simp only [h.ri_eq]
    by_cases e1 : p.val < posOf mv mi rv ri
    · rw [if_pos e1, if_pos e1]
    · rw [if_neg e1, if_neg e1]
      by_cases e2 : p.val = posOf mv mi rv ri
      · rw [if_pos e2, if_pos e2]
      · rw [if_neg e2, if_neg e2, dif_neg (by omega)]
  have r7 : ∀ c, (if loi c = mi then hii c else loi c) ≤ big := by
    intro c
    by_cases e : loi c = mi
    · rw [if_pos e]; exact h.hii_le c
    · rw [if_neg e]; exact h.loi_le c
  have r8 : ∀ p, putI (posOf mv mi rv ri) mi ri p ≤ big := by
    intro p
    rw [putI]
    by_cases e1 : p.val < posOf mv mi rv ri
    · rw [if_pos e1]; exact h.ri_le p
    · rw [if_neg e1]
      by_cases e2 : p.val = posOf mv mi rv ri
      · rw [if_pos e2]; exact hle
      · rw [if_neg e2]; exact h.ri_le _
  exact ⟨mv, mi, v1, v2, i1, i2, r1, r2, r3, r4, r5, r6, r7, h.hii_le, r8⟩

end Cert.Proof.TopkRow
-- ==== Proof.TopkBlock.lean ====
/-
  One block of the TensorCore's top eight at a row: from the eight first of the columns before it to the eight first with it.
-/
module

public import proofs.«01_k».proof.Proof.TopkRow

@[expose] public section

set_option maxRecDepth 65536

noncomputable section

namespace Cert.Proof.TopkRow

open Cert.WholeIdeal Cert.WholeIdeal.Gen
open Idealize.ShloMosaic
open Cert.Proof.Topk Cert.Proof.TopkBody

variable (q : Vec Ideal S512x3 .f32) (p : Vec Ideal S2048x3 .f32) (qs : Vec Ideal S512x1 .f32) (ps : Vec Ideal S2048 .f32)

/-- The squared distance of row `a` and column `c` of a block, as the block's expression has it. -/
theorem dist_apply (a : Fin 512) (c : Fin 2048) :
    k0_pay82 q p qs ps (ix2 a c) = qs (ix2 a 0) + ps (ix1 c) - Ideal.ofBits FTy.f32 1073741824#32 * ∑ x, q (ix2 a x) * p (ix2 c x) := by
  pointwise [k0_pay82]

/-- The fronts of a block's pairs: the lower of a column's distance and its partner's, the column's when they tie; -/
theorem front_apply (a : Fin 512) (c : Fin 1024) :
    k0_pay90 (k0_pay89 q p qs ps) (ix2 a c) = if k0_pay82 q p qs ps (ix2 a ⟨c.val, by omega⟩) ≤ k0_pay82 q p qs ps (ix2 a ⟨1024 + c.val, by omega⟩)
      then k0_pay82 q p qs ps (ix2 a ⟨c.val, by omega⟩) else k0_pay82 q p qs ps (ix2 a ⟨1024 + c.val, by omega⟩) := by
  unfold k0_pay89 k0_pay88 k0_pay84 k0_pay85
  generalize hm : k0_pay82 q p qs ps = m
  pointwise [k0_pay90]

/-- their columns' words; -/
theorem frontNo_apply (i : grid0.Coords) (a : Fin 512) (c : Fin 1024) :
    k0_pay91 (k0_pay86 i) (k0_pay87 i) (k0_pay88 q p qs ps) (ix2 a c) = if k0_pay82 q p qs ps (ix2 a ⟨c.val, by omega⟩) ≤ k0_pay82 q p qs ps (ix2 a ⟨1024 + c.val, by omega⟩)
      then IntOp.addi (BitVec.ofNat 32 c.val) (Scalar.muli (BitVec.ofNat 32 (i 1).val) 2048#32)
      else IntOp.addi (IntOp.addi (BitVec.ofNat 32 c.val) (Scalar.muli (BitVec.ofNat 32 (i 1).val) 2048#32)) 1024#32 := by
  unfold k0_pay88 k0_pay84 k0_pay85
  generalize hm : k0_pay82 q p qs ps = m
  pointwise [k0_pay91, k0_pay86, k0_pay87]

/-- the backs, the others of the pairs; -/
theorem back_apply (a : Fin 512) (c : Fin 1024) :
    k0_pay92 (k0_pay84 q p qs ps) (k0_pay85 q p qs ps) (k0_pay88 q p qs ps) (ix2 a c) = if k0_pay82 q p qs ps (ix2 a ⟨c.val, by omega⟩) ≤ k0_pay82 q p qs ps (ix2 a ⟨1024 + c.val, by omega⟩)
      then k0_pay82 q p qs ps (ix2 a ⟨1024 + c.val, by omega⟩) else k0_pay82 q p qs ps (ix2 a ⟨c.val, by omega⟩) := by
  unfold k0_pay88 k0_pay84 k0_pay85
  generalize hm : k0_pay82 q p qs ps = m
  pointwise [k0_pay92]

/-- and their columns' words. -/
theorem backNo_apply (i : grid0.Coords) (a : Fin 512) (c : Fin 1024) :
    k0_pay93 (k0_pay86 i) (k0_pay87 i) (k0_pay88 q p qs ps) (ix2 a c) = if k0_pay82 q p qs ps (ix2 a ⟨c.val, by omega⟩) ≤ k0_pay82 q p qs ps (ix2 a ⟨1024 + c.val, by omega⟩)
      then IntOp.addi (IntOp.addi (BitVec.ofNat 32 c.val) (Scalar.muli (BitVec.ofNat 32 (i 1).val) 2048#32)) 1024#32
      else IntOp.addi (BitVec.ofNat 32 c.val) (Scalar.muli (BitVec.ofNat 32 (i 1).val) 2048#32) := by
  unfold k0_pay88 k0_pay84 k0_pay85
  generalize hm : k0_pay82 q p qs ps = m
  pointwise [k0_pay93, k0_pay86, k0_pay87]

/-- The greatest count, over the rows, of columns below the row's last slot. -/
theorem count_apply (rv : Vec Ideal S512x8 .f32) :
    k0_pay83 q p qs ps rv (ix2 0 0) = Finset.fold IntOp.maxsi (2147483648#32)
      (fun x : Fin 512 => Finset.fold IntOp.addi (0#32)
          (fun y : Fin 2048 => BitVec.setWidth 32 (BitVec.ofBool (decide (k0_pay82 q p qs ps (ix2 x y) < rv (ix2 x 7))))) Finset.univ) Finset.univ := by
  unfold k0_pay83
  generalize hm : k0_pay82 q p qs ps = m
  pointwise []

/-- The number of steps of a block: the word the kernel computes, at most eight. -/
theorem need_eq (rv : Vec Ideal S512x8 .f32) : need q p qs ps rv = IntOp.minsi (k0_pay83 q p qs ps rv (ix2 0 0)) 8#32 := by
  unfold need
  generalize k0_pay83 q p qs ps rv = m
  pointwise []
  rfl

/-- The number of columns taken of a block: at most eight, and eight unless every row has no more than that many columns below its last slot. -/
theorem need_word (rv : Vec Ideal S512x8 .f32) : ∃ N ≤ 8, need q p qs ps rv = BitVec.ofNat 32 N ∧
    ∀ a : Fin 512, N = 8 ∨ (Finset.univ.filter fun y : Fin 2048 => k0_pay82 q p qs ps (ix2 a y) < rv (ix2 a 7)).card ≤ N := by
  have hc : ∀ a : Fin 512, (Finset.univ.filter fun y : Fin 2048 => k0_pay82 q p qs ps (ix2 a y) < rv (ix2 a 7)).card < 2147483647 := fun a =>
    lt_of_le_of_lt (Finset.card_filter_le _ _) (by simp)
  obtain ⟨M, hM, e, l⟩ := fold_maxsi (n := 511) (fun a : Fin 512 => (Finset.univ.filter fun y : Fin 2048 => k0_pay82 q p qs ps (ix2 a y) < rv (ix2 a 7)).card) hc
  refine ⟨min M 8, min_le_right _ _, ?_, fun a => ?_⟩
  · rw [need_eq, count_apply]
    simp only [fold_count]
    rw [e, show (8#32 : BitVec 32) = BitVec.ofNat 32 8 from rfl, min_word (by omega) (by omega)]
  · have := l a
    rcases le_total M 8 with h | h
    · exact .inr (by rw [min_eq_left h]; exact this)
    · exact .inl (min_eq_right h)

/-- Step `k` runs when the number of steps is more than `k`. -/
theorem goes_word {N k : ℕ} (hN : N ≤ 8) (hk : k ≤ 8) : goes (BitVec.ofNat 32 N) (BitVec.ofNat 32 k) ↔ k < N := by
  interval_cases N <;> interval_cases k <;> decide

/-- The first block of a row block is block 0. -/
theorem isFirst_iff (i : grid0.Coords) : isFirst i ↔ (i 1).val = 0 := by
  unfold isFirst
  have : (i 1).val < 32 := (i 1).isLt
  generalize (i 1).val = j at this
  interval_cases j <;> decide

variable {q p qs ps}

/-- A column's number as the word the kernel makes of it: in the first half of the block and in the second. -/
theorem word_at {j c : ℕ} (hj : j < 32) (hc : c < 1024) :
    IntOp.addi (BitVec.ofNat 32 c) (Scalar.muli (BitVec.ofNat 32 j) 2048#32) = BitVec.ofNat 32 (2048 * j + c)
    ∧ IntOp.addi (IntOp.addi (BitVec.ofNat 32 c) (Scalar.muli (BitVec.ofNat 32 j) 2048#32)) 1024#32 = BitVec.ofNat 32 (2048 * j + c + 1024) := by
  show BitVec.ofNat 32 c + BitVec.ofNat 32 j * 2048#32 = _ ∧ BitVec.ofNat 32 c + BitVec.ofNat 32 j * 2048#32 + 1024#32 = _
  have h : BitVec.ofNat 32 c + BitVec.ofNat 32 j * 2048#32 = BitVec.ofNat 32 (2048 * j + c) := by
    rw [← BitVec.ofNat_mul, ← BitVec.ofNat_add, Nat.mul_comm, Nat.add_comm]
  exact ⟨h, by rw [h, ← BitVec.ofNat_add]⟩

/-- The state in which a block is folded in half. -/
theorem folded_lov (i : grid0.Coords) (rv : Vec Ideal S512x8 .f32) (ri : Vec Ideal S512x8 .i32) :
    (folded i q p qs ps rv ri).lov = k0_pay90 (k0_pay89 q p qs ps) := by simp only [folded]
theorem folded_loi (i : grid0.Coords) (rv : Vec Ideal S512x8 .f32) (ri : Vec Ideal S512x8 .i32) :
    (folded i q p qs ps rv ri).loi = k0_pay91 (k0_pay86 i) (k0_pay87 i) (k0_pay88 q p qs ps) := by simp only [folded]
theorem folded_hiv (i : grid0.Coords) (rv : Vec Ideal S512x8 .f32) (ri : Vec Ideal S512x8 .i32) :
    (folded i q p qs ps rv ri).hiv = k0_pay92 (k0_pay84 q p qs ps) (k0_pay85 q p qs ps) (k0_pay88 q p qs ps) := by simp only [folded]
theorem folded_hii (i : grid0.Coords) (rv : Vec Ideal S512x8 .f32) (ri : Vec Ideal S512x8 .i32) :
    (folded i q p qs ps rv ri).hii = k0_pay93 (k0_pay86 i) (k0_pay87 i) (k0_pay88 q p qs ps) := by simp only [folded]
theorem folded_rv (i : grid0.Coords) (rv : Vec Ideal S512x8 .f32) (ri : Vec Ideal S512x8 .i32) :
    (folded i q p qs ps rv ri).rv = rv := by simp only [folded]
theorem folded_ri (i : grid0.Coords) (rv : Vec Ideal S512x8 .f32) (ri : Vec Ideal S512x8 .i32) :
    (folded i q p qs ps rv ri).ri = ri := by simp only [folded]

/-- A row of the state once a block is folded: the pairs of its columns in order. -/
theorem folded_row (i : grid0.Coords) {a : Fin 512} {f : ℕ → EReal} (hd : ∀ c : Fin 2048, k0_pay82 q p qs ps (ix2 a c) = f (2048 * (i 1).val + c.val))
    {rv : Vec Ideal S512x8 .f32} {ri : Vec Ideal S512x8 .i32} {v : Fin 8 → EReal} {n : Fin 8 → ℕ}
    (hv : ∀ x, rv (ix2 a x) = v x) (hn : ∀ x, ri (ix2 a x) = BitVec.ofNat 32 (n x)) (hle : ∀ x, n x ≤ big) :
    RowIs (folded i q p qs ps rv ri) a (fun c => f (lo f (2048 * (i 1).val) c.val)) (fun c => lo f (2048 * (i 1).val) c.val)
      (fun c => f (hi f (2048 * (i 1).val) c.val)) (fun c => hi f (2048 * (i 1).val) c.val) v n := by
  have hj : (i 1).val < 32 := (i 1).isLt
  have h1 : ∀ c : Fin 1024, k0_pay82 q p qs ps (ix2 a ⟨c.val, by omega⟩) = f (2048 * (i 1).val + c.val) := fun c => hd _
  have h2 : ∀ c : Fin 1024, k0_pay82 q p qs ps (ix2 a ⟨1024 + c.val, by omega⟩) = f (2048 * (i 1).val + c.val + 1024) := fun c => by
    rw [hd]; exact congrArg f (by show 2048 * (i 1).val + (1024 + c.val) = _; omega)
  have hb : big = 1073741824 := rfl
  have e : ∀ c : Fin 1024, f (2048 * (i 1).val + c.val) ≤ f (2048 * (i 1).val + c.val + 1024) →
      lo f (2048 * (i 1).val) c.val = 2048 * (i 1).val + c.val ∧ hi f (2048 * (i 1).val) c.val = 2048 * (i 1).val + c.val + 1024 := fun c h => by
    rw [lo, hi, if_pos h, if_pos h]; exact ⟨rfl, rfl⟩
  have e' : ∀ c : Fin 1024, ¬ f (2048 * (i 1).val + c.val) ≤ f (2048 * (i 1).val + c.val + 1024) →
      lo f (2048 * (i 1).val) c.val = 2048 * (i 1).val + c.val + 1024 ∧ hi f (2048 * (i 1).val) c.val = 2048 * (i 1).val + c.val := fun c h => by
    rw [lo, hi, if_neg h, if_neg h]; exact ⟨rfl, rfl⟩
  refine ⟨fun c => ?_, fun c => ?_, fun c => ?_, fun c => ?_, fun x => by rw [folded_rv, hv], fun x => by rw [folded_ri, hn], fun c => ?_, fun c => ?_, hle⟩
  · rw [folded_lov, front_apply, h1, h2]
    by_cases h : f (2048 * (i 1).val + c.val) ≤ f (2048 * (i 1).val + c.val + 1024)
    · rw [if_pos h, (e c h).1]
    · rw [if_neg h, (e' c h).1]
  · rw [folded_loi, frontNo_apply, h1, h2, (word_at hj c.isLt).2, (word_at hj c.isLt).1]
    by_cases h : f (2048 * (i 1).val + c.val) ≤ f (2048 * (i 1).val + c.val + 1024)
    · rw [if_pos h, (e c h).1]
    · rw [if_neg h, (e' c h).1]
  · rw [folded_hiv, back_apply, h1, h2]
    by_cases h : f (2048 * (i 1).val + c.val) ≤ f (2048 * (i 1).val + c.val + 1024)
    · rw [if_pos h, (e c h).2]
    · rw [if_neg h, (e' c h).2]
  · rw [folded_hii, backNo_apply, h1, h2, (word_at hj c.isLt).2, (word_at hj c.isLt).1]
    by_cases h : f (2048 * (i 1).val + c.val) ≤ f (2048 * (i 1).val + c.val + 1024)
    · rw [if_pos h, (e c h).2]
    · rw [if_neg h, (e' c h).2]
  · have := c.isLt
    rcases lo_hi f (2048 * (i 1).val) c.val with ⟨h, -⟩ | ⟨h, -⟩ <;> rw [h] <;> omega
  · have := c.isLt
    rcases lo_hi f (2048 * (i 1).val) c.val with ⟨-, h⟩ | ⟨-, h⟩ <;> rw [h] <;> omega

/-- Row `a` of state `s` once `k` columns of the block at `b` have been taken: the slots are the eight first of the columns before the block and those taken. -/
def Taken (f : ℕ → EReal) (b : ℕ) (a : Fin 512) (k : ℕ) (s : St Ideal) : Prop :=
  ∃ (E : Finset ℕ) (lov : Fin 1024 → EReal) (loi : Fin 1024 → ℕ) (hiv : Fin 1024 → EReal) (hii : Fin 1024 → ℕ) (v : Fin 8 → EReal) (n : Fin 8 → ℕ),
    E.card = k ∧ RowIs s a lov loi hiv hii v n ∧ Fold f b E lov loi hiv hii ∧ Slots f (Finset.range b ∪ E) v n

/-- One more column taken. -/
theorem Taken.ext {f : ℕ → EReal} (hf : ∀ c, f c < ⊤) {b : ℕ} (hb : b + 2048 ≤ big) {a : Fin 512} {k : ℕ} (hk : k < 2048) {s : St Ideal} (h : Taken f b a k s) :
    Taken f b a (k + 1) (ext s) := by
  obtain ⟨E, lov, loi, hiv, hii, v, n, hE, hrow, hfold, hslots⟩ := h
  obtain ⟨mv, mi, v1, v2, i1, i2, hrow'⟩ := ext_row hrow
  obtain ⟨e, m1, m2, first⟩ := Fold.first hf hb hfold (by omega) v1 v2
    (fun c => (i1 c).trans_eq (by by_cases h : lov c = mv <;> simp [h])) (i2.imp fun c hc => hc.trans (by by_cases h : lov c = mv <;> simp [h]))
  subst e
  have m3 : mi ∉ Finset.range b ∪ E := fun h => by
    rcases Finset.mem_union.1 h with h | h
    · have := Finset.mem_range.1 h; have := (Finset.mem_Ico.1 m1).1; omega
    · exact m2 h
  refine ⟨insert mi E, _, _, _, _, _, _, ?_, hrow', ?_, ?_⟩
  · rw [Finset.card_insert_of_notMem m2, hE]
  · have := Fold.take hfold m1 m2 first
    convert this
  · rw [Finset.union_insert]
    exact Slots.put hslots m3 (hf mi)

/-- A step takes one more column if there are still some to take. -/
theorem Taken.stp {f : ℕ → EReal} (hf : ∀ c, f c < ⊤) {b : ℕ} (hb : b + 2048 ≤ big) {a : Fin 512} {N k : ℕ} (hN : N ≤ 8) (hk : k < 8) {s : St Ideal} (h : Taken f b a (min N k) s) :
    Taken f b a (min N (k + 1)) (stp (BitVec.ofNat 32 N) (BitVec.ofNat 32 k) s) := by
  unfold TopkBody.stp
  by_cases hg : k < N
  · rw [if_pos ((goes_word hN (by omega)).2 hg), show min N (k + 1) = min N k + 1 by omega]
    exact h.ext hf hb (by omega)
  · rw [if_neg (fun h => hg ((goes_word hN (by omega)).1 h)), show min N (k + 1) = min N k by omega]
    exact h

/-- All the steps take as many columns as there are to take. -/
theorem Taken.steps {f : ℕ → EReal} (hf : ∀ c, f c < ⊤) {b : ℕ} (hb : b + 2048 ≤ big) {a : Fin 512} {N : ℕ} (hN : N ≤ 8) {s : St Ideal} (h : Taken f b a 0 s) :
    Taken f b a N (steps (BitVec.ofNat 32 N) s) := by
  unfold TopkBody.steps
  have h0 : Taken f b a (min N 0) s := by rw [Nat.min_zero]; exact h
  have h1 := h0.stp hf hb hN (by omega)
  have h2 := h1.stp hf hb hN (by omega)
  have h3 := h2.stp hf hb hN (by omega)
  have h4 := h3.stp hf hb hN (by omega)
  have h5 := h4.stp hf hb hN (by omega)
  have h6 := h5.stp hf hb hN (by omega)
  have h7 := h6.stp hf hb hN (by omega)
  have h8 := h7.stp hf hb hN (by omega)
  rw [show min N (0 + 1 + 1 + 1 + 1 + 1 + 1 + 1 + 1) = N by omega] at h8
  exact h8

/-- Row `a` of the slots `rv`, `ri` holds the eight first of the columns before `b`. -/
def SlotsAt (f : ℕ → EReal) (b : ℕ) (a : Fin 512) (rv : Vec Ideal S512x8 .f32) (ri : Vec Ideal S512x8 .i32) : Prop :=
  ∃ (v : Fin 8 → EReal) (n : Fin 8 → ℕ), (∀ x, rv (ix2 a x) = v x) ∧ (∀ x, ri (ix2 a x) = BitVec.ofNat 32 (n x)) ∧ (∀ x, n x ≤ big) ∧ Slots f (Finset.range b) v n

/-- One block: the eight first of the columns before it become the eight first with it. -/
theorem block_row (i : grid0.Coords) {a : Fin 512} {f : ℕ → EReal} (hf : ∀ c, f c < ⊤)
    (hd : ∀ c : Fin 2048, k0_pay82 q p qs ps (ix2 a c) = f (2048 * (i 1).val + c.val))
    {rv : Vec Ideal S512x8 .f32} {ri : Vec Ideal S512x8 .i32} (h : SlotsAt f (2048 * (i 1).val) a rv ri) :
    SlotsAt f (2048 * (i 1).val + 2048) a (blockSt i q p qs ps rv ri).rv (blockSt i q p qs ps rv ri).ri := by
  obtain ⟨v, n, hv, hn, hle, hs⟩ := h
  have hj : (i 1).val < 32 := (i 1).isLt
  have hb : 2048 * (i 1).val + 2048 ≤ big := by show _ ≤ 1073741824; omega
  obtain ⟨N, hN, eN, hcount⟩ := need_word q p qs ps rv
  have h0 : Taken f (2048 * (i 1).val) a 0 (folded i q p qs ps rv ri) :=
    ⟨∅, _, _, _, _, v, n, rfl, folded_row i hd hv hn hle, Fold.start f _, by rw [Finset.union_empty]; exact hs⟩
  have h1 := h0.steps hf hb hN
  unfold blockSt
  rw [eN]
  generalize steps (BitVec.ofNat 32 N) (folded i q p qs ps rv ri) = s at h1
  obtain ⟨E, lov, loi, hiv, hii, v', n', hE, hrow, hfold, hslots⟩ := h1
  refine ⟨v', n', hrow.rv_eq, hrow.ri_eq, hrow.ri_le, Slots.stop hf hs hslots hfold.sub hfold.down ?_⟩
  rcases hcount a with h | h
  · exact .inl (hE.trans h)
  · refine .inr (le_trans ?_ (h.trans_eq hE.symm))
    refine le_trans (Finset.card_le_card (t := (Finset.univ.filter fun y : Fin 2048 => k0_pay82 q p qs ps (ix2 a y) < rv (ix2 a 7)).image fun y => 2048 * (i 1).val + y.val) ?_) Finset.card_image_le
    intro c hc
    obtain ⟨c1, c2⟩ := Finset.mem_filter.1 hc
    have c3 := Finset.mem_Ico.1 c1
    refine Finset.mem_image.2 ⟨⟨c - 2048 * (i 1).val, by omega⟩, Finset.mem_filter.2 ⟨Finset.mem_univ _, ?_⟩, ?_⟩
    · rw [hd, hv]
      show f (2048 * (i 1).val + (c - 2048 * (i 1).val)) < v 7
      rw [Nat.add_sub_cancel' c3.1]
      exact c2
    · show 2048 * (i 1).val + (c - 2048 * (i 1).val) = c
      omega

end Cert.Proof.TopkRow
-- ==== Proof.TopkRun.lean ====
/-
  The TensorCore top eight: the run of its body, and the proof data of its pipeline.
-/
module

public import proofs.«01_k».proof.Proof.TopkBody
public import proofs.«01_k».proof.Proof.Gen.WholeIdeal.Launch
public import proofs.«01_k».proof.Proof.Gen.WholeIdeal.Points
public import proofs.«01_k».proof.Proof.Gen.WholeIdeal.Skeleton
public import Idealize.ShloMosaic.Lib.Tactic
public import Idealize.ShloMosaic.Lib.Pipeline.RegionsLoop
public import Idealize.ShloMosaic.Lib.Pipeline.FrameBody

@[expose] public section

set_option maxRecDepth 65536

noncomputable section

namespace Cert.Proof.TopkRun

open Cert.WholeIdeal Cert.WholeIdeal.Gen Cert.Proof.WGather Cert.Proof.TopkBody

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Body
variable (c : Dev nD) (i : grid0.Coords)
  (M2 : Memref sig .tc .vmem S512x3 .f32) (h2 : M2.IsWhole) (M3 : Memref sig .tc .vmem S2048x3 .f32) (h3 : M3.IsWhole)
  (M4 : Memref sig .tc .vmem S512x1 .f32) (h4 : M4.IsWhole) (M5 : Memref sig .tc .vmem S2048 .f32) (h5 : M5.IsWhole)
  (M6 : Memref sig .tc .vmem S512x8 .i32) (h6 : M6.IsWhole) (M7 : Memref sig .tc .vmem S512x1024 .f32) (h7 : M7.IsWhole)
  (M8 : Memref sig .tc .vmem S512x1024 .i32) (h8 : M8.IsWhole) (M9 : Memref sig .tc .vmem S512x1024 .f32) (h9 : M9.IsWhole)
  (M10 : Memref sig .tc .vmem S512x1024 .i32) (h10 : M10.IsWhole) (M11 : Memref sig .tc .vmem S512x8 .f32) (h11 : M11.IsWhole)
  (M12 : Memref sig .tc .vmem S512x8 .i32) (h12 : M12.IsWhole)

/-- The four stores a block's fold makes. -/
def fill (a b : FVec F S512x1024 .f32) (v33 v35 : IVec S512x1024 32) (v36 : IVec S512x1024 1) (v37 : FVec F S512x1024 .f32) :
    Prog (TpuEff nD τ sig (Elt F) Λ₀ .tc) PUnit := do
  let _ : Vec F S512x1024 .f32 ← Prog.lift (.load M7 (Rect.unit (s := S512x1024) ![0, 0] S512x1024.size inb_S512x1024_S512x1024_0_0).toLoadRect (View.loadsAt_vmem h_S512x1024))
  Prog.lift (.store M7 (Rect.unit (s := S512x1024) ![0, 0] S512x1024.size inb_S512x1024_S512x1024_0_0) (k0_pay90 v37) Finset.univ (View.stores_vmem_bits_univ h_S512x1024 rfl) (.inl rfl))
  let _ : Vec F S512x1024 .i32 ← Prog.lift (.load M8 (Rect.unit (s := S512x1024) ![0, 0] S512x1024.size inb_S512x1024_S512x1024_0_0).toLoadRect (View.loadsAt_vmem h_S512x1024))
  Prog.lift (.store M8 (Rect.unit (s := S512x1024) ![0, 0] S512x1024.size inb_S512x1024_S512x1024_0_0) (k0_pay91 v33 v35 v36) Finset.univ (View.stores_vmem_bits_univ h_S512x1024 rfl) (.inl rfl))
  let _ : Vec F S512x1024 .f32 ← Prog.lift (.load M9 (Rect.unit (s := S512x1024) ![0, 0] S512x1024.size inb_S512x1024_S512x1024_0_0).toLoadRect (View.loadsAt_vmem h_S512x1024))
  Prog.lift (.store M9 (Rect.unit (s := S512x1024) ![0, 0] S512x1024.size inb_S512x1024_S512x1024_0_0) (k0_pay92 a b v36) Finset.univ (View.stores_vmem_bits_univ h_S512x1024 rfl) (.inl rfl))
  let _ : Vec F S512x1024 .i32 ← Prog.lift (.load M10 (Rect.unit (s := S512x1024) ![0, 0] S512x1024.size inb_S512x1024_S512x1024_0_0).toLoadRect (View.loadsAt_vmem h_S512x1024))
  Prog.lift (.store M10 (Rect.unit (s := S512x1024) ![0, 0] S512x1024.size inb_S512x1024_S512x1024_0_0) (k0_pay93 v33 v35 v36) Finset.univ (View.stores_vmem_bits_univ h_S512x1024 rfl) (.inl rfl))
  pure ⟨⟩

include h7 h8 h9 h10 in
/-- They leave the block folded. -/
theorem fill_wp (a b : FVec F S512x1024 .f32) (v33 v35 : IVec S512x1024 32) (v36 : IVec S512x1024 1) (v37 : FVec F S512x1024 .f32) (s : St F) (E : Set ℕ) (Q : PUnit → sProp 𝕄) :
    iprop((own6 (F := F) c M7 M8 M9 M10 M11 M12) s ∗ ((own6 (F := F) c M7 M8 M9 M10 M11 M12) ⟨k0_pay90 v37, k0_pay91 v33 v35 v36, k0_pay92 a b v36, k0_pay93 v33 v35 v36, s.rv, s.ri⟩ -∗ Q ⟨⟩)) ⊢ (wp frame (wpE (defs₀ (F := F)) Variants.none c none)) E (fill M7 M8 M9 M10 a b v33 v35 v36 v37) Q := by
  unfold own6 fill
  iintro ⟨⟨H7, H8, H9, H10, H11, H12⟩, Hk⟩
  ihave H7 := (owns_isWhole c h7 _).1 $$ H7; icases H7 with ⟨%f7, %e7, H7⟩
  ihave H8 := (owns_isWhole c h8 _).1 $$ H8; icases H8 with ⟨%f8, %e8, H8⟩
  ihave H9 := (owns_isWhole c h9 _).1 $$ H9; icases H9 with ⟨%f9, %e9, H9⟩
  ihave H10 := (owns_isWhole c h10 _).1 $$ H10; icases H10 with ⟨%f10, %e10, H10⟩
  sl_exec!
  sl_step
  iapply Hk
  isplitl [H7]
  · iapply (owns_isWhole c h7 _).2; iexists _; isplitr; swap; (· iexact H7)
    ipureintro; first | unfold fill_wp.sl.H7_1 | skip
    exact (read_store_zero _ (by decide) _ _ _)
  isplitl [H8]
  · iapply (owns_isWhole c h8 _).2; iexists _; isplitr; swap; (· iexact H8)
    ipureintro; first | unfold fill_wp.sl.H8_1 | skip
    exact (read_store_zero _ (by decide) _ _ _)
  isplitl [H9]
  · iapply (owns_isWhole c h9 _).2; iexists _; isplitr; swap; (· iexact H9)
    ipureintro; first | unfold fill_wp.sl.H9_1 | skip
    exact (read_store_zero _ (by decide) _ _ _)
  isplitl [H10]
  · iapply (owns_isWhole c h10 _).2; iexists _; isplitr; swap; (· iexact H10)
    ipureintro; first | unfold fill_wp.sl.H10_1 | skip
    exact (read_store_zero _ (by decide) _ _ _)
  isplitl [H11]; · iexact H11
  iexact H12

/-- The slots at a block's start: emptied if it is its rows' first. -/
def rv₀ (rv : Vec F S512x8 .f32) : Vec F S512x8 .f32 := if isFirst i then k0_pay80 else rv
/-- The slots' numbers at a block's start. -/
def ri₀ (ri : Vec F S512x8 .i32) : Vec F S512x8 .i32 := if isFirst i then k0_pay81 else ri

/-- The first part of the body leaves the slots as they start and the block's distances. -/
theorem part9_wp (q : Vec F S512x3 .f32) (p : Vec F S2048x3 .f32) (qs : Vec F S512x1 .f32) (ps : Vec F S2048 .f32) (rv : Vec F S512x8 .f32) (ri : Vec F S512x8 .i32) (E : Set ℕ)
    (Q : (Σ' (_ : BitVec 32) (_ : BitVec 32) (_ : FVec F S512x1024 .f32) (_ : FVec F S512x1024 .f32) (_ : IVec S512x1024 32) (_ : IVec S512x1024 32) (_ : IVec S512x1024 1), FVec F S512x1024 .f32) → sProp 𝕄) :
    iprop(owns (c : Thread nD τ) M2 fullShare q ∗ owns (c : Thread nD τ) M3 fullShare p ∗ owns (c : Thread nD τ) M4 fullShare qs ∗ owns (c : Thread nD τ) M5 fullShare ps
        ∗ owns (c : Thread nD τ) M11 fullShare rv ∗ owns (c : Thread nD τ) M12 fullShare ri
        ∗ (owns (c : Thread nD τ) M2 fullShare q ∗ owns (c : Thread nD τ) M3 fullShare p ∗ owns (c : Thread nD τ) M4 fullShare qs ∗ owns (c : Thread nD τ) M5 fullShare ps
            ∗ owns (c : Thread nD τ) M11 fullShare (rv₀ i rv) ∗ owns (c : Thread nD τ) M12 fullShare (ri₀ (F := F) i ri)
            -∗ Q ⟨BitVec.ofNat 32 (i 1).val, need q p qs ps (rv₀ i rv), k0_pay84 q p qs ps, k0_pay85 q p qs ps, k0_pay86 i, k0_pay87 i, k0_pay88 q p qs ps, k0_pay89 q p qs ps⟩))
      ⊢ (wp frame (wpE (defs₀ (F := F)) Variants.none c none)) E (k0_part9 i M2 h2 M3 h3 M4 h4 M5 h5 M6 h6 M7 h7 M8 h8 M9 h9 M10 h10 M11 h11 M12 h12) Q := by
  rw [k0_part9_eq_skeleton]; unfold k0_part9_skel rv₀ ri₀
  iintro ⟨H2, H3, H4, H5, H11, H12, Hk⟩
  ihave H2 := (owns_isWhole c h2 _).1 $$ H2; icases H2 with ⟨%f2, %e2, H2⟩
  ihave H3 := (owns_isWhole c h3 _).1 $$ H3; icases H3 with ⟨%f3, %e3, H3⟩
  ihave H4 := (owns_isWhole c h4 _).1 $$ H4; icases H4 with ⟨%f4, %e4, H4⟩
  ihave H5 := (owns_isWhole c h5 _).1 $$ H5; icases H5 with ⟨%f5, %e5, H5⟩
  ihave H11 := (owns_isWhole c h11 _).1 $$ H11; icases H11 with ⟨%f11, %e11, H11⟩
  ihave H12 := (owns_isWhole c h12 _).1 $$ H12; icases H12 with ⟨%f12, %e12, H12⟩
  have r2 : M2.view.readAt (Elt F) (Rect.unit (s := S512x3) ![0, 0] S512x3.size inb_S512x3_S512x3_0_0).toLoadRect f2 = q := (readAt_zero _ (by decide) _ _).trans e2
  have r3 : M3.view.readAt (Elt F) (Rect.unit (s := S2048x3) ![0, 0] S2048x3.size inb_S2048x3_S2048x3_0_0).toLoadRect f3 = p := (readAt_zero _ (by decide) _ _).trans e3
  have r4 : M4.view.readAt (Elt F) (Rect.unit (s := S512x1) ![0, 0] S512x1.size inb_S512x1_S512x1_0_0).toLoadRect f4 = qs := (readAt_zero _ (by decide) _ _).trans e4
  have r5 : M5.view.readAt (Elt F) (Rect.unit (s := S2048) ![0] S2048.size inb_S2048_S2048_0).toLoadRect f5 = ps := (readAt_zero _ (by decide) _ _).trans e5
  by_cases hf : isFirst i
  · rw [if_pos hf, if_pos hf]
    unfold isFirst at hf
    dsimp only
    rw [dif_pos hf]
    sl_exec!
    sl_step
    have r17 : part9_wp.sl.v17 (F := F) M11 = k0_pay80 := by
      unfold part9_wp.sl.v17 part9_wp.sl.H11_1
      exact (readAt_zero _ (by decide) _ _).trans (read_store_zero _ (by decide) _ _ _)
    rw [r17]
    unfold need
    iapply Hk
    isplitl [H2]; · iapply (owns_isWhole c h2 _).2; iexists _; isplitr; swap; (· iexact H2); ipureintro; exact e2
    isplitl [H3]; · iapply (owns_isWhole c h3 _).2; iexists _; isplitr; swap; (· iexact H3); ipureintro; exact e3
    isplitl [H4]; · iapply (owns_isWhole c h4 _).2; iexists _; isplitr; swap; (· iexact H4); ipureintro; exact e4
    isplitl [H5]; · iapply (owns_isWhole c h5 _).2; iexists _; isplitr; swap; (· iexact H5); ipureintro; exact e5
    isplitl [H11]; · iapply (owns_isWhole c h11 _).2; iexists _; isplitr; swap; (· iexact H11); ipureintro; unfold part9_wp.sl.H11_1; exact read_store_zero _ (by decide) _ _ _
    iapply (owns_isWhole c h12 _).2; iexists _; isplitr; swap; (· iexact H12); ipureintro; unfold part9_wp.sl.H12_1; exact read_store_zero _ (by decide) _ _ _
  · rw [if_neg hf, if_neg hf]
    unfold isFirst at hf
    dsimp only
    rw [dif_neg hf]
    sl_exec!
    sl_step
    have r11 : M11.view.readAt (Elt F) (Rect.unit (s := S512x8) ![0, 0] ![512, 8] inb_S512x8_S512x8_0_0).toLoadRect f11 = rv := (readAt_zero _ (by decide) _ _).trans e11
    rw [r11]
    unfold need
    iapply Hk
    isplitl [H2]; · iapply (owns_isWhole c h2 _).2; iexists _; isplitr; swap; (· iexact H2); ipureintro; exact e2
    isplitl [H3]; · iapply (owns_isWhole c h3 _).2; iexists _; isplitr; swap; (· iexact H3); ipureintro; exact e3
    isplitl [H4]; · iapply (owns_isWhole c h4 _).2; iexists _; isplitr; swap; (· iexact H4); ipureintro; exact e4
    isplitl [H5]; · iapply (owns_isWhole c h5 _).2; iexists _; isplitr; swap; (· iexact H5); ipureintro; exact e5
    isplitl [H11]; · iapply (owns_isWhole c h11 _).2; iexists _; isplitr; swap; (· iexact H11); ipureintro; exact e11
    iapply (owns_isWhole c h12 _).2; iexists _; isplitr; swap; (· iexact H12); ipureintro; exact e12

/-- The five steps of the second part. -/
theorem stes_wp (n : BitVec 32) (s : St F) (k : PUnit → Prog (TpuEff nD τ sig (Elt F) Λ₀ .tc) (Σ' (_ : IVec S512x8 32), BitVec 32)) (E : Set ℕ)
    (Q : (Σ' (_ : IVec S512x8 32), BitVec 32) → sProp 𝕄) :
    iprop((own6 (F := F) c M7 M8 M9 M10 M11 M12) s ∗ ((own6 (F := F) c M7 M8 M9 M10 M11 M12) (stp n 4#32 (stp n 3#32 (stp n 2#32 (stp n 1#32 (stp n 0#32 (s)))))) -∗ (wp frame (wpE (defs₀ (F := F)) Variants.none c none)) E (k ⟨⟩) Q))
      ⊢ (wp frame (wpE (defs₀ (F := F)) Variants.none c none)) E (stes i M2 h2 M3 h3 M4 h4 M5 h5 M6 h6 M7 h7 M8 h8 M9 h9 M10 h10 M11 h11 M12 h12 n k) Q := by
  unfold stes
  iintro ⟨H, Hk⟩
  iapply (whenDo_wp c i M2 h2 M3 h3 M4 h4 M5 h5 M6 h6 M7 h7 M8 h8 M9 h9 M10 h10 M11 h11 M12 h12 n 0#32 (s) _ E Q)
  isplitl [H]; · iexact H
  iintro H
  iapply (whenDo_wp c i M2 h2 M3 h3 M4 h4 M5 h5 M6 h6 M7 h7 M8 h8 M9 h9 M10 h10 M11 h11 M12 h12 n 1#32 (stp n 0#32 (s)) _ E Q)
  isplitl [H]; · iexact H
  iintro H
  iapply (whenDo_wp c i M2 h2 M3 h3 M4 h4 M5 h5 M6 h6 M7 h7 M8 h8 M9 h9 M10 h10 M11 h11 M12 h12 n 2#32 (stp n 1#32 (stp n 0#32 (s))) _ E Q)
  isplitl [H]; · iexact H
  iintro H
  iapply (whenDo_wp c i M2 h2 M3 h3 M4 h4 M5 h5 M6 h6 M7 h7 M8 h8 M9 h9 M10 h10 M11 h11 M12 h12 n 3#32 (stp n 2#32 (stp n 1#32 (stp n 0#32 (s)))) _ E Q)
  isplitl [H]; · iexact H
  iintro H
  iapply (whenDo_wp c i M2 h2 M3 h3 M4 h4 M5 h5 M6 h6 M7 h7 M8 h8 M9 h9 M10 h10 M11 h11 M12 h12 n 4#32 (stp n 3#32 (stp n 2#32 (stp n 1#32 (stp n 0#32 (s))))) _ E Q)
  isplitl [H]; · iexact H
  iintro H
  iapply Hk; iexact H

/-- The second part: the fold and five steps. -/
theorem part10_wp (n : BitVec 32) (a b : FVec F S512x1024 .f32) (v33 v35 : IVec S512x1024 32) (v36 : IVec S512x1024 1) (v37 : FVec F S512x1024 .f32) (s s' : St F)
    (hs : stp n 4#32 (stp n 3#32 (stp n 2#32 (stp n 1#32 (stp n 0#32 ⟨k0_pay90 v37, k0_pay91 v33 v35 v36, k0_pay92 a b v36, k0_pay93 v33 v35 v36, s.rv, s.ri⟩)))) = s') (E : Set ℕ)
    (Q : (Σ' (_ : IVec S512x8 32), BitVec 32) → sProp 𝕄) :
    iprop((own6 (F := F) c M7 M8 M9 M10 M11 M12) s ∗ ((own6 (F := F) c M7 M8 M9 M10 M11 M12) s'
        -∗ Q ⟨slotNo, Scalar.extui (Scalar.cmpi .sgt n 5#32)⟩))
      ⊢ (wp frame (wpE (defs₀ (F := F)) Variants.none c none)) E (k0_part10 i M2 h2 M3 h3 M4 h4 M5 h5 M6 h6 M7 h7 M8 h8 M9 h9 M10 h10 M11 h11 M12 h12 n a b v33 v35 v36 v37) Q := by
  subst hs
  rw [part10_eq]
  change _ ⊢ (wp frame (wpE (defs₀ (F := F)) Variants.none c none)) E (fill M7 M8 M9 M10 a b v33 v35 v36 v37 >>= fun _ => stes i M2 h2 M3 h3 M4 h4 M5 h5 M6 h6 M7 h7 M8 h8 M9 h9 M10 h10 M11 h11 M12 h12 n fun _ => pure ⟨slotNo, Scalar.extui (Scalar.cmpi .sgt n 5#32)⟩) Q
  rw [wp_bind]
  iintro ⟨H, Hk⟩
  iapply (fill_wp c M7 h7 M8 h8 M9 h9 M10 h10 M11 M12 a b v33 v35 v36 v37 s E _)
  isplitl [H]; · iexact H
  iintro H
  iapply (stes_wp c i M2 h2 M3 h3 M4 h4 M5 h5 M6 h6 M7 h7 M8 h8 M9 h9 M10 h10 M11 h11 M12 h12 n _ _ E Q)
  isplitl [H]; · iexact H
  iintro H
  sl_step
  iapply Hk; iexact H

/-- The body's end: three steps, and the columns out at a row block's last block. -/
theorem last_wp (n : BitVec 32) (s s' : St F) (hs : stp n 7#32 (stp n 6#32 (stp n 5#32 (s))) = s') (o : Vec F S512x8 .i32) (E : Set ℕ) (Q : PUnit → sProp 𝕄) :
    iprop(owns (c : Thread nD τ) M6 fullShare o ∗ (own6 (F := F) c M7 M8 M9 M10 M11 M12) s
        ∗ (owns (c : Thread nD τ) M6 fullShare (if k0_cond10 i = 1#1 then s'.ri else o) ∗ (own6 (F := F) c M7 M8 M9 M10 M11 M12) s' -∗ Q ⟨⟩))
      ⊢ (wp frame (wpE (defs₀ (F := F)) Variants.none c none)) E (last i M2 h2 M3 h3 M4 h4 M5 h5 M6 h6 M7 h7 M8 h8 M9 h9 M10 h10 M11 h11 M12 h12 slotNo (Scalar.extui (Scalar.cmpi .sgt n 5#32)) n) Q := by
  unfold last
  change _ ⊢ (wp frame (wpE (defs₀ (F := F)) Variants.none c none)) E (TopkBody.whenDo (goes n 5#32) _ _) Q
  iintro ⟨H6, H, Hk⟩
  iapply (whenDo_wp c i M2 h2 M3 h3 M4 h4 M5 h5 M6 h6 M7 h7 M8 h8 M9 h9 M10 h10 M11 h11 M12 h12 n 5#32 (s) _ E Q)
  isplitl [H]; · iexact H
  iintro H
  iapply (whenDo_wp c i M2 h2 M3 h3 M4 h4 M5 h5 M6 h6 M7 h7 M8 h8 M9 h9 M10 h10 M11 h11 M12 h12 n 6#32 (stp n 5#32 (s)) _ E Q)
  isplitl [H]; · iexact H
  iintro H
  iapply (whenDo_wp c i M2 h2 M3 h3 M4 h4 M5 h5 M6 h6 M7 h7 M8 h8 M9 h9 M10 h10 M11 h11 M12 h12 n 7#32 (stp n 6#32 (stp n 5#32 (s))) _ E Q)
  isplitl [H]; · iexact H
  iintro H
  rw [hs]
  by_cases hc : k0_cond10 i = 1#1
  · rw [if_pos hc]
    unfold whenDo
    rw [if_pos hc]
    unfold own6
    icases H with ⟨H7, H8, H9, H10, H11, H12⟩
    ihave H6 := (owns_isWhole c h6 _).1 $$ H6; icases H6 with ⟨%f6, %e6, H6⟩
    ihave H12 := (owns_isWhole c h12 _).1 $$ H12; icases H12 with ⟨%f12, %e12, H12⟩
    sl_exec!
    sl_step
    iapply Hk
    isplitl [H6]
    · iapply (owns_isWhole c h6 _).2; iexists _; isplitr; swap; (· iexact H6)
      ipureintro
      first | unfold last_wp.sl.H6_1 | skip
      refine (read_store_zero _ (by decide) _ _ _).trans ?_
      exact (readAt_zero _ (by decide) _ _).trans e12
    isplitl [H7]; · iexact H7
    isplitl [H8]; · iexact H8
    isplitl [H9]; · iexact H9
    isplitl [H10]; · iexact H10
    isplitl [H11]; · iexact H11
    iapply (owns_isWhole c h12 _).2; iexists _; isplitr; swap; (· iexact H12)
    ipureintro; exact e12
  · rw [if_neg hc]
    unfold whenDo
    rw [if_neg hc]
    sl_step
    iapply Hk
    isplitl [H6]; · iexact H6
    iexact H

omit h2 h3 h4 h5 h6 h7 h8 h9 h10 h11 h12 in
/-- The six buffers, one by one. -/
theorem own6_split (s : St F) : (own6 (F := F) c M7 M8 M9 M10 M11 M12) s ⊣⊢ iprop(owns (c : Thread nD τ) M7 fullShare s.lov ∗ owns (c : Thread nD τ) M8 fullShare s.loi ∗ owns (c : Thread nD τ) M9 fullShare s.hiv
    ∗ owns (c : Thread nD τ) M10 fullShare s.hii ∗ owns (c : Thread nD τ) M11 fullShare s.rv ∗ owns (c : Thread nD τ) M12 fullShare s.ri) :=
  .rfl

end Body

end Cert.Proof.TopkRun

end
-- ==== Proof.TopkDat.lean ====
/-
  The TensorCore top eight: the whole body's run, and the proof data of its pipeline.
-/
module

public import proofs.«01_k».proof.Proof.TopkRun
public import proofs.«01_k».proof.Proof.Gen.WholeIdeal.Launch
public import proofs.«01_k».proof.Proof.Gen.WholeIdeal.Points
public import proofs.«01_k».proof.Proof.Gen.WholeIdeal.Skeleton
public import Idealize.ShloMosaic.Lib.Tactic
public import Idealize.ShloMosaic.Lib.Pipeline.RegionsLoop
public import Idealize.ShloMosaic.Lib.Pipeline.FrameBody

@[expose] public section

set_option maxRecDepth 65536

noncomputable section

namespace Cert.Proof.TopkDat

open Cert.WholeIdeal Cert.WholeIdeal.Gen Cert.Proof.WGather Cert.Proof.TopkBody Cert.Proof.TopkRun

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Body
variable (c : Dev nD) (i : grid0.Coords)
  (M2 : Memref sig .tc .vmem S512x3 .f32) (h2 : M2.IsWhole) (M3 : Memref sig .tc .vmem S2048x3 .f32) (h3 : M3.IsWhole)
  (M4 : Memref sig .tc .vmem S512x1 .f32) (h4 : M4.IsWhole) (M5 : Memref sig .tc .vmem S2048 .f32) (h_5 : M5.IsWhole)
  (M6 : Memref sig .tc .vmem S512x8 .i32) (h6 : M6.IsWhole) (M7 : Memref sig .tc .vmem S512x1024 .f32) (h7 : M7.IsWhole)
  (M8 : Memref sig .tc .vmem S512x1024 .i32) (h8 : M8.IsWhole) (M9 : Memref sig .tc .vmem S512x1024 .f32) (h9 : M9.IsWhole)
  (M10 : Memref sig .tc .vmem S512x1024 .i32) (h10 : M10.IsWhole) (M11 : Memref sig .tc .vmem S512x8 .f32) (h11 : M11.IsWhole)
  (M12 : Memref sig .tc .vmem S512x8 .i32) (h12 : M12.IsWhole)

omit h2 h3 h4 h_5 h6 h7 h8 h9 h10 h11 h12 in
/-- The six buffers, one by one. -/
theorem own6_split (s : St F) : (own6 (F := F) c M7 M8 M9 M10 M11 M12) s ⊣⊢ iprop(owns (c : Thread nD τ) M7 fullShare s.lov ∗ owns (c : Thread nD τ) M8 fullShare s.loi ∗ owns (c : Thread nD τ) M9 fullShare s.hiv
    ∗ owns (c : Thread nD τ) M10 fullShare s.hii ∗ owns (c : Thread nD τ) M11 fullShare s.rv ∗ owns (c : Thread nD τ) M12 fullShare s.ri) :=
  .rfl

/-- What the body does once it has the block's distances. -/
def rest (n : BitVec 32) (a b : FVec F S512x1024 .f32) (v33 v35 : IVec S512x1024 32) (v36 : IVec S512x1024 1) (v37 : FVec F S512x1024 .f32) :
    Prog (TpuEff nD τ sig (Elt F) Λ₀ .tc) PUnit :=
  k0_part10 i M2 h2 M3 h3 M4 h4 M5 h_5 M6 h6 M7 h7 M8 h8 M9 h9 M10 h10 M11 h11 M12 h12 n a b v33 v35 v36 v37 >>= fun x => last i M2 h2 M3 h3 M4 h4 M5 h_5 M6 h6 M7 h7 M8 h8 M9 h9 M10 h10 M11 h11 M12 h12 x.1 x.2 n

/-- The rest at a first part's result is the rest at that result's members. -/
def restAt (x : (Σ' (_ : BitVec 32) (_ : BitVec 32) (_ : FVec F S512x1024 .f32) (_ : FVec F S512x1024 .f32) (_ : IVec S512x1024 32) (_ : IVec S512x1024 32) (_ : IVec S512x1024 1), FVec F S512x1024 .f32)) : Prog (TpuEff nD τ sig (Elt F) Λ₀ .tc) PUnit :=
  rest i M2 h2 M3 h3 M4 h4 M5 h_5 M6 h6 M7 h7 M8 h8 M9 h9 M10 h10 M11 h11 M12 h12 x.2.1 x.2.2.1 x.2.2.2.1 x.2.2.2.2.1 x.2.2.2.2.2.1 x.2.2.2.2.2.2.1 x.2.2.2.2.2.2.2

theorem restAt_mk (z n : BitVec 32) (a b : FVec F S512x1024 .f32) (v33 v35 : IVec S512x1024 32) (v36 : IVec S512x1024 1) (v37 : FVec F S512x1024 .f32) :
    restAt i M2 h2 M3 h3 M4 h4 M5 h_5 M6 h6 M7 h7 M8 h8 M9 h9 M10 h10 M11 h11 M12 h12 ⟨z, n, a, b, v33, v35, v36, v37⟩ = rest i M2 h2 M3 h3 M4 h4 M5 h_5 M6 h6 M7 h7 M8 h8 M9 h9 M10 h10 M11 h11 M12 h12 n a b v33 v35 v36 v37 := rfl

theorem body_eq' : cc0__topk_body (F := F) i M2 h2 M3 h3 M4 h4 M5 h_5 M6 h6 M7 h7 M8 h8 M9 h9 M10 h10 M11 h11 M12 h12
    = k0_part9 i M2 h2 M3 h3 M4 h4 M5 h_5 M6 h6 M7 h7 M8 h8 M9 h9 M10 h10 M11 h11 M12 h12 >>= fun x => restAt i M2 h2 M3 h3 M4 h4 M5 h_5 M6 h6 M7 h7 M8 h8 M9 h9 M10 h10 M11 h11 M12 h12 x := by
  rw [body_eq]
  rfl

/-- The body from the second part on leaves the steps' state, and writes the result at the last block. -/
theorem rest_wp (n : BitVec 32) (a b : FVec F S512x1024 .f32) (v33 v35 : IVec S512x1024 32) (v36 : IVec S512x1024 1) (v37 : FVec F S512x1024 .f32) (o : Vec F S512x8 .i32) (s s5 s' : St F)
    (h5 : stp n 4#32 (stp n 3#32 (stp n 2#32 (stp n 1#32 (stp n 0#32 ⟨k0_pay90 v37, k0_pay91 v33 v35 v36, k0_pay92 a b v36, k0_pay93 v33 v35 v36, s.rv, s.ri⟩)))) = s5) (hs : stp n 7#32 (stp n 6#32 (stp n 5#32 s5)) = s') (E : Set ℕ) (Q : PUnit → sProp 𝕄) :
    iprop(owns (c : Thread nD τ) M6 fullShare o ∗ (own6 (F := F) c M7 M8 M9 M10 M11 M12) s
        ∗ (owns (c : Thread nD τ) M6 fullShare (if k0_cond10 i = 1#1 then s'.ri else o) ∗ (own6 (F := F) c M7 M8 M9 M10 M11 M12) s' -∗ Q ⟨⟩))
      ⊢ (wp frame (wpE (defs₀ (F := F)) Variants.none c none)) E (rest i M2 h2 M3 h3 M4 h4 M5 h_5 M6 h6 M7 h7 M8 h8 M9 h9 M10 h10 M11 h11 M12 h12 n a b v33 v35 v36 v37) Q := by
  unfold rest
  rw [wp_bind]
  iintro ⟨H6, H, Hk⟩
  iapply (part10_wp c i M2 h2 M3 h3 M4 h4 M5 h_5 M6 h6 M7 h7 M8 h8 M9 h9 M10 h10 M11 h11 M12 h12 n a b v33 v35 v36 v37 s s5 h5 E _)
  isplitl [H]; · iexact H
  iintro H
  iapply (last_wp c i M2 h2 M3 h3 M4 h4 M5 h_5 M6 h6 M7 h7 M8 h8 M9 h9 M10 h10 M11 h11 M12 h12 n s5 s' hs o E Q)
  isplitl [H6]; · iexact H6
  isplitl [H]; · iexact H
  iexact Hk

/-- The whole body leaves the next state. -/
theorem body_aux (q : Vec F S512x3 .f32) (p : Vec F S2048x3 .f32) (qs : Vec F S512x1 .f32) (ps : Vec F S2048 .f32) (o : Vec F S512x8 .i32) (s u s5 s' : St F)
    (hrv : u.rv = rv₀ i s.rv) (hri : u.ri = ri₀ (F := F) i s.ri)
    (h1 : u.lov = s.lov) (h2' : u.loi = s.loi) (h3' : u.hiv = s.hiv) (h4' : u.hii = s.hii)
    (h5 : stp (need q p qs ps u.rv) 4#32 (stp (need q p qs ps u.rv) 3#32 (stp (need q p qs ps u.rv) 2#32 (stp (need q p qs ps u.rv) 1#32 (stp (need q p qs ps u.rv) 0#32 ⟨k0_pay90 (k0_pay89 q p qs ps), k0_pay91 (k0_pay86 i) (k0_pay87 i) (k0_pay88 q p qs ps), k0_pay92 (k0_pay84 q p qs ps) (k0_pay85 q p qs ps) (k0_pay88 q p qs ps), k0_pay93 (k0_pay86 i) (k0_pay87 i) (k0_pay88 q p qs ps), u.rv, u.ri⟩)))) = s5)
    (hs : stp (need q p qs ps u.rv) 7#32 (stp (need q p qs ps u.rv) 6#32 (stp (need q p qs ps u.rv) 5#32 s5)) = s') (E : Set ℕ) (Q : PUnit → sProp 𝕄) :
    iprop(owns (c : Thread nD τ) M2 fullShare q ∗ owns (c : Thread nD τ) M3 fullShare p ∗ owns (c : Thread nD τ) M4 fullShare qs ∗ owns (c : Thread nD τ) M5 fullShare ps
        ∗ owns (c : Thread nD τ) M6 fullShare o ∗ (own6 (F := F) c M7 M8 M9 M10 M11 M12) s
        ∗ (owns (c : Thread nD τ) M2 fullShare q ∗ owns (c : Thread nD τ) M3 fullShare p ∗ owns (c : Thread nD τ) M4 fullShare qs ∗ owns (c : Thread nD τ) M5 fullShare ps
            ∗ owns (c : Thread nD τ) M6 fullShare (if k0_cond10 i = 1#1 then s'.ri else o)
            ∗ (own6 (F := F) c M7 M8 M9 M10 M11 M12) s' -∗ Q ⟨⟩))
      ⊢ (wp frame (wpE (defs₀ (F := F)) Variants.none c none)) E (cc0__topk_body (F := F) i M2 h2 M3 h3 M4 h4 M5 h_5 M6 h6 M7 h7 M8 h8 M9 h9 M10 h10 M11 h11 M12 h12) Q := by
  rw [body_eq', wp_bind]
  iintro ⟨H2, H3, H4, H5, H6, H, Hk⟩
  ihave H := (own6_split c M7 M8 M9 M10 M11 M12 s).1 $$ H
  icases H with ⟨H7, H8, H9, H10, H11, H12⟩
  iapply (part9_wp c i M2 h2 M3 h3 M4 h4 M5 h_5 M6 h6 M7 h7 M8 h8 M9 h9 M10 h10 M11 h11 M12 h12 q p qs ps s.rv s.ri E _)
  isplitl [H2]; · iexact H2
  isplitl [H3]; · iexact H3
  isplitl [H4]; · iexact H4
  isplitl [H5]; · iexact H5
  isplitl [H11]; · iexact H11
  isplitl [H12]; · iexact H12
  rw [← hrv, ← hri, ← h1, ← h2', ← h3', ← h4']
  iintro ⟨H2, H3, H4, H5, H11, H12⟩
  rw [restAt_mk]
  iapply (rest_wp c i M2 h2 M3 h3 M4 h4 M5 h_5 M6 h6 M7 h7 M8 h8 M9 h9 M10 h10 M11 h11 M12 h12 (need q p qs ps u.rv) (k0_pay84 q p qs ps) (k0_pay85 q p qs ps) (k0_pay86 i) (k0_pay87 i) (k0_pay88 q p qs ps) (k0_pay89 q p qs ps) o u s5 s' h5 hs E Q)
  isplitl [H6]; · iexact H6
  isplitl [H7 H8 H9 H10 H11 H12]
  · iapply (own6_split c M7 M8 M9 M10 M11 M12 u).2
    isplitl [H7]; · iexact H7
    isplitl [H8]; · iexact H8
    isplitl [H9]; · iexact H9
    isplitl [H10]; · iexact H10
    isplitl [H11]; · iexact H11
    iexact H12
  iintro ⟨H6, H⟩
  iapply Hk
  isplitl [H2]; · iexact H2
  isplitl [H3]; · iexact H3
  isplitl [H4]; · iexact H4
  isplitl [H5]; · iexact H5
  isplitl [H6]; · iexact H6
  iexact H

/-- The body's run: it leaves the block's state, and at a row block's last block the state's columns in the output's buffer. -/
theorem body_wp (q : Vec F S512x3 .f32) (p : Vec F S2048x3 .f32) (qs : Vec F S512x1 .f32) (ps : Vec F S2048 .f32) (o : Vec F S512x8 .i32) (s s' : St F)
    (hs : blockSt i q p qs ps (rv₀ i s.rv) (ri₀ (F := F) i s.ri) = s') (E : Set ℕ) (Q : PUnit → sProp 𝕄) :
    iprop(owns (c : Thread nD τ) M2 fullShare q ∗ owns (c : Thread nD τ) M3 fullShare p ∗ owns (c : Thread nD τ) M4 fullShare qs ∗ owns (c : Thread nD τ) M5 fullShare ps
        ∗ owns (c : Thread nD τ) M6 fullShare o ∗ (own6 (F := F) c M7 M8 M9 M10 M11 M12) s
        ∗ (owns (c : Thread nD τ) M2 fullShare q ∗ owns (c : Thread nD τ) M3 fullShare p ∗ owns (c : Thread nD τ) M4 fullShare qs ∗ owns (c : Thread nD τ) M5 fullShare ps
            ∗ owns (c : Thread nD τ) M6 fullShare (if k0_cond10 i = 1#1 then s'.ri else o)
            ∗ (own6 (F := F) c M7 M8 M9 M10 M11 M12) s' -∗ Q ⟨⟩))
      ⊢ (wp frame (wpE (defs₀ (F := F)) Variants.none c none)) E (cc0__topk_body (F := F) i M2 h2 M3 h3 M4 h4 M5 h_5 M6 h6 M7 h7 M8 h8 M9 h9 M10 h10 M11 h11 M12 h12) Q :=
  body_aux c i M2 h2 M3 h3 M4 h4 M5 h_5 M6 h6 M7 h7 M8 h8 M9 h9 M10 h10 M11 h11 M12 h12 q p qs ps o s ⟨s.lov, s.loi, s.hiv, s.hii, rv₀ i s.rv, ri₀ (F := F) i s.ri⟩ _ s' rfl rfl rfl rfl rfl rfl rfl hs E Q

end Body

end Cert.Proof.TopkDat

end
-- ==== Proof.WEncode.lean ====
/-
  The TensorCore encode: its body on its eight staging buffers, and the block it leaves in the output's as one function of the blocks it reads.
-/
module

public import proofs.«01_k».proof.Proof.WCall
public import proofs.«01_k».proof.Proof.Gen.WholeIdeal.Launch
public import proofs.«01_k».proof.Proof.Gen.WholeIdeal.Points
public import proofs.«01_k».proof.Proof.Gen.WholeIdeal.Skeleton
public import Idealize.ShloMosaic.Lib.Tactic
public import Idealize.ShloMosaic.Lib.Pipeline.RegionsLoop
public import Idealize.ShloMosaic.Lib.Pipeline.FrameBody

@[expose] public section

set_option maxRecDepth 16384

noncomputable section

namespace Cert.Proof.WEncode

open Cert.WholeIdeal Cert.WholeIdeal.Gen Cert.Proof.WGather

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The block the body stores, of the gathered rows, the query points, the camera matrix and position, the sampled matrix and the two tables of
    frequencies. -/
def enc (g : Vec F S1024x128 .f32) (x : Vec F S128x3 .f32) (cam : Vec F S3x3 .f32) (pos : Vec F S1x3 .f32) (rw : Vec F S3x3 .f32)
    (sd : Vec F S6x30 .f32) (sf : Vec F S32x96 .f32) : FVec F S128x8x284 .f32 :=
  k2_pay1 (k2_pay5 g) sd
    (k2_pay16 x rw (k2_pay4 g) (k2_pay7 x cam pos) (k2_pay8 x cam pos) (k2_pay9 x cam pos) (k2_pay11 g cam pos) (k2_pay12 cam) (k2_pay13 g pos))
    (k2_pay17 x rw (k2_pay4 g) (k2_pay7 x cam pos) (k2_pay8 x cam pos) (k2_pay9 x cam pos) (k2_pay11 g cam pos) (k2_pay12 cam) (k2_pay13 g pos))
    (k2_pay18 x rw (k2_pay4 g) (k2_pay7 x cam pos) (k2_pay8 x cam pos) (k2_pay9 x cam pos) (k2_pay11 g cam pos) (k2_pay12 cam) (k2_pay13 g pos) sd)
    (constant S1024x30 .f32 0x00000000#32) sf

/-- Memref `M`'s buffer on core `c`, whole at `f`. -/
abbrev pt (c : Dev nD) {sp : Space} {s : Shape} {e : EltTy} (M : Memref sig .tc sp s e) (f : Buf (Elt F) (M.view.loc (c : Thread nD τ))) : sProp 𝕄 :=
  M.view.loc (c : Thread nD τ) ↦{fullShare} f

/-- A load of a whole memref reads what its view reads; -/
theorem readAt_zero {sp : Space} {s : Shape} {e : EltTy} (v : View sig .tc sp s e) {off : Fin s.rank → ℕ} (h0 : off = fun _ => 0) (inb) (f : v.ty.Contents (Elt F)) :
    (v.readAt (Elt F) (Rect.unit (s := s) off s.size inb).toLoadRect f : s.Idx → Elt F e) = v.read (Elt F) f := by
  subst h0
  funext y
  rw [View.readAt_apply]
  congr 1
  funext a
  exact Fin.ext ((Nat.zero_add _).trans (Nat.one_mul _))

/-- and what one store of a whole memref leaves reads as what was stored. -/
theorem read_store_zero {sp : Space} {s : Shape} {e : EltTy} (v : View sig .tc sp s e) {off : Fin s.rank → ℕ} (h0 : off = fun _ => 0) (inb) (f : v.ty.Contents (Elt F))
    (w : s.Idx → Elt F e) : v.read (Elt F) (v.writes (Elt F) f [⟨Rect.unit (s := s) off s.size inb, w⟩]) = w := by
  subst h0
  exact View.read_writes_whole v f w

/-- Owning a whole memref at `X` is owning its buffer at some contents that read as `X`. -/
theorem owns_isWhole (c : Dev nD) {sp : Space} {s : Shape} {e : EltTy} {M : Memref sig .tc sp s e} (h : M.IsWhole) (X : s.Idx → Elt F e) :
    ((owns (c : Thread nD τ) M fullShare X : sProp 𝕄) ⊢ iprop(∃ f, ⌜M.view.read (Elt F) f = X⌝ ∗ pt c M f))
      ∧ (iprop(∃ f, ⌜M.view.read (Elt F) f = X⌝ ∗ pt c M f) ⊢ (owns (c : Thread nD τ) M fullShare X : sProp 𝕄)) := by
  unfold owns pt
  rw [h.set_eq_univ]
  exact ⟨BI.Entails.refl _, BI.Entails.refl _⟩

section Body
variable (c : Dev nD) (i : grid2.Coords)
  (M1 : Memref sig .tc .vmem S1024x128 .f32) (h1 : M1.IsWhole) (M2 : Memref sig .tc .vmem S128x3 .f32) (h2 : M2.IsWhole)
  (M3 : Memref sig .tc .vmem S3x3 .f32) (h3 : M3.IsWhole) (M4 : Memref sig .tc .vmem S1x3 .f32) (h4 : M4.IsWhole)
  (M5 : Memref sig .tc .vmem S3x3 .f32) (h5 : M5.IsWhole) (M6 : Memref sig .tc .vmem S6x30 .f32) (h6 : M6.IsWhole)
  (M7 : Memref sig .tc .vmem S32x96 .f32) (h7 : M7.IsWhole) (M8 : Memref sig .tc .vmem S128x8x284 .f32) (h8 : M8.IsWhole)

/-- From its eight buffers held whole the body runs to its return, the seven inputs as they were and the output reading `enc` of what they hold. -/
theorem body_wp (f1 : Buf (Elt F) (M1.view.loc (c : Thread nD τ))) (f2 : Buf (Elt F) (M2.view.loc (c : Thread nD τ))) (f3 : Buf (Elt F) (M3.view.loc (c : Thread nD τ)))
    (f4 : Buf (Elt F) (M4.view.loc (c : Thread nD τ))) (f5 : Buf (Elt F) (M5.view.loc (c : Thread nD τ))) (f6 : Buf (Elt F) (M6.view.loc (c : Thread nD τ)))
    (f7 : Buf (Elt F) (M7.view.loc (c : Thread nD τ))) (f8 : Buf (Elt F) (M8.view.loc (c : Thread nD τ))) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8
        ∗ (∀ g8, ⌜M8.view.read (Elt F) g8 = enc (M1.view.read (Elt F) f1) (M2.view.read (Elt F) f2) (M3.view.read (Elt F) f3) (M4.view.read (Elt F) f4)
              (M5.view.read (Elt F) f5) (M6.view.read (Elt F) f6) (M7.view.read (Elt F) f7)⌝
            -∗ pt c M1 f1 ∗ pt c M2 f2 ∗ pt c M3 f3 ∗ pt c M4 f4 ∗ pt c M5 f5 ∗ pt c M6 f6 ∗ pt c M7 f7 ∗ pt c M8 g8 -∗ Q ⟨⟩))
      ⊢ wp frame (wpE (defs₀ (F := F)) Variants.none c none) E (cc2__encode_body i M1 h1 M2 h2 M3 h3 M4 h4 M5 h5 M6 h6 M7 h7 M8 h8) Q := by
  iintro ⟨H1, H2, H3, H4, H5, H6, H7, H8, Hk⟩
  rw [cc2__encode_body_eq_skeleton]; unfold cc2__encode_body_skel
  rw [k2_part1_eq_skeleton, k2_part2_eq_skeleton]; unfold k2_part1_skel k2_part2_skel
  sl_exec!
  sl_step
  iapply Hk $$ [] [H1 H2 H3 H4 H5 H6 H7 H8]
  swap
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · ipureintro
    unfold body_wp.sl.H8_1
    refine (read_store_zero _ (by decide) _ _ _).trans ?_
    unfold enc
    iterate 7 rw [readAt_zero _ (by decide)]
    unfold body_wp.sl.cst_16
    rfl

end Body

/-! ## The region, entered from any valuation of the program's buffers -/

abbrev adm : (p : Fin 2) → (pcfgs (F := F) p).Adm := fun p => (cfgs p).toPCfg_adm

variable (V : (c : Dev nD) → (b : Ref sig .tc) → Buf (Elt F) ((c : Thread nD τ).loc b))

/-- The block of window `w` at grid point `t`, read out of the window's array at the entry. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block the output's window holds after grid point `t`. -/
def oblk (c : Dev nD) (t : Fin cfg2.N) : FVec F S128x8x284 .f32 :=
  enc (iblk V c 0 t) (iblk V c 1 t) (iblk V c 2 t) (iblk V c 3 t) (iblk V c 4 t) (iblk V c 5 t) (iblk V c 6 t)

/-- Proof data of the other pipeline, which this region does not run. -/
def dat₀ (c : Dev nD) : Dat τ (Elt F) (HIx 1) ℕ UU ℕ cfg0 c where
  A w := V c (Pipeline.arrRef spec0 w)
  after w t := match w with
    | ⟨0, _⟩ => ((cfg0.win 0).blk t).view.read (Elt F) (V c (Pipeline.arrRef spec0 0))
    | ⟨1, _⟩ => ((cfg0.win 1).blk t).view.read (Elt F) (V c (Pipeline.arrRef spec0 1))
    | ⟨2, _⟩ => ((cfg0.win 2).blk t).view.read (Elt F) (V c (Pipeline.arrRef spec0 2))
    | ⟨3, _⟩ => ((cfg0.win 3).blk t).view.read (Elt F) (V c (Pipeline.arrRef spec0 3))
    | ⟨4, _⟩ => ((cfg0.win 4).blk t).view.read (Elt F) (V c (Pipeline.arrRef spec0 4))
  Φ _ := BI.emp
  q _ := fullShare
  owed _ := 0

/-- The proof data: each array at the valuation; after the body an input's buffer as fetched and the output's at its block; nothing owed. -/
def dat (c : Dev nD) : Dat τ (Elt F) (HIx 1) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => oblk V c t
  Φ _ := Pipeline.scopedRest spec2 c
  q _ := fullShare
  owed _ := 0

def pdats : (p : Fin 2) → (c : Dev nD) → Dat τ (Elt F) (HIx 1) ℕ UU ℕ (Pipeline.pin (pcfgs (F := F)) adm p) c
  | ⟨0, _⟩ => fun c => dat₀ V c
  | ⟨1, _⟩ => fun c => dat V c

/-- An input's buffer holds its block of the entry's array whenever the body runs: whether the pipeline fetches it at this point or has kept it. -/
theorem before_in (c : Dev nD) (t : Fin cfg2.N) :
    (∀ d, (dat V c).before 0 t d = iblk V c 0 t) ∧ (∀ d, (dat V c).before 1 t d = iblk V c 1 t) ∧ (∀ d, (dat V c).before 2 t d = iblk V c 2 t)
      ∧ (∀ d, (dat V c).before 3 t d = iblk V c 3 t) ∧ (∀ d, (dat V c).before 4 t d = iblk V c 4 t) ∧ (∀ d, (dat V c).before 5 t d = iblk V c 5 t)
      ∧ ∀ d, (dat V c).before 6 t d = iblk V c 6 t := by
  refine ⟨fun d => ?_, fun d => ?_, fun d => ?_, fun d => ?_, fun d => ?_, fun d => ?_, fun d => ?_⟩ <;>
    exact ((dat V c).before_in_eq_fetched _ rfl (fun _ => rfl) (fun _ _ _ => rfl) (fun _ => rfl) t d).trans rfl

/-- The body's obligation at every grid point. -/
theorem body_obligation (c : Dev nD) : BodyObligation (dat V c) (defs₀ (F := F)) 𝒱₀ none Set.univ := fun t => by
  obtain ⟨b0, b1, b2, b3, b4, b5, b6⟩ := before_in V c t
  rw [bigSep_W2, bigSep_W2]
  simp only [b0, b1, b2, b3, b4, b5, b6]
  rw [show (dat V c).Φ t.succ = (dat V c).Φ t.castSucc from rfl, show (dat V c).owesAt none t.succ = (dat V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (owns_isWhole c (hstage2_0 _) _).1 $$ H0; icases H0 with ⟨%f0, %e0, H0⟩
  ihave H1 := (owns_isWhole c (hstage2_1 _) _).1 $$ H1; icases H1 with ⟨%f1, %e1, H1⟩
  ihave H2 := (owns_isWhole c (hstage2_2 _) _).1 $$ H2; icases H2 with ⟨%f2, %e2, H2⟩
  ihave H3 := (owns_isWhole c (hstage2_3 _) _).1 $$ H3; icases H3 with ⟨%f3, %e3, H3⟩
  ihave H4 := (owns_isWhole c (hstage2_4 _) _).1 $$ H4; icases H4 with ⟨%f4, %e4, H4⟩
  ihave H5 := (owns_isWhole c (hstage2_5 _) _).1 $$ H5; icases H5 with ⟨%f5, %e5, H5⟩
  ihave H6 := (owns_isWhole c (hstage2_6 _) _).1 $$ H6; icases H6 with ⟨%f6, %e6, H6⟩
  ihave H7 := (owns_isWhole c (hstage2_7 _) _).1 $$ H7; icases H7 with ⟨%f7, -, H7⟩
  iapply (body_wp c (grid2.coords t) _ (hstage2_0 _) _ (hstage2_1 _) _ (hstage2_2 _) _ (hstage2_3 _) _ (hstage2_4 _) _ (hstage2_5 _) _ (hstage2_6 _) _ (hstage2_7 _)
    f0 f1 f2 f3 f4 f5 f6 f7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro %g %hg ⟨H0, H1, H2, H3, H4, H5, H6, H7⟩
  rw [e0, e1, e2, e3, e4, e5, e6] at hg
  isplitl [HΦ]; · iexact HΦ
  isplitl [Howes]; · iexact Howes
  isplitl [H0]; · iapply (owns_isWhole c (hstage2_0 _) _).2; iexists f0; isplitr; (· ipureintro; exact e0); iexact H0
  isplitl [H1]; · iapply (owns_isWhole c (hstage2_1 _) _).2; iexists f1; isplitr; (· ipureintro; exact e1); iexact H1
  isplitl [H2]; · iapply (owns_isWhole c (hstage2_2 _) _).2; iexists f2; isplitr; (· ipureintro; exact e2); iexact H2
  isplitl [H3]; · iapply (owns_isWhole c (hstage2_3 _) _).2; iexists f3; isplitr; (· ipureintro; exact e3); iexact H3
  isplitl [H4]; · iapply (owns_isWhole c (hstage2_4 _) _).2; iexists f4; isplitr; (· ipureintro; exact e4); iexact H4
  isplitl [H5]; · iapply (owns_isWhole c (hstage2_5 _) _).2; iexists f5; isplitr; (· ipureintro; exact e5); iexact H5
  isplitl [H6]; · iapply (owns_isWhole c (hstage2_6 _) _).2; iexists f6; isplitr; (· ipureintro; exact e6); iexact H6
  iapply (owns_isWhole c (hstage2_7 _) _).2; iexists g; isplitr; (· ipureintro; exact hg); iexact H7

/-- The output array the region leaves. -/
def out (c : Dev nD) : Buf (Elt F) ((c : Thread nD τ).loc main_v12) := (dat V c).arrAt 7 cfg2.N

/-- The valuation the region leaves: the entry's, but the output array. -/
def left (c : Dev nD) (b : Ref sig .tc) : Buf (Elt F) ((c : Thread nD τ).loc b) :=
  if h : b = main_v12 then h ▸ out V c else V c b

theorem left_out (c : Dev nD) : left V c main_v12 = out V c := dif_pos rfl
theorem left_of_ne (c : Dev nD) (b : Ref sig .tc) (h : b ≠ main_v12) : left V c b = V c b := dif_neg h

set_option backward.isDefEq.respectTransparency.types false in
/-- The region over the thread state "every buffer of the program at `V c`, and the core owing nothing": it leaves the state at `left V c`. -/
def reg : Pipeline.RegionSeg (pcfgs (F := F)) adm (pdats V) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation V c).loose
  hwaits := Pipeline.hwaits_of_owed_zero _ _ _ _ (K (F := F)).L (K (F := F)).lev 1 fun _ _ => rfl
  pre c := iprop(unscopedBufs c (V c) ∗ ∃ W, owes (c : Thread nD τ) (0 : CellTallies nD τ sig (HIx 1)) W)
  post c := iprop(unscopedBufs c (left V c) ∗ ∃ W, owes (c : Thread nD τ) (0 : CellTallies nD τ sig (HIx 1)) W)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V) launch2.win launch2.arr_whole c
      ((pdats V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 1 c).Φ 0 = (Pipeline.scopedRest spec2 c : sProp 𝕄) from rfl]
    iintro ⟨-, -, Hr⟩
    iexact Hr
  hout c := by
    rw [Pipeline.ownSems0_none, show (pdats V 1 c).Φ (Fin.last _) = (Pipeline.scopedRest spec2 c : sProp 𝕄) from rfl]
    iintro He
    isplitr; · iempintro
    isplitr; · iempintro
    iexact He
  hexit c := by
    have hjoin := Pipeline.unscopedBufs_of_arrays (p := 1) (pcfgs (F := F)) adm (Ix := HIx 1) (Name := ℕ) (U := UU) (Lvl := ℕ) launch2.win launch2.arr_whole c
      (pdats V) ((pdats V 1 c).share_full fun _ => rfl) (V c) (left V c) ((pdats V 1 c).arrAt · cfg2.N)
      (fun w => by
        by_cases h : w = 7
        · subst h; exact (left_out V c).symm
        · exact ((pdats V 1 c).arrAt_in w ((by decide : ∀ w : Fin 8, w ≠ 7 → (spec2 w).isOut = false) w h) _).trans
            (left_of_ne V c _ ((by decide : ∀ w : Fin 8, w ≠ 7 → Pipeline.arrRef spec2 w ≠ main_v12) w h)).symm)
      (fun b hb => left_of_ne V c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem reg_pre (c : Dev nD) : (reg V).pre c = iprop(unscopedBufs c (V c) ∗ ∃ W, owes (c : Thread nD τ) (0 : CellTallies nD τ sig (HIx 1)) W) := rfl
theorem reg_post (c : Dev nD) : (reg V).post c = iprop(unscopedBufs c (left V c) ∗ ∃ W, owes (c : Thread nD τ) (0 : CellTallies nD τ sig (HIx 1)) W) := rfl

end Cert.Proof.WEncode

end
-- ==== Proof.TopkReg.lean ====
/-
  The TensorCore top eight: the the proof data of its pipeline, and the region it is.
-/
module

public import proofs.«01_k».proof.Proof.TopkDat
public import proofs.«01_k».proof.Proof.WEncode
public import proofs.«01_k».proof.Proof.Gen.WholeIdeal.Launch
public import proofs.«01_k».proof.Proof.Gen.WholeIdeal.Points
public import proofs.«01_k».proof.Proof.Gen.WholeIdeal.Skeleton
public import Idealize.ShloMosaic.Lib.Tactic
public import Idealize.ShloMosaic.Lib.Pipeline.RegionsLoop
public import Idealize.ShloMosaic.Lib.Pipeline.FrameBody

@[expose] public section

set_option maxRecDepth 65536

noncomputable section

namespace Cert.Proof.TopkReg

open Cert.WholeIdeal Cert.WholeIdeal.Gen Cert.Proof.WGather Cert.Proof.TopkBody Cert.Proof.TopkRun Cert.Proof.TopkDat

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-- The block of window `w` at grid point `t`, read out of the window's array at the entry. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The state the body leaves at grid point `t`, of the slots before. -/
def stAt (c : Dev nD) (t : Fin cfg0.N) (x : Vec F S512x8 .f32 × Vec F S512x8 .i32) : St F :=
  blockSt (cfg0.grid.coords t) (iblk V c 0 t) (iblk V c 1 t) (iblk V c 2 t) (iblk V c 3 t) (rv₀ (cfg0.grid.coords t) x.1) (ri₀ (F := F) (cfg0.grid.coords t) x.2)

/-- The slots before grid point `n`. -/
def runTo (c : Dev nD) : ℕ → Vec F S512x8 .f32 × Vec F S512x8 .i32
  | 0 => (k0_pay80, k0_pay81)
  | n + 1 => if h : n < cfg0.N then ((stAt V c ⟨n, h⟩ (runTo c n)).rv, (stAt V c ⟨n, h⟩ (runTo c n)).ri) else runTo c n

/-- The state after one more point of the grid. -/
theorem runTo_succ (c : Dev nD) (t : Fin cfg0.N) :
    runTo V c (t.val + 1) = ((stAt V c t (runTo V c t.val)).rv, (stAt V c t (runTo V c t.val)).ri) := by
  rw [runTo, dif_pos t.isLt]

theorem pair_parts {α β : Type} {x : α × β} {a : α} {b : β} (h : x = (a, b)) : a = x.1 ∧ b = x.2 := by subst h; exact ⟨rfl, rfl⟩

/-- The slots after a grid point are the state's it leaves. -/
theorem runTo_parts (c : Dev nD) (t : Fin cfg0.N) :
    (stAt V c t (runTo V c t.val)).rv = (runTo V c (t.val + 1)).1 ∧ (stAt V c t (runTo V c t.val)).ri = (runTo V c (t.val + 1)).2 :=
  pair_parts (runTo_succ V c t)

/-- A scoped buffer at some contents. -/
abbrev any (c : Dev nD) (r : Ref sig .tc) : sProp 𝕄 :=
  iprop(∃ f : Buf (Elt F) ((c : Thread nD τ).loc r), ((c : Thread nD τ).loc r) ↦{fullShare} f)

/-- The six scratch buffers at state `s`. -/
abbrev own (c : Dev nD) (s : St F) : sProp 𝕄 := own6 c (Memref.whole cc0_scratch0) (Memref.whole cc0_scratch1) (Memref.whole cc0_scratch2) (Memref.whole cc0_scratch3) (Memref.whole cc0_scratch4) (Memref.whole cc0_scratch5) s

/-- The scratch buffers between points: once a point has run, the slots are `x`. -/
def held (c : Dev nD) (n : ℕ) (x : Vec F S512x8 .f32 × Vec F S512x8 .i32) : sProp 𝕄 :=
  iprop(∃ s : St F, ⌜n ≠ 0 → s.rv = x.1 ∧ s.ri = x.2⌝ ∗ own c s)

/-- The scoped buffers the region leaves alone. -/
def others (c : Dev nD) : sProp 𝕄 := iprop(any (F := F) c cc2_stg0_0 ∗ any (F := F) c cc2_stg0_1 ∗ any (F := F) c cc2_stg1_0 ∗ any (F := F) c cc2_stg1_1 ∗ any (F := F) c cc2_stg2_0 ∗ any (F := F) c cc2_stg3_0 ∗ any (F := F) c cc2_stg4_0 ∗ any (F := F) c cc2_stg5_0 ∗ any (F := F) c cc2_stg6_0 ∗ any (F := F) c cc2_stg7_0 ∗ any (F := F) c cc2_stg7_1)

/-- The same, written out. -/
theorem others_eq (c : Dev nD) : (others (F := F) c : sProp 𝕄) = iprop(any (F := F) c cc2_stg0_0 ∗ any (F := F) c cc2_stg0_1 ∗ any (F := F) c cc2_stg1_0 ∗ any (F := F) c cc2_stg1_1 ∗ any (F := F) c cc2_stg2_0 ∗ any (F := F) c cc2_stg3_0 ∗ any (F := F) c cc2_stg4_0 ∗ any (F := F) c cc2_stg5_0 ∗ any (F := F) c cc2_stg6_0 ∗ any (F := F) c cc2_stg7_0 ∗ any (F := F) c cc2_stg7_1) := rfl

/-- Before the first point the six scratch buffers may hold anything; -/
theorem held_of (c : Dev nD) {n : ℕ} (x : Vec F S512x8 .f32 × Vec F S512x8 .i32) (hn : ¬ n ≠ 0)
    (f0 f1 f2 f3 f4 f5) :
    iprop((((c : Thread nD τ).loc cc0_scratch0) ↦{fullShare} f0) ∗ (((c : Thread nD τ).loc cc0_scratch1) ↦{fullShare} f1) ∗ (((c : Thread nD τ).loc cc0_scratch2) ↦{fullShare} f2) ∗ (((c : Thread nD τ).loc cc0_scratch3) ↦{fullShare} f3) ∗ (((c : Thread nD τ).loc cc0_scratch4) ↦{fullShare} f4) ∗ (((c : Thread nD τ).loc cc0_scratch5) ↦{fullShare} f5)) ⊢ (held (F := F) c n x : sProp 𝕄) := by
  unfold held own own6
  iintro ⟨H0, H1, H2, H3, H4, H5⟩
  iexists (⟨f0, f1, f2, f3, f4, f5⟩ : St F)
  isplitr; · ipureintro; exact fun h => absurd h hn
  dsimp only
  isplitl [H0]; · iapply (owns_isWhole c (Memref.isWhole_whole cc0_scratch0) _).2; iexists f0; isplitr; (· ipureintro; exact View.read_whole _ _); iexact H0
  isplitl [H1]; · iapply (owns_isWhole c (Memref.isWhole_whole cc0_scratch1) _).2; iexists f1; isplitr; (· ipureintro; exact View.read_whole _ _); iexact H1
  isplitl [H2]; · iapply (owns_isWhole c (Memref.isWhole_whole cc0_scratch2) _).2; iexists f2; isplitr; (· ipureintro; exact View.read_whole _ _); iexact H2
  isplitl [H3]; · iapply (owns_isWhole c (Memref.isWhole_whole cc0_scratch3) _).2; iexists f3; isplitr; (· ipureintro; exact View.read_whole _ _); iexact H3
  isplitl [H4]; · iapply (owns_isWhole c (Memref.isWhole_whole cc0_scratch4) _).2; iexists f4; isplitr; (· ipureintro; exact View.read_whole _ _); iexact H4
  iapply (owns_isWhole c (Memref.isWhole_whole cc0_scratch5) _).2; iexists f5; isplitr; (· ipureintro; exact View.read_whole _ _); iexact H5

/-- and at any point what is held is the six buffers. -/
theorem of_held (c : Dev nD) (n : ℕ) (x : Vec F S512x8 .f32 × Vec F S512x8 .i32) :
    (held (F := F) c n x : sProp 𝕄) ⊢ iprop(any (F := F) c cc0_scratch0 ∗ any (F := F) c cc0_scratch1 ∗ any (F := F) c cc0_scratch2 ∗ any (F := F) c cc0_scratch3 ∗ any (F := F) c cc0_scratch4 ∗ any (F := F) c cc0_scratch5) := by
  unfold held own own6
  iintro ⟨%s, -, H0, H1, H2, H3, H4, H5⟩
  ihave H0 := (owns_isWhole c (Memref.isWhole_whole cc0_scratch0) _).1 $$ H0; icases H0 with ⟨%f0, -, H0⟩
  ihave H1 := (owns_isWhole c (Memref.isWhole_whole cc0_scratch1) _).1 $$ H1; icases H1 with ⟨%f1, -, H1⟩
  ihave H2 := (owns_isWhole c (Memref.isWhole_whole cc0_scratch2) _).1 $$ H2; icases H2 with ⟨%f2, -, H2⟩
  ihave H3 := (owns_isWhole c (Memref.isWhole_whole cc0_scratch3) _).1 $$ H3; icases H3 with ⟨%f3, -, H3⟩
  ihave H4 := (owns_isWhole c (Memref.isWhole_whole cc0_scratch4) _).1 $$ H4; icases H4 with ⟨%f4, -, H4⟩
  ihave H5 := (owns_isWhole c (Memref.isWhole_whole cc0_scratch5) _).1 $$ H5; icases H5 with ⟨%f5, -, H5⟩
  isplitl [H0]; · iexists f0; iexact H0
  isplitl [H1]; · iexists f1; iexact H1
  isplitl [H2]; · iexists f2; iexact H2
  isplitl [H3]; · iexists f3; iexact H3
  isplitl [H4]; · iexists f4; iexact H4
  iexists f5; iexact H5

/-- The proof data: each array at the valuation; after the body an input's buffer as fetched and the output's at the slots' columns; between points
    the slots in their scratch buffers. -/
def dat (c : Dev nD) : Dat τ (Elt F) (HIx 1) ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (runTo V c (t.val + 1)).2
  Φ t := iprop(held c t.val (runTo V c t.val) ∗ others (F := F) c)
  q _ := fullShare
  owed _ := (K (F := F)).Otc c 0
  recorded _ := {p | (K (F := F)).lev ((c : Thread nD τ), p.1) p.2 ≤ 0}

theorem phi_eq (c : Dev nD) (t : Fin (cfg0.N + 1)) : (dat V c).Φ t = iprop(held c t.val (runTo V c t.val) ∗ others (F := F) c) := rfl

/-- What the two regions know; the encode's is not used here. -/
def pdats : (p : Fin 2) → (c : Dev nD) → Dat τ (Elt F) (HIx 1) ℕ UU ℕ (Pipeline.pin (pcfgs (F := F)) WEncode.adm p) c
  | ⟨0, _⟩ => fun c => dat V c
  | ⟨1, _⟩ => fun c => WEncode.dat V c

/-- An input's buffer holds its block of the entry's array whenever the body runs. -/
theorem before_in (c : Dev nD) (t : Fin cfg0.N) :
    (∀ d, (dat V c).before 0 t d = iblk V c 0 t) ∧ (∀ d, (dat V c).before 1 t d = iblk V c 1 t) ∧ (∀ d, (dat V c).before 2 t d = iblk V c 2 t)
      ∧ ∀ d, (dat V c).before 3 t d = iblk V c 3 t := by
  refine ⟨fun d => ?_, fun d => ?_, fun d => ?_, fun d => ?_⟩ <;>
    exact ((dat V c).before_in_eq_fetched _ rfl (fun _ => rfl) (fun _ _ _ => rfl) (fun _ => rfl) t d).trans rfl

/-- The first point is a first block. -/
theorem first_zero : ∀ t : Fin cfg0.N, t.val = 0 → isFirst (cfg0.grid.coords t) := by decide +kernel

/-- The result is written at the last block of a row block. -/
theorem lastPoint : ∀ t : Fin cfg0.N, k0_cond10 (cfg0.grid.coords t) = 1#1 ↔ t.val % 32 = 31 := by decide +kernel

/-- The slots the body starts its block with are those of the run. -/
theorem stAt_eq (c : Dev nD) (t : Fin cfg0.N) (s : St F) (x : Vec F S512x8 .f32 × Vec F S512x8 .i32) (h : t.val ≠ 0 → s.rv = x.1 ∧ s.ri = x.2) :
    blockSt (cfg0.grid.coords t) (iblk V c 0 t) (iblk V c 1 t) (iblk V c 2 t) (iblk V c 3 t) (rv₀ (cfg0.grid.coords t) s.rv) (ri₀ (F := F) (cfg0.grid.coords t) s.ri)
      = stAt V c t x := by
  unfold stAt rv₀ ri₀
  by_cases ht : t.val = 0
  · rw [if_pos (first_zero t ht), if_pos (first_zero t ht), if_pos (first_zero t ht), if_pos (first_zero t ht)]
  · rw [(h ht).1, (h ht).2]

/-- The body's obligation at every grid point. -/
theorem body_obligation (c : Dev nD) : BodyObligation (dat V c) (defs₀ (F := F)) 𝒱₀ none Set.univ := fun t => by
  obtain ⟨b0, b1, b2, b3⟩ := before_in V c t
  have hl := lastPoint t
  have hf := flush0_4 t
  rw [bigSep_W0, bigSep_W0]
  simp only [b0, b1, b2, b3]
  rw [show (dat V c).owesAt none t.succ = (dat V c).owesAt none t.castSucc from rfl, phi_eq, phi_eq]
  rw [show t.castSucc.val = t.val from rfl, show t.succ.val = t.val + 1 from rfl]
  unfold held
  iintro ⟨⟨⟨%s, %hs, HS⟩, Hr⟩, Howes, ⟨%d0, H0⟩, ⟨%d1, H1⟩, ⟨%d2, H2⟩, ⟨%d3, H3⟩, ⟨%d4, H4⟩⟩
  iapply (TopkDat.body_wp c (grid0.coords t) _ (hstage0_0 _) _ (hstage0_1 _) _ (hstage0_2 _) _ (hstage0_3 _) _ (hstage0_4 _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    (iblk V c 0 t) (iblk V c 1 t) (iblk V c 2 t) (iblk V c 3 t) ((dat V c).before 4 t d4) s (stAt V c t (runTo V c t.val)) (stAt_eq V c t s _ hs) Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hr]
  · isplitl [HS]
    · iexists _
      isplitr; swap; (· iexact HS)
      ipureintro; intro _
      exact runTo_parts V c t
    iexact Hr
  isplitl [Howes]; · iexact Howes
  isplitl [H0]; · iexact H0
  isplitl [H1]; · iexact H1
  isplitl [H2]; · iexact H2
  isplitl [H3]; · iexact H3
  by_cases hc : k0_cond10 (cfg0.grid.coords t) = 1#1
  · have i4 : idle0 4 (grid0.coords t) = false := by
      show (!(k0_cond10 (cfg0.grid.coords t) == 1#1)) = false
      rw [hc]; rfl
    rw [i4]; dsimp only
    rw [show (dat V c).after 4 t = (runTo V c (t.val + 1)).2 from rfl, ← (runTo_parts V c t).2]
    rw [show (if k0_cond10 (grid0.coords t) = 1#1 then (stAt V c t (runTo V c t.val)).ri else (dat V c).before 4 t d4) = (stAt V c t (runTo V c t.val)).ri from if_pos hc]
    iexact H4
  · have i4 : idle0 4 (grid0.coords t) = true := by
      show (!(k0_cond10 (cfg0.grid.coords t) == 1#1)) = true
      rw [beq_eq_false_iff_ne.2 hc]; rfl
    have f4 : (win0 4).flush t = false := by
      rw [← Bool.not_eq_true]; exact fun h => hc (hl.2 (hf.1 h))
    rw [i4]; dsimp only
    rw [f4]; dsimp only
    rw [show (if k0_cond10 (grid0.coords t) = 1#1 then (stAt V c t (runTo V c t.val)).ri else (dat V c).before 4 t d4) = (dat V c).before 4 t d4 from if_neg hc]
    iexists d4; iexact H4

/-- The output array the region leaves. -/
def out (c : Dev nD) : Buf (Elt F) ((c : Thread nD τ).loc main_v5) := (dat V c).arrAt 4 cfg0.N

/-- The valuation the region leaves: the entry's, but the output array. -/
def left (c : Dev nD) (b : Ref sig .tc) : Buf (Elt F) ((c : Thread nD τ).loc b) :=
  if h : b = main_v5 then h ▸ out V c else V c b

/-- The region leaves its result in one buffer -/
theorem left_out (c : Dev nD) : left V c main_v5 = out V c := dif_pos rfl
/-- and the others as they were. -/
theorem left_of_ne (c : Dev nD) (b : Ref sig .tc) (h : b ≠ main_v5) : left V c b = V c b := dif_neg h

/-- What the region records is its own waits, at index `none`. -/
theorem below_of (c : Dev nD) (W : Waits sig (HIx 1)) (hW : ∀ p ∈ W, p ∈ (dat V c).bound none (Fin.last cfg0.N)) : (K (F := F)).WBelow (c : Thread nD τ) W 0 := by
  intro p hp
  rcases hW p hp with h | ⟨w, s, h⟩
  · exact h
  · subst h; exact le_refl _

set_option backward.isDefEq.respectTransparency.types false in
/-- The region over the thread state "every buffer of the program at `V c`, and the core owing nothing": it leaves the state at `left V c`. -/
def reg : Pipeline.RegionSeg (pcfgs (F := F)) WEncode.adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_of_cut _ (pdats V) none 0 c (lev := (K (F := F)).lev) 0 ((K (F := F)).Otc c 0) (fun _ => rfl)
    (fun _ _ => by simp [SparseCore.Cfg.L]) (fun _ _ => le_refl _) fun g i h => ⟨by simp [SparseCore.Cfg.L], by have := SparseCore.Cfg.lev_of_Otc_pos h; omega⟩
  pre c := iprop(unscopedBufs c (V c) ∗ ∃ W, ⌜(K (F := F)).WBelow (c : Thread nD τ) W 0⌝ ∗ owes (c : Thread nD τ) ((K (F := F)).Otc c 0) W)
  post c := iprop(unscopedBufs c (left V c) ∗ ∃ W, ⌜(K (F := F)).WBelow (c : Thread nD τ) W 0⌝ ∗ owes (c : Thread nD τ) ((K (F := F)).Otc c 0) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) WEncode.adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = (dat V c).Φ 0 from rfl, phi_eq]
    rw [show Pipeline.scopedRest (Pipeline.pin (pcfgs (F := F)) WEncode.adm 0).spec c = (Pipeline.scopedRest spec0 c : sProp 𝕄) from rfl, scopedRest0_eq]
    iintro ⟨-, -, ⟨%f0, H0⟩, ⟨%f1, H1⟩, ⟨%f2, H2⟩, ⟨%f3, H3⟩, ⟨%f4, H4⟩, ⟨%f5, H5⟩, Hr⟩
    unfold others
    isplitr [Hr]
    · iapply (held_of c (runTo V c 0) (fun h => absurd rfl h) f0 f1 f2 f3 f4 f5)
      isplitl [H0]; · iexact H0
      isplitl [H1]; · iexact H1
      isplitl [H2]; · iexact H2
      isplitl [H3]; · iexact H3
      isplitl [H4]; · iexact H4
      iexact H5
    iexact Hr
  hout c := by
    rw [Pipeline.ownSems0_none, show (pdats V 0 c).Φ (Fin.last _) = (dat V c).Φ (Fin.last _) from rfl, phi_eq]
    rw [show Pipeline.scopedRest (Pipeline.pin (pcfgs (F := F)) WEncode.adm 0).spec c = (Pipeline.scopedRest spec0 c : sProp 𝕄) from rfl, scopedRest0_eq]
    unfold others
    iintro ⟨H, Hr⟩
    isplitr; · iempintro
    isplitr; · iempintro
    ihave H := (of_held c _ _) $$ H
    icases H with ⟨H0, H1, H2, H3, H4, H5⟩
    isplitl [H0]; · iexact H0
    isplitl [H1]; · iexact H1
    isplitl [H2]; · iexact H2
    isplitl [H3]; · iexact H3
    isplitl [H4]; · iexact H4
    isplitl [H5]; · iexact H5
    iexact Hr
  hexit c := by
    have hjoin := Pipeline.unscopedBufs_of_arrays (p := 0) (pcfgs (F := F)) WEncode.adm (Ix := HIx 1) (Name := ℕ) (U := UU) (Lvl := ℕ) launch0.win launch0.arr_whole c
      (pdats V) ((pdats V 0 c).share_full fun _ => rfl) (V c) (left V c) ((pdats V 0 c).arrAt · cfg0.N)
      (fun w => by
        by_cases h : w = 4
        · subst h; exact (left_out V c).symm
        · exact ((pdats V 0 c).arrAt_in w ((by decide : ∀ w : Fin 5, w ≠ 4 → (spec0 w).isOut = false) w h) _).trans
            (left_of_ne V c _ ((by decide : ∀ w : Fin 5, w ≠ 4 → Pipeline.arrRef spec0 w ≠ main_v5) w h)).symm)
      (fun b hb => left_of_ne V c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; · ipureintro; exact below_of V c W hW
    iexact HO

theorem reg_pre (c : Dev nD) : (reg V).pre c = iprop(unscopedBufs c (V c) ∗ ∃ W, ⌜(K (F := F)).WBelow (c : Thread nD τ) W 0⌝ ∗ owes (c : Thread nD τ) ((K (F := F)).Otc c 0) W) := rfl
theorem reg_post (c : Dev nD) : (reg V).post c = iprop(unscopedBufs c (left V c) ∗ ∃ W, ⌜(K (F := F)).WBelow (c : Thread nD τ) W 0⌝ ∗ owes (c : Thread nD τ) ((K (F := F)).Otc c 0) W) := rfl

end Cert.Proof.TopkReg

end
-- ==== Proof.TopkValue.lean ====
/-
  What the TensorCore's top eight leaves in its result, over the extended reals: the columns of the eight least distances of every row, in order.
-/
module

public import proofs.«01_k».proof.Proof.TopkBlock
public import proofs.«01_k».proof.Proof.TopkReg
public import Idealize.ShloMosaic.Lib.Pipeline.ValueKit.Geometry

@[expose] public section

set_option maxRecDepth 65536

noncomputable section

namespace Cert.Proof.Topk

/-- The column of rank `p` in the row of values `f`. -/
def col (f : ℕ → EReal) (p : ℕ) : ℕ := open Classical in if h : ∃ c ∈ Finset.range 65536, rank f (Finset.range 65536) c = p then h.choose else 0

/-- A column of rank `p` is the one. -/
theorem col_eq {f : ℕ → EReal} {p c : ℕ} (hc : c ∈ Finset.range 65536) (h : rank f (Finset.range 65536) c = p) : col f p = c := by
  have hx : ∃ c ∈ Finset.range 65536, rank f (Finset.range 65536) c = p := ⟨c, hc, h⟩
  rw [col, dif_pos hx]
  exact rank_inj hx.choose_spec.1 hc (hx.choose_spec.2.trans h.symm)

/-- It names a point. -/
theorem col_lt (f : ℕ → EReal) (p : ℕ) : col f p < 65536 := by
  rw [col]
  split
  · next h => exact Finset.mem_range.1 h.choose_spec.1
  · omega

end Cert.Proof.Topk

namespace Cert.Proof.TopkValue

open Cert.WholeIdeal Cert.WholeIdeal.Gen Idealize.ShloMosaic Idealize.ShloMosaic.TcCoe
open Cert.Proof.Topk Cert.Proof.TopkBody Cert.Proof.TopkRow Cert.Proof.TopkReg Cert.Proof.TopkRun

variable (V : (c : Dev nD) → (b : Ref sig .tc) → Buf (Elt Ideal) ((c : Thread nD τ).loc b)) (d : Dev nD)

/-- The squared distance of a query and a point as the kernel has it: the two squared lengths less twice the product. -/
def dist (q : Vec Ideal S4096x3 .f32) (p : Vec Ideal S65536x3 .f32) (qs : Vec Ideal S4096x1 .f32) (ps : Vec Ideal S65536 .f32) (r : Fin 4096) (n : Fin 65536) : EReal :=
  qs (ix2 r 0) + ps (ix1 n) - Ideal.ofBits FTy.f32 1073741824#32 * ∑ x : Fin 3, q (ix2 r x) * p (ix2 n x)

/-- Query `r`'s distances by the point's number. -/
def far (r : Fin 4096) (n : ℕ) : EReal :=
  if h : n < 65536 then dist (V d main_arg0) (V d main_arg1) (V d main_v2) (V d main_v4) r ⟨n, h⟩ else 0

/-- The distance at a point. -/
theorem far_lt {r : Fin 4096} {n : ℕ} (h : n < 65536) : far V d r n = dist (V d main_arg0) (V d main_arg1) (V d main_v2) (V d main_v4) r ⟨n, h⟩ := dif_pos h

/-- The grid goes through the blocks of points, row block by row block. -/
theorem coords_of : ∀ t : Fin cfg0.N, (grid0.coords t 0).val = t.val / 32 ∧ (grid0.coords t 1).val = t.val % 32 := by decide +kernel

/-- A block's distances are its row block's, from the block's first point on. -/
theorem block_dist (t : Fin cfg0.N) (a : Fin 512) (c : Fin 2048) :
    k0_pay82 (iblk V d 0 t) (iblk V d 1 t) (iblk V d 2 t) (iblk V d 3 t) (ix2 a c)
      = far V d ⟨(grid0.coords t 0).val * 512 + a.val, by have : (grid0.coords t 0).val < 8 := (grid0.coords t 0).isLt; omega⟩ (2048 * (grid0.coords t 1).val + c.val) := by
  have e0 : ∀ t : Fin cfg0.N, win0_0.index t = ![(grid0.coords t 0).val, 0] := by decide +kernel
  have e1 : ∀ t : Fin cfg0.N, win0_1.index t = ![(grid0.coords t 1).val, 0] := by decide +kernel
  have e2 : ∀ t : Fin cfg0.N, win0_2.index t = ![(grid0.coords t 0).val, 0] := by decide +kernel
  have e3 : ∀ t : Fin cfg0.N, win0_3.index t = ![(grid0.coords t 1).val] := by decide +kernel
  have h0 : (grid0.coords t 0).val < 8 := (grid0.coords t 0).isLt
  have h1 : (grid0.coords t 1).val < 32 := (grid0.coords t 1).isLt
  have b0 (r : Fin 512) (k : Fin 3) : iblk V d 0 t (ix2 r k) = V d main_arg0 (ix2 ⟨(grid0.coords t 0).val * 512 + r.val, by omega⟩ k) := by
    blk_simp [iblk]
    refine congrArg (V d main_arg0) ?_
    blk_ext [e0]
  have b1 (r : Fin 2048) (k : Fin 3) : iblk V d 1 t (ix2 r k) = V d main_arg1 (ix2 ⟨2048 * (grid0.coords t 1).val + r.val, by omega⟩ k) := by
    blk_simp [iblk]
    refine congrArg (V d main_arg1) ?_
    blk_ext [e1]
  have b2 (r : Fin 512) (k : Fin 1) : iblk V d 2 t (ix2 r k) = V d main_v2 (ix2 ⟨(grid0.coords t 0).val * 512 + r.val, by omega⟩ k) := by
    blk_simp [iblk]
    refine congrArg (V d main_v2) ?_
    blk_ext [e2]
  have b3 (r : Fin 2048) : iblk V d 3 t (ix1 r) = V d main_v4 (ix1 ⟨2048 * (grid0.coords t 1).val + r.val, by omega⟩) := by
    blk_simp [iblk]
    refine congrArg (V d main_v4) ?_
    blk_ext [e3]
  rw [far_lt V d (by omega : 2048 * (grid0.coords t 1).val + c.val < 65536), dist]
  refine (dist_apply _ _ _ _ a c).trans ?_
  simp only [b0, b1, b2, b3]

/-- The slots start empty. -/
theorem start_row (f : ℕ → EReal) (a : Fin 512) : SlotsAt f 0 a (k0_pay80 (F := Ideal)) k0_pay81 :=
  ⟨fun _ => ⊤, fun _ => big, fun x => by rw [← infinity_word]; pointwise [k0_pay80], fun x => by pointwise [k0_pay81], fun _ => le_rfl, Slots.start f⟩

/-- After every grid point the slots' row holds the eight first of the row's columns so far. -/
theorem run_row (hf : ∀ r n, far V d r n < ⊤) (a : Fin 512) : ∀ t : Fin cfg0.N,
    SlotsAt (far V d ⟨(grid0.coords t 0).val * 512 + a.val, by have : (grid0.coords t 0).val < 8 := (grid0.coords t 0).isLt; omega⟩) (2048 * (grid0.coords t 1).val + 2048) a
      (runTo V d (t.val + 1)).1 (runTo V d (t.val + 1)).2 := by
  intro ⟨t, ht⟩
  induction t with
  | zero =>
    have hi : isFirst (cfg0.grid.coords ⟨0, ht⟩) := (isFirst_iff _).2 (coords_of ⟨0, ht⟩).2
    have hr := runTo_parts V d ⟨0, ht⟩
    rw [← hr.1, ← hr.2]
    unfold stAt
    refine block_row _ (hf _) (fun c => block_dist V d ⟨0, ht⟩ a c) ?_
    rw [rv₀, ri₀, if_pos hi, if_pos hi]
    have e : (cfg0.grid.coords ⟨0, ht⟩ 1).val = 0 := (coords_of ⟨0, ht⟩).2
    rw [e]
    exact start_row _ a
  | succ n ih =>
    have hn : n < cfg0.N := by omega
    have hp := ih hn
    have c1 := coords_of ⟨n, hn⟩
    have c2 := coords_of ⟨n + 1, ht⟩
    have hr := runTo_parts V d ⟨n + 1, ht⟩
    rw [← hr.1, ← hr.2]
    unfold stAt
    refine block_row _ (hf _) (fun c => block_dist V d ⟨n + 1, ht⟩ a c) ?_
    dsimp only at c1 c2 hp ⊢
    generalize runTo V d (n + 1) = x at hp
    by_cases hz : (n + 1) % 32 = 0
    · have hi : isFirst (cfg0.grid.coords ⟨n + 1, ht⟩) := (isFirst_iff _).2 (c2.2.trans hz)
      rw [rv₀, ri₀, if_pos hi, if_pos hi]
      have e : (cfg0.grid.coords ⟨n + 1, ht⟩ 1).val = 0 := c2.2.trans hz
      rw [e]
      exact start_row _ a
    · have hi : ¬ isFirst (cfg0.grid.coords ⟨n + 1, ht⟩) := fun h => hz (c2.2.symm.trans ((isFirst_iff _).1 h))
      rw [rv₀, ri₀, if_neg hi, if_neg hi]
      have e0 : (grid0.coords ⟨n, hn⟩ 0).val = (grid0.coords ⟨n + 1, ht⟩ 0).val := by rw [c1.1, c2.1]; omega
      have e1 : 2048 * (grid0.coords ⟨n, hn⟩ 1).val + 2048 = 2048 * (grid0.coords ⟨n + 1, ht⟩ 1).val := by rw [c1.2, c2.2]; omega
      simp only [e0, e1] at hp
      exact hp

/-- The columns of the eight least distances of every query, in order, as words. -/
def G : Vec Ideal S4096x8 .i32 := fun j => BitVec.ofNat 32 (col (far V d (j 0)) (j 1).val)

/-- The result at a row and a slot. -/
theorem G_apply (r : Fin 4096) (p : Fin 8) : G V d (ix2 r p) = BitVec.ofNat 32 (col (far V d r) p.val) := rfl

/-- The top eight leaves them in its result. -/
theorem out_eq (hf : ∀ r n, far V d r n < ⊤) : TopkReg.out V d = G V d := by
  have e4 : ∀ t : Fin cfg0.N, win0_4.index t = ![(grid0.coords t 0).val, 0] := by decide +kernel
  have hl : ∀ t : Fin cfg0.N, (cfg0.win 4).flush t = true → t.val % 32 = 31 := by decide +kernel
  unfold TopkReg.out
  refine (TopkReg.dat V d).arrAt_eq_of_covers 4 (G V d) (by decide +kernel) fun t hfl y => ?_
  have h0 : (grid0.coords t 0).val < 8 := (grid0.coords t 0).isLt
  have h1 := run_row V d hf
  have h31 : (grid0.coords t 1).val = 31 := (coords_of t).2.trans (hl t hfl)
  obtain ⟨a, p, rfl⟩ : ∃ (a : Fin 512) (p : Fin 8), y = ix2 a p := ⟨y 0, y 1, ValueIdx.eq_ix2 y⟩
  obtain ⟨v, n, -, hn, -, hs⟩ := h1 a t
  blk_simp
  have he : ((win0_4.blk t).view.emb (ix2 a p) : S4096x8.Idx) = ix2 ⟨(grid0.coords t 0).val * 512 + a.val, by omega⟩ p := by
    blk_ext [e4]
  refine Eq.trans ?_ (congrArg (G V d) he).symm
  refine (hn p).trans ?_
  rw [h31] at hs
  obtain ⟨c, hc, hr, -, hi⟩ := (hs p).1 (by rw [Finset.card_range]; omega)
  rw [hi]
  exact (congrArg (BitVec.ofNat 32) (col_eq hc hr)).symm.trans (G_apply V d _ p).symm

end Cert.Proof.TopkValue
-- ==== Proof.TopkRef.lean ====
/-
  The reference's top eight: position `p` of a stable sort by value is the column of rank `p`.
-/
module

public import proofs.«01_k».proof.Proof.TopkValue
public import Idealize.ShloMosaic.Lib.SortFacts
public import Idealize.ShloMosaic.PureOps.Ideal.Laws

@[expose] public section

set_option maxRecDepth 65536

noncomputable section

namespace Cert.Proof.TopkRef

open Idealize.ShloMosaic Cert.Proof.Topk

/-- Putting an index before those after it keeps a list in order of value and then index. -/
theorem insert_pairwise {N : ℕ} {f : ℕ → EReal} {R : Fin N → Fin N → Bool} (hR : ∀ k k', R k k' = true ↔ f k.val < f k'.val) (a : Fin N) (l : List (Fin N))
    (ha : ∀ b ∈ l, a < b) (hl : l.Pairwise fun b c => Lt f b.val c.val) : (insertBefore R a l).Pairwise fun b c => Lt f b.val c.val := by
  induction l with
  | nil => exact List.pairwise_singleton _ _
  | cons b l ih =>
    obtain ⟨h1, h2⟩ := List.pairwise_cons.1 hl
    unfold insertBefore
    by_cases h : R b a = true
    · rw [if_pos h]
      refine List.pairwise_cons.2 ⟨fun c hc => ?_, ih (fun c hc => ha c (List.mem_cons_of_mem _ hc)) h2⟩
      rcases List.mem_cons.1 ((perm_insertBefore R a l).mem_iff.1 hc) with rfl | hc
      · exact .inl ((hR _ _).1 h)
      · exact h1 c hc
    · rw [if_neg h]
      have hab : Lt f a.val b.val := by
        rcases lt_or_eq_of_le (not_lt.1 fun e => h ((hR _ _).2 e)) with e | e
        · exact .inl e
        · exact .inr ⟨e, ha b List.mem_cons_self⟩
      refine List.pairwise_cons.2 ⟨fun c hc => ?_, hl⟩
      rcases List.mem_cons.1 hc with rfl | hc
      · exact hab
      · exact hab.trans (h1 c hc)

/-- A stable sort by value of indices in order is in order of value and then index. -/
theorem sort_pairwise {N : ℕ} {f : ℕ → EReal} {R : Fin N → Fin N → Bool} (hR : ∀ k k', R k k' = true ↔ f k.val < f k'.val) (l : List (Fin N))
    (hl : l.Pairwise (· < ·)) : (stableSort R l).Pairwise fun b c => Lt f b.val c.val := by
  induction l with
  | nil => exact List.Pairwise.nil
  | cons a l ih =>
    obtain ⟨h1, h2⟩ := List.pairwise_cons.1 hl
    unfold stableSort
    exact insert_pairwise hR a _ (fun b hb => h1 b ((perm_stableSort R l).mem_iff.1 hb)) (ih h2)

/-- Position `p` of the sort is the index of rank `p`. -/
theorem sorted_rank {N : ℕ} {f : ℕ → EReal} {R : Fin N → Fin N → Bool} (hR : ∀ k k', R k k' = true ↔ f k.val < f k'.val) (p : Fin N) :
    rank f (Finset.range N) (sortedFrom R p).val = p.val := by
  classical
  have mono : ∀ i j : Fin N, i < j → Lt f (sortedFrom R i).val (sortedFrom R j).val := fun i j hij => by
    have h := List.pairwise_iff_get.1 (sort_pairwise hR (List.finRange N) (List.pairwise_lt_finRange N))
    exact h (i.cast (length_sortPositions N R).symm) (j.cast (length_sortPositions N R).symm) hij
  have inj := sortedFrom_injective R
  have sur := sortedFrom_surjective R
  have hs : (Finset.range N).filter (fun c => Lt f c (sortedFrom R p).val) = (Finset.univ.filter fun i : Fin N => i < p).image fun i => (sortedFrom R i).val := by
    ext c
    rw [Finset.mem_filter, Finset.mem_image, Finset.mem_range]
    constructor
    · rintro ⟨hc, hl⟩
      obtain ⟨i, hi⟩ := sur ⟨c, hc⟩
      have hi' : (sortedFrom R i).val = c := congrArg Fin.val hi
      refine ⟨i, Finset.mem_filter.2 ⟨Finset.mem_univ _, ?_⟩, hi'⟩
      rcases lt_trichotomy i p with h | h | h
      · exact h
      · subst h; rw [hi'] at hl; exact absurd hl (fun h => h.irrefl)
      · exact absurd (hl.trans (hi' ▸ mono p i h)) (fun h => h.irrefl)
    · rintro ⟨i, hi, rfl⟩
      exact ⟨(sortedFrom R i).isLt, mono i p (Finset.mem_filter.1 hi).2⟩
  unfold rank
  have hc : ((Finset.range N).filter (fun c => Lt f c (sortedFrom R p).val)).card = p.val := by
    rw [hs, Finset.card_image_of_injective _ (fun i j h => inj (Fin.ext h)), show (Finset.univ.filter fun i : Fin N => i < p) = Finset.Iio p by ext i; simp, Fin.card_Iio]
  convert hc

/-- The indices of a top-k of rows, at a row and a position, are the positions' sources in the stable sort of the row. -/
theorem topK_apply {N K R : ℕ} {α : Type} (gt : α → α → BitVec 1) (x : (⟨2, ![R, N]⟩ : Shape).Idx → α) (h : (⟨2, ![R, N]⟩ : Shape).Slices (fun _ => 0) ⟨2, ![R, K]⟩) (hK : K ≤ N)
    (r : Fin R) (p : Fin K) :
    (Host.topK ⟨2, ![R, K]⟩ 1 gt x h).2 (ix2 r p) = BitVec.ofNat 32 (sortedFrom (fun k k' : Fin N => gt (x (ix2 r k)) (x (ix2 r k')) == 1#1) ⟨p.val, by omega⟩).val := by
  unfold Host.topK Host.sort2
  dsimp only
  rw [dif_pos (by decide : 1 < 2)]
  have along : ∀ (j : (⟨2, ![R, N]⟩ : Shape).Idx) (k : Fin N), j 0 = r → j.along (1 : Fin 2) k = ix2 r k := fun j k hj => by
    funext a
    refine Fin.cases ?_ (fun a => Fin.cases ?_ (fun a => a.elim0) a) a
    · exact (Function.update_of_ne (fun e => absurd (congrArg Fin.val e) Nat.zero_ne_one) _ _).trans hj
    · exact Function.update_self _ _ _
  have read : ∀ j : (⟨2, ![R, N]⟩ : Shape).Idx, j 0 = r → j 1 = (⟨p.val, by omega⟩ : Fin N) →
      iotaInDim ⟨2, ![R, N]⟩ 32 (1 : Fin 2) (j.along (1 : Fin 2) (sortedFrom (fun k k' : Fin N => gt (x (j.along (1 : Fin 2) k)) (x (j.along (1 : Fin 2) k')) == 1#1) (j 1))) =
        BitVec.ofNat 32 (sortedFrom (fun k k' : Fin N => gt (x (ix2 r k)) (x (ix2 r k')) == 1#1) ⟨p.val, by omega⟩).val := fun j h0 h1 => by
    have e : (fun k k' : Fin N => gt (x (j.along (1 : Fin 2) k)) (x (j.along (1 : Fin 2) k')) == 1#1) = fun k k' => gt (x (ix2 r k)) (x (ix2 r k')) == 1#1 :=
      funext fun k => funext fun k' => by rw [along j k h0, along j k' h0]
    have key (q : Fin N) : iotaInDim ⟨2, ![R, N]⟩ 32 (1 : Fin 2) (j.along (1 : Fin 2) q) = BitVec.ofNat 32 q.val := by
      rw [along j q h0]
      rfl
    exact (key _).trans (congrArg₂ (fun g q => BitVec.ofNat 32 (sortedFrom g q).val) e h1)
  exact read _ (Fin.ext (Nat.zero_add _)) (Fin.ext (Nat.zero_add _))

end Cert.Proof.TopkRef
-- ==== Proof.WRef.lean ====
module

public import proofs.«01_k».proof.Proof.TopkRef
public import proofs.«01_k».proof.Proof.RefDefs
public import proofs.«01_k».proof.Proof.Gen.WholeRefIdeal.Run
public import Idealize.ShloMosaic.Lib.Pointwise

@[expose] public section

set_option maxRecDepth 65536

noncomputable section

/-! The whole reference's result, of its arguments. -/

namespace Cert.Proof.WRef

open Cert.WholeRefIdeal Cert.WholeRefIdeal.Gen Idealize.ShloMosaic Idealize.ShloMosaic.TcCoe
open Cert.Proof.Topk

variable (V0 : Valuation τ sig (Elt Ideal))

/-- The squared distance of a query and a point: the two squared lengths less twice the product. -/
def dist (q : FVec Ideal S4096x3 .f32) (p : FVec Ideal S65536x3 .f32) (r : Fin 4096) (n : Fin 65536) : EReal :=
  ∑ x : Fin 3, q (ix2 r x) * q (ix2 r x) + ∑ x : Fin 3, p (ix2 n x) * p (ix2 n x) - Ideal.ofBits FTy.f32 1073741824#32 * ∑ x : Fin 3, q (ix2 r x) * p (ix2 n x)
/-- A query's distances by the point's number. -/
def far (q : FVec Ideal S4096x3 .f32) (p : FVec Ideal S65536x3 .f32) (r : Fin 4096) (n : ℕ) : EReal := if h : n < 65536 then dist q p r ⟨n, h⟩ else 0
/-- The numbers of the eight nearest points of every query. -/
def near (q : FVec Ideal S4096x3 .f32) (p : FVec Ideal S65536x3 .f32) : IVec S4096x8 32 := fun j => BitVec.ofNat 32 (col (far q p (j 0)) (j 1).val)
/-- The numbers at a row and a place. -/
theorem near_apply (q : FVec Ideal S4096x3 .f32) (p : FVec Ideal S65536x3 .f32) (r : Fin 4096) (k : Fin 8) : near q p (ix2 r k) = BitVec.ofNat 32 (col (far q p r) k.val) := rfl

/-- The reference sorts by the distance negated, greatest first, -/
theorem v14_apply (r : Fin 4096) (n : Fin 65536) : Value.res_main_v14 V0 (ix2 r n) = -dist (V0 (Proc.devRef .tc main_arg0)) (V0 (Proc.devRef .tc main_arg1)) r n := by
  unfold Value.res_main_v14
  generalize V0 (Proc.devRef .tc main_arg0) = q
  generalize V0 (Proc.devRef .tc main_arg1) = p
  pointwise []
  rfl

/-- which is by the distance, least first: -/
theorem before_iff (x y : Ideal .f32) : (FloatOps.cmpfTotal (F := Ideal) (φ := .f32) .gt (-x : EReal) (-y : EReal) == 1#1) = true ↔ (x : EReal) < y := by
  rw [beq_iff_eq]
  show BitVec.ofBool (decide ((-y : EReal) < -x)) = 1#1 ↔ _
  by_cases h : (x : EReal) < y
  · exact ⟨fun _ => h, fun _ => by rw [decide_eq_true (EReal.neg_lt_neg_iff.2 h)]; decide⟩
  · exact ⟨fun e => absurd e (by rw [decide_eq_false (fun c => h (EReal.neg_lt_neg_iff.1 c))]; decide), fun e => absurd e h⟩

/-- its top eight are the eight nearest. -/
theorem indices_eq : Value.res_main_indices V0 = near (V0 (Proc.devRef .tc main_arg0)) (V0 (Proc.devRef .tc main_arg1)) := by
  funext j
  obtain ⟨r, k, rfl⟩ : ∃ (r : Fin 4096) (k : Fin 8), j = ix2 r k := ⟨j 0, j 1, ValueIdx.eq_ix2 j⟩
  have hv := v14_apply V0 r
  rw [near_apply]
  unfold Value.res_main_indices
  generalize Value.res_main_v14 V0 = v at hv ⊢
  generalize V0 (Proc.devRef .tc main_arg0) = q at hv ⊢
  generalize V0 (Proc.devRef .tc main_arg1) = p at hv ⊢
  have hk : 8 ≤ 65536 := by omega
  have h := TopkRef.topK_apply (N := 65536) (K := 8) (R := 4096) (FloatOps.cmpfTotal (F := Ideal) (φ := .f32) .gt) v sliceFits_S4096x65536_S4096x8 hk r k
  refine Eq.trans h ?_
  refine congrArg (BitVec.ofNat 32) (Topk.col_eq (Finset.mem_range.2 (Fin.isLt _)) ?_).symm
  refine TopkRef.sorted_rank (fun a b => ?_) _
  rw [hv, hv, far, far, dif_pos a.isLt, dif_pos b.isLt]
  exact before_iff _ _

/-- The whole reference's result is the gather-and-encode reference's, of the arguments and the nearest points' numbers. -/
theorem res_eq : Value.val2 V0 (Proc.devRef .tc main_v106) = Ref.out (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5)) (Value.res_main_indices V0) := by
  refine (Value.val2_main_v106 V0).trans ?_
  unfold Value.res_main_v101 Value.res_main_v89 Value.res_main_v62 Value.res_main_v50 Value.res_main_v41 Value.res_main_v29 Value.res_main_v20 Value.res_main_v18 Value.res_main_call1_v5 Value.res_main_v17
    Value.res_main_v16 Value.res_main_call0_v5 Value.res_main_v15
  generalize Value.res_main_indices V0 = i
  rfl

end Cert.Proof.WRef
-- ==== Proof.WMain.lean ====
/-
  The program's run: the host's operations, the SparseCore call and the encode, one after the other, and the contents every buffer has at the end.
-/
module

public import proofs.«01_k».proof.Proof.TopkReg
public import Idealize.ShloMosaic.Lib.Tactic
public import Idealize.ShloMosaic.Lib.Pipeline.RegionsLoop
public import Idealize.ShloMosaic.Lib.Pipeline.FrameBody

@[expose] public section

set_option maxRecDepth 16384

noncomputable section

namespace Cert.Proof.WMain

open Cert.WholeIdeal Cert.WholeIdeal.Gen Cert.Proof.WGather Cert.Proof.WEncode

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-- The host's operations before the top eight: the tables of frequencies and the squared lengths; -/
abbrev opsA : List (HloOp τ sig (Elt F)) :=
  [ StableHlo.nullary main_cst (fun i => FloatOps.ofBits .f32 (lit0 (S6x30.rowMajor i))),
    StableHlo.nullary main_cst_0 (fun i => FloatOps.ofBits .f32 (lit1 (S32x96.rowMajor i))),
    StableHlo.binary main_arg0 main_arg0 main_v0 (mulf : (⟨S4096x3, .f32⟩ : BufTy).Contents (Elt F) → (⟨S4096x3, .f32⟩ : BufTy).Contents (Elt F) → (⟨S4096x3, .f32⟩ : BufTy).Contents (Elt F)),
    StableHlo.nullary main_cst_1 (constant S_ .f32 0x00000000#32),
    StableHlo.binary main_v0 main_cst_1 main_v1 ((fun x v => Host.reduceAdd x v reducesTo_S4096x3_S4096_d1 h_S_) : (⟨S4096x3, .f32⟩ : BufTy).Contents (Elt F) → (⟨S_, .f32⟩ : BufTy).Contents (Elt F) → (⟨S4096, .f32⟩ : BufTy).Contents (Elt F)),
    StableHlo.unary main_v1 main_v2 (broadcastInDim S4096x1 ![0] bcast_S4096_S4096x1_0 : (⟨S4096, .f32⟩ : BufTy).Contents (Elt F) → (⟨S4096x1, .f32⟩ : BufTy).Contents (Elt F)),
    StableHlo.binary main_arg1 main_arg1 main_v3 (mulf : (⟨S65536x3, .f32⟩ : BufTy).Contents (Elt F) → (⟨S65536x3, .f32⟩ : BufTy).Contents (Elt F) → (⟨S65536x3, .f32⟩ : BufTy).Contents (Elt F)),
    StableHlo.nullary main_cst_2 (constant S_ .f32 0x00000000#32),
    StableHlo.binary main_v3 main_cst_2 main_v4 ((fun x v => Host.reduceAdd x v reducesTo_S65536x3_S65536_d1 h_S_) : (⟨S65536x3, .f32⟩ : BufTy).Contents (Elt F) → (⟨S_, .f32⟩ : BufTy).Contents (Elt F) → (⟨S65536, .f32⟩ : BufTy).Contents (Elt F)) ]
/-- those between the top eight and the SparseCore call: the packed table and the row numbers; -/
abbrev ops0 : List (HloOp τ sig (Elt F)) :=
  [ StableHlo.nullary main_cst_3 (constant S_ .f32 0x00000000#32),
    StableHlo.unary main_cst_3 main_v6 (broadcastInDim S65536x13 ![] bcast_S_S65536x13 : (⟨S_, .f32⟩ : BufTy).Contents (Elt F) → (⟨S65536x13, .f32⟩ : BufTy).Contents (Elt F)),
    StableHlo.nullary main_cst_4 (constant S_ .f32 0x00000000#32),
    StableHlo.unary main_cst_4 main_v7 (broadcastInDim S65536x80 ![] bcast_S_S65536x80 : (⟨S_, .f32⟩ : BufTy).Contents (Elt F) → (⟨S65536x80, .f32⟩ : BufTy).Contents (Elt F)),
    StableHlo.nary ![main_arg1, main_v6, main_arg2, main_v7] main_v8 (fun u => (concatenate S65536x128 1 [⟨S65536x3, (u 0 : (⟨S65536x3, .f32⟩ : BufTy).Contents (Elt F))⟩, ⟨S65536x13, (u 1 : (⟨S65536x13, .f32⟩ : BufTy).Contents (Elt F))⟩, ⟨S65536x32, (u 2 : (⟨S65536x32, .f32⟩ : BufTy).Contents (Elt F))⟩, ⟨S65536x80, (u 3 : (⟨S65536x80, .f32⟩ : BufTy).Contents (Elt F))⟩] concatenates_S65536x3_S65536x13_S65536x32_S65536x80_S65536x128_d1 : (⟨S65536x128, .f32⟩ : BufTy).Contents (Elt F))),
    StableHlo.reshape main_v5 main_v9 (rfl : (.i32 : EltTy) = .i32) shapeCasts_S4096x8_S32768 ]
/-- and the one between the call and the encode: the camera matrix. -/
abbrev ops1 : List (HloOp τ sig (Elt F)) :=
  [ StableHlo.reshape main_arg3 main_v11 (rfl : (.f32 : EltTy) = .f32) shapeCasts_S1x3x3_S3x3 ]

theorem opsA_tc : (opsA : List (HloOp τ sig (Elt F))).Forall fun op => op.bufs ⊆ StableHlo.tcRefs τ sig :=
  ⟨StableHlo.nullary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub ..⟩
theorem opsA_sub : ∀ op ∈ (opsA : List (HloOp τ sig (Elt F))), op.bufs ⊆ Pipeline.ucRefs τ sig :=
  fun op h => Pipeline.sub_ucRefs op (List.forall_iff_forall_mem.mp opsA_tc op h)
theorem opsA_fresh : ∀ op ∈ (opsA : List (HloOp τ sig (Elt F))), op.fresh = ∅ :=
  List.forall_iff_forall_mem.mp ⟨rfl, rfl, rfl, rfl, rfl, rfl, rfl, rfl, rfl⟩
theorem ops0_tc : (ops0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nary_bufs_sub .., StableHlo.reshape_bufs_sub ..⟩
theorem ops0_sub : ∀ op ∈ (ops0 : List (HloOp τ sig (Elt F))), op.bufs ⊆ Pipeline.ucRefs τ sig :=
  fun op h => Pipeline.sub_ucRefs op (List.forall_iff_forall_mem.mp ops0_tc op h)
theorem ops0_fresh : ∀ op ∈ (ops0 : List (HloOp τ sig (Elt F))), op.fresh = ∅ :=
  List.forall_iff_forall_mem.mp ⟨rfl, rfl, rfl, rfl, rfl, rfl⟩
theorem ops1_tc : (ops1 : List (HloOp τ sig (Elt F))).Forall fun op => op.bufs ⊆ StableHlo.tcRefs τ sig := StableHlo.reshape_bufs_sub ..
theorem ops1_sub : ∀ op ∈ (ops1 : List (HloOp τ sig (Elt F))), op.bufs ⊆ Pipeline.ucRefs τ sig :=
  fun op h => Pipeline.sub_ucRefs op (List.forall_iff_forall_mem.mp ops1_tc op h)
theorem ops1_fresh : ∀ op ∈ (ops1 : List (HloOp τ sig (Elt F))), op.fresh = ∅ :=
  by
  intro op h
  obtain rfl := List.mem_singleton.mp h
  rfl

/-- @main is the host's operations, the top eight, the packing, the SparseCore call, the reshape and the encode. -/
theorem main_eq (d : Dev nD) : main (F := F) d
    = (StableHlo.seq opsA >>= fun _ => Prog.lift (.customCall (SparseCore.inner (Pipeline.entry 0)) ()) >>= fun _ =>
        StableHlo.seq ops0 >>= fun _ => (K (F := F)).run d 0 >>= fun _ => StableHlo.seq ops1 >>= fun _ =>
        Prog.lift (.customCall (SparseCore.inner (Pipeline.entry 1)) ()) >>= fun _ => pure ⟨⟩) := by
  rfl

/-! ## The contents of the buffers after each part -/

/-- After the host's first operations; -/
def U0 (d : Dev nD) : Valuation τ sig (Elt F) := StableHlo.after opsA fun b => m (d, b)
/-- after the top eight; -/
def U1 (d : Dev nD) : Valuation τ sig (Elt F) :=
  Function.update (U0 m d) (Proc.devRef .tc main_v5) (TopkReg.out (fun c b => U0 m c (Proc.devRef .tc b)) d)
/-- after the host's operations before the SparseCore call; -/
def V0 (d : Dev nD) : Valuation τ sig (Elt F) := StableHlo.after ops0 (U1 m d)
/-- the packed table, the row numbers and the output array the call is given; -/
abbrev tab (d : Dev nD) : Buf (Elt F) (tLoc d) := V0 m d (Proc.devRef .tc main_v8)
abbrev rows (d : Dev nD) : Buf (Elt F) (iLoc d) := V0 m d (Proc.devRef .tc main_v9)
abbrev junk (d : Dev nD) : Buf (Elt F) (oLoc d) := V0 m d (Proc.devRef .tc main_v10)
/-- after the call; -/
def V1 (d : Dev nD) : Valuation τ sig (Elt F) := Function.update (V0 m d) (Proc.devRef .tc main_v10) (gath (tab m d) (rows m d))
/-- after the host's last operation; -/
def V2 (d : Dev nD) : Valuation τ sig (Elt F) := StableHlo.after ops1 (V1 m d)
/-- and after the encode. -/
def V3 (d : Dev nD) : Valuation τ sig (Elt F) :=
  Function.update (V2 m d) (Proc.devRef .tc main_v12) (WEncode.out (fun c b => V2 m c (Proc.devRef .tc b)) d)

/-- What the top eight leaves is `U1`, -/
theorem top_left_eq (d : Dev nD) (b : Ref sig .tc) : TopkReg.left (fun c b => U0 m c (Proc.devRef .tc b)) d b = U1 m d (Proc.devRef .tc b) := by
  by_cases h : b = main_v5
  · subst h; unfold U1; rw [Function.update_self]; exact TopkReg.left_out _ d
  · exact (TopkReg.left_of_ne _ d b h).trans (Function.update_of_ne (StableHlo.devRef_ne_of_ne h) ..).symm

/-- and what the encode leaves is `V3`. -/
theorem left_eq (d : Dev nD) (b : Ref sig .tc) : left (fun c b => V2 m c (Proc.devRef .tc b)) d b = V3 m d (Proc.devRef .tc b) := by
  by_cases h : b = main_v12
  · subst h; unfold V3; rw [Function.update_self]; exact left_out _ d
  · exact (left_of_ne _ d b h).trans (Function.update_of_ne (StableHlo.devRef_ne_of_ne h) ..).symm

/-! ## The launch element of the ghost state -/

/-- The pipeline library's half of the algebra. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-- The two regions' pipelines. -/
abbrev pcs : Fin 2 → Pipeline.Cfg sig Λ₀ := Pipeline.pin (pcfgs (F := F)) adm

theorem pcs_inj : Function.Injective (Pipeline.cellOf (nD := nD) (τ := τ) (pcs (F := F))) := cellOf_inj

/-- The launch element. -/
def u₀ : UU := (initOf (K (F := F)).hsCells (K (F := F)).hsToks,
  (initOf (Pipeline.cells (nD := nD) (τ := τ) (pcs (F := F)) pcs_inj) (Pipeline.launchToks (pcs (F := F)) pcs_inj), 1))

/-- The launch element splits in the handshakes' and the pipelines' part. -/
theorem ownU_split (a : UH) (b : UP) : (ownU ((a, (b, 1)) : UU) : sProp 𝕄) ⊢ BI.own (EH a) ∗ BI.own (EP b) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What the two regions take of the launch's ghost state, on device `d`. -/
def G (d : Dev nD) : sProp 𝕄 := iprop((bigSep Finset.univ fun p : Fin 2 => Pipeline.cellsGhost (pcs (F := F)) EP p d)
  ∗ bigSep Finset.univ fun p : Fin 2 => Pipeline.toksInit (pcs (F := F)) EP p d)

/-- Two conjuncts, one by one. -/
theorem two {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) _

/-- It gives what the threads start from. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (tab m) (rows m) (junk m)).x q thr) := by
  unfold u₀
  iintro Hu
  ihave H := (ownU_split _ _) $$ Hu
  icases H with ⟨HH, HP⟩
  imod (Pipeline.fund_ghost (pcs (F := F)) EP pcs_inj) $$ HP with ⟨Hc, Ht⟩
  imodintro
  isplitl [HH]; · iexact HH
  isplitl [Hc Ht]
  · unfold G
    rw [bigSep_sep']
    isplitl [Hc] <;> iassumption
  rw [show (bigSep Finset.univ fun thr : Thread nD τ => bigSep Finset.univ fun q : Fin 1 => (P (F := F) (tab m) (rows m) (junk m)).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-! ## @main on the TensorCore -/

/-- The call's three buffers, held one by one. -/
theorem held_call (d : Dev nD) (W : Valuation τ sig (Elt F)) :
    (StableHlo.held (d.tc : Thread nD τ) {Proc.devRef .tc main_v8, Proc.devRef .tc main_v9, Proc.devRef .tc main_v10} W : sProp 𝕄)
      = iprop((tLoc d ↦{fullShare} W (Proc.devRef .tc main_v8)) ∗ (iLoc d ↦{fullShare} W (Proc.devRef .tc main_v9)) ∗ oLoc d ↦{fullShare} W (Proc.devRef .tc main_v10)) := by
  unfold StableHlo.held
  rw [SparseCore.bigSep_insert' (by decide), SparseCore.bigSep_insert' (by decide), bigSep_singleton]

theorem call_sub : ({Proc.devRef .tc main_v8, Proc.devRef .tc main_v9, Proc.devRef .tc main_v10} : Finset (DevRef τ sig)) ⊆ Pipeline.ucRefs τ sig := by decide

/-- At the call's start its cores are given the three buffers; -/
theorem st_eq (d : Dev nD) : (bigSep Finset.univ fun c : Fin ((K (F := F)).nCore 0) => (P (tab m) (rows m) (junk m)).st 0 d c)
    = (iprop((tLoc d ↦{fullShare} tab m d) ∗ (iLoc d ↦{fullShare} rows m d) ∗ oLoc d ↦{fullShare} junk m d) : sProp 𝕄) :=
  (cores_eq (tab m) (rows m) d (junk m d)).symm
/-- at its end they hand them back, the output gathered. -/
theorem dn_eq (d : Dev nD) : (bigSep Finset.univ fun c : Fin ((K (F := F)).nCore 0) => (P (tab m) (rows m) (junk m)).dn 0 d c)
    = (iprop((tLoc d ↦{fullShare} tab m d) ∗ (iLoc d ↦{fullShare} rows m d) ∗ oLoc d ↦{fullShare} gath (tab m d) (rows m d)) : sProp 𝕄) :=
  (cores_eq (tab m) (rows m) d (gath (tab m d) (rows m d))).symm

/-- Taking the call's buffers out of all, and putting them back with the output gathered. -/
theorem held_V0 (d : Dev nD) : (StableHlo.held (d.tc : Thread nD τ) (Pipeline.ucRefs τ sig) (StableHlo.after ops0 (U1 m d)) : sProp 𝕄)
    = iprop(((tLoc d ↦{fullShare} tab m d) ∗ (iLoc d ↦{fullShare} rows m d) ∗ oLoc d ↦{fullShare} junk m d)
        ∗ StableHlo.held (d.tc : Thread nD τ) (Pipeline.ucRefs τ sig \ {Proc.devRef .tc main_v8, Proc.devRef .tc main_v9, Proc.devRef .tc main_v10}) (V0 m d)) := by
  rw [show (StableHlo.after ops0 (U1 m d)) = V0 m d from rfl, StableHlo.held_sub_split _ call_sub, held_call]
/-- The buffers after the call. -/
theorem held_V1 (d : Dev nD) : (StableHlo.held (d.tc : Thread nD τ) (Pipeline.ucRefs τ sig) (V1 m d) : sProp 𝕄)
    = iprop(((tLoc d ↦{fullShare} tab m d) ∗ (iLoc d ↦{fullShare} rows m d) ∗ oLoc d ↦{fullShare} gath (tab m d) (rows m d))
        ∗ StableHlo.held (d.tc : Thread nD τ) (Pipeline.ucRefs τ sig \ {Proc.devRef .tc main_v8, Proc.devRef .tc main_v9, Proc.devRef .tc main_v10}) (V0 m d)) := by
  rw [StableHlo.held_sub_split _ call_sub, held_call,
    StableHlo.held_congr _ (S := Pipeline.ucRefs τ sig \ {Proc.devRef .tc main_v8, Proc.devRef .tc main_v9, Proc.devRef .tc main_v10}) (V := V1 m d) (V' := V0 m d) fun b hb =>
      Function.update_of_ne (fun e => (Finset.mem_sdiff.mp hb).2 (by rw [e]; decide)) ..]
  unfold V1
  rw [Function.update_self, Function.update_of_ne (StableHlo.devRef_ne_of_ne (by decide)), Function.update_of_ne (StableHlo.devRef_ne_of_ne (by decide))]

/-- With one call every recorded pair is below the bound of the state after it. -/
theorem below_end (thr : Thread nD τ) (W : Waits sig (HIx 1)) : (K (F := F)).WBelow thr W 8 := by
  rintro ⟨x, i⟩ _
  match i with
  | none => exact Nat.zero_le _
  | some q => exact ((K (F := F)).lev_some_le _ q).trans (by have := q.isLt; omega)

/-- A separating conjunction's first part may be exchanged for an equivalent. -/
theorem split_off {A B R : sProp 𝕄} (h₁ : A ⊢ B) (h₂ : B ⊢ A) : ∃ R' : sProp 𝕄, (iprop(A ∗ R) ⊢ iprop(B ∗ R')) ∧ (iprop(B ∗ R') ⊢ iprop(A ∗ R)) :=
  ⟨R, sep_mono h₁ .rfl, sep_mono h₂ .rfl⟩

/-- The state before the call: what is owed, and the rest of the state. -/
theorem tcSt_start (d : Dev nD) : ∃ R : sProp 𝕄,
    ((K (F := F)).tcSt EH d 0 ⊢ iprop((∃ W, ⌜(K (F := F)).WBelow (d.tc : Thread nD τ) W 0⌝ ∗ owes (d.tc : Thread nD τ) ((K (F := F)).Otc d 0) W) ∗ R))
      ∧ (iprop((∃ W, ⌜(K (F := F)).WBelow (d.tc : Thread nD τ) W 0⌝ ∗ owes (d.tc : Thread nD τ) ((K (F := F)).Otc d 0) W) ∗ R) ⊢ (K (F := F)).tcSt EH d 0) := by
  unfold SparseCore.Cfg.tcSt
  exact split_off .rfl .rfl

/-- The state after the call: nothing is owed, whatever pairs are recorded, and the rest of the state. -/
theorem tcSt_owes (d : Dev nD) : ∃ R : sProp 𝕄,
    ((K (F := F)).tcSt EH d 1 ⊢ iprop((∃ W, owes (d.tc : Thread nD τ) (0 : CellTallies nD τ sig (HIx 1)) W) ∗ R))
      ∧ (iprop((∃ W, owes (d.tc : Thread nD τ) (0 : CellTallies nD τ sig (HIx 1)) W) ∗ R) ⊢ (K (F := F)).tcSt EH d 1) := by
  unfold SparseCore.Cfg.tcSt
  rw [(K (F := F)).Otc_end d le_rfl]
  refine split_off ?_ ?_
  · iintro ⟨%W, -, HO⟩; iexists W; iexact HO
  · iintro ⟨%W, HO⟩; iexists W; isplitr; · ipureintro; exact below_end _ W
    iexact HO

/-- What the TensorCore ends with. -/
abbrev FIN (d : Dev nD) : sProp 𝕄 := StableHlo.held (d.tc : Thread nD τ) (Pipeline.ucRefs τ sig) (V3 m d)

theorem pre_eq (d : Dev nD) : (StableHlo.held (d.tc : Thread nD τ) (Pipeline.ucRefs τ sig) (V2 m d) : sProp 𝕄)
    = unscopedBufs d fun b => V2 m d (Proc.devRef .tc b) := (Pipeline.unscopedBufs_held d (V2 m d)).symm
theorem post_eq (d : Dev nD) : (unscopedBufs d (left (fun c b => V2 m c (Proc.devRef .tc b)) d) : sProp 𝕄) = FIN m d := by
  rw [show left (fun c b => V2 m c (Proc.devRef .tc b)) d = fun b => V3 m d (Proc.devRef .tc b) from funext (left_eq m d)]
  exact Pipeline.unscopedBufs_held d (V3 m d)

theorem top_pre_eq (d : Dev nD) : (StableHlo.held (d.tc : Thread nD τ) (Pipeline.ucRefs τ sig) (U0 m d) : sProp 𝕄)
    = unscopedBufs d fun b => U0 m d (Proc.devRef .tc b) := (Pipeline.unscopedBufs_held d (U0 m d)).symm
theorem top_post_eq (d : Dev nD) : (unscopedBufs d (TopkReg.left (fun c b => U0 m c (Proc.devRef .tc b)) d) : sProp 𝕄)
    = StableHlo.held (d.tc : Thread nD τ) (Pipeline.ucRefs τ sig) (U1 m d) := by
  rw [show TopkReg.left (fun c b => U0 m c (Proc.devRef .tc b)) d = fun b => U1 m d (Proc.devRef .tc b) from funext (top_left_eq m d)]
  exact Pipeline.unscopedBufs_held d (U1 m d)

/-- The top eight's call as the pipeline library's signature has it, and that the program's is its image. -/
def callA (F : FTy → Type) [FloatOps F] : Prog (TpuEff nD τ sig (Elt F) (ΛP (F := F)) .tc) PUnit := .op (.customCall (Pipeline.entry 0) ()) fun _ => .ret ⟨⟩
theorem lift_callA : SparseCore.liftProg (callA F) = (Prog.lift (.customCall (SparseCore.inner (Pipeline.entry 0)) ()) :
    Prog (TpuEff nD τ sig (Elt F) (SparseCore.Sig (ΛP (F := F)) 1) .tc) PUnit) := rfl

/-- The top eight's call, under the whole program's table of bodies. -/
theorem top_wp (κ : GSem nD τ sig → ℕ) (d : Dev nD) (Φ : PUnit → sProp 𝕄) :
    iprop((K (F := F)).ctx EH (P (tab m) (rows m) (junk m)) κ ∗ boundary (d.tc : Thread nD τ)
        ∗ StableHlo.held (d.tc : Thread nD τ) (Pipeline.ucRefs τ sig) (U0 m d)
        ∗ (∃ W, ⌜(K (F := F)).WBelow (d.tc : Thread nD τ) W 0⌝ ∗ owes (d.tc : Thread nD τ) ((K (F := F)).Otc d 0) W)
        ∗ Pipeline.cellsGhost (pcs (F := F)) EP 0 d ∗ Pipeline.toksInit (pcs (F := F)) EP 0 d
        ∗ ((boundary (d.tc : Thread nD τ) ∗ StableHlo.held (d.tc : Thread nD τ) (Pipeline.ucRefs τ sig) (U1 m d) ∗ ∃ W, ⌜(K (F := F)).WBelow (d.tc : Thread nD τ) W 0⌝ ∗ owes (d.tc : Thread nD τ) ((K (F := F)).Otc d 0) W) -∗ Φ ⟨⟩))
      ⊢ wp frame (wpE ((K (F := F)).defs (D (F := F))) 𝒱 (SparseCore.T d) none) Set.univ
          (Prog.lift (.customCall (SparseCore.inner (Pipeline.entry 0)) ())) Φ := by
  rw [← lift_callA]
  refine BI.Entails.trans ?_ ((K (F := F)).wp_liftProg (D (F := F)) 𝒱 (SparseCore.T d) Set.univ none (callA F) Φ)
  unfold callA
  show (_ : sProp 𝕄) ⊢ _
  iintro ⟨#Hctx, Hb, Hh, HO, Hcg, Htk, Hk⟩
  iapply (Pipeline.RegionSeg.wp (pcfgs (F := F)) adm (TopkReg.pdats fun c b => U0 m c (Proc.devRef .tc b)) none pcs_inj EP defs₀ 𝒱₀ (K (F := F)).L (K (F := F)).lev
    (TopkReg.reg fun c b => U0 m c (Proc.devRef .tc b)) d none (fun _ h => nomatch h) (fun _ => .ret ⟨⟩) Φ)
  isplitl [Hk]
  · rw [TopkReg.reg_post, top_post_eq, wp_ret]
    iintro ⟨Hb, Hh, HO⟩
    imodintro
    iapply Hk
    isplitl [Hb]; · iexact Hb
    isplitl [Hh] <;> iassumption
  isplitl [Hb]; · iexact Hb
  isplitl [Hh HO]
  · rw [TopkReg.reg_pre, ← top_pre_eq]
    isplitl [Hh] <;> iassumption
  isplitr; · iapply (SparseCore.Cfg.ctx_levAts κ); iexact Hctx
  isplitl [Hcg] <;> iassumption

/-- The encode's call as the pipeline library's signature has it, and that the program's is its image. -/
def call (F : FTy → Type) [FloatOps F] : Prog (TpuEff nD τ sig (Elt F) (ΛP (F := F)) .tc) PUnit := .op (.customCall (Pipeline.entry 1) ()) fun _ => .ret ⟨⟩
theorem lift_call : SparseCore.liftProg (call F) = (Prog.lift (.customCall (SparseCore.inner (Pipeline.entry 1)) ()) :
    Prog (TpuEff nD τ sig (Elt F) (SparseCore.Sig (ΛP (F := F)) 1) .tc) PUnit) := rfl

/-- The encode's call, under the whole program's table of bodies. -/
theorem region_wp (κ : GSem nD τ sig → ℕ) (d : Dev nD) (Φ : PUnit → sProp 𝕄) :
    iprop((K (F := F)).ctx EH (P (tab m) (rows m) (junk m)) κ ∗ boundary (d.tc : Thread nD τ)
        ∗ StableHlo.held (d.tc : Thread nD τ) (Pipeline.ucRefs τ sig) (V2 m d)
        ∗ (∃ W, owes (d.tc : Thread nD τ) (0 : CellTallies nD τ sig (HIx 1)) W)
        ∗ Pipeline.cellsGhost (pcs (F := F)) EP 1 d ∗ Pipeline.toksInit (pcs (F := F)) EP 1 d
        ∗ ((boundary (d.tc : Thread nD τ) ∗ FIN m d ∗ ∃ W, owes (d.tc : Thread nD τ) (0 : CellTallies nD τ sig (HIx 1)) W) -∗ Φ ⟨⟩))
      ⊢ wp frame (wpE ((K (F := F)).defs (D (F := F))) 𝒱 (SparseCore.T d) none) Set.univ
          (Prog.lift (.customCall (SparseCore.inner (Pipeline.entry 1)) ())) Φ := by
  rw [← lift_call]
  refine BI.Entails.trans ?_ ((K (F := F)).wp_liftProg (D (F := F)) 𝒱 (SparseCore.T d) Set.univ none (call F) Φ)
  unfold call
  show (_ : sProp 𝕄) ⊢ _
  iintro ⟨#Hctx, Hb, Hh, HO, Hcg, Htk, Hk⟩
  iapply (Pipeline.RegionSeg.wp (pcfgs (F := F)) adm (pdats fun c b => V2 m c (Proc.devRef .tc b)) none pcs_inj EP defs₀ 𝒱₀ (K (F := F)).L (K (F := F)).lev
    (reg fun c b => V2 m c (Proc.devRef .tc b)) d none (fun _ h => nomatch h) (fun _ => .ret ⟨⟩) Φ)
  isplitl [Hk]
  · rw [reg_post, post_eq, wp_ret]
    iintro ⟨Hb, Hh, HO⟩
    imodintro
    iapply Hk
    isplitl [Hb]; · iexact Hb
    isplitl [Hh] <;> iassumption
  isplitl [Hb]; · iexact Hb
  isplitl [Hh HO]
  · rw [reg_pre, ← pre_eq]
    isplitl [Hh] <;> iassumption
  isplitr; · iapply (SparseCore.Cfg.ctx_levAts κ); iexact Hctx
  isplitl [Hcg] <;> iassumption

/-- @main on device `d`'s TensorCore: from the launch's buffers to their contents at the end. -/
theorem hmain (κ : GSem nD τ sig → ℕ) (d : Dev nD) :
    iprop((K (F := F)).ctx EH (P (tab m) (rows m) (junk m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [main_eq, Pipeline.unscopedBufs_held d fun b => m (d, b)]
  rw [two, two]
  iintro ⟨#Hctx, Hst, ⟨Hb, Hh, Hts, -⟩, ⟨Hcg0, Hcg⟩, ⟨Htk0, Htk⟩⟩
  iapply (StableHlo.wp_seq 𝒱 none Set.univ d (Pipeline.ucRefs τ sig) _ opsA opsA_sub opsA_fresh _) $$ [Hb Hh]
  · isplitl [Hb]; · iexact Hb
    iexact Hh
  iintro ⟨Hb, Hh⟩
  rw [wp_bind]
  obtain ⟨R0, hR1, hR2⟩ := tcSt_start (F := F) d
  ihave Hst := hR1 $$ Hst
  icases Hst with ⟨HO, Hst⟩
  iapply (top_wp m κ d _)
  isplitr; · iexact Hctx
  isplitl [Hb]; · iexact Hb
  isplitl [Hh]; · iexact Hh
  isplitl [HO]; · iexact HO
  isplitl [Hcg0]; · iexact Hcg0
  isplitl [Htk0]; · iexact Htk0
  iintro ⟨Hb, Hh, HO⟩
  ihave Hst := hR2 $$ [Hst HO]
  · isplitl [HO] <;> iassumption
  clear hR1 hR2 R0
  iapply (StableHlo.wp_seq 𝒱 none Set.univ d (Pipeline.ucRefs τ sig) _ ops0 ops0_sub ops0_fresh _) $$ [Hb Hh]
  · isplitl [Hb]; · iexact Hb
    iexact Hh
  iintro ⟨Hb, Hh⟩
  ihave Hh := (Entails.of_eq (held_V0 m d)) $$ Hh
  icases Hh with ⟨Hcall, Hrest⟩
  rw [wp_bind]
  iapply ((K (F := F)).wp_run (D (F := F)) 𝒱 (EH := EH) (P := P (tab m) (rows m) (junk m)) κ d 0)
  isplitr; · iexact Hctx
  isplitl [Hst]; · iexact Hst
  isplitl [Hcall]; · rw [st_eq]; iexact Hcall
  iintro ⟨Hst, Hdn⟩
  ihave Hdn := (Entails.of_eq (dn_eq m d)) $$ Hdn
  ihave Hh := (Entails.of_eq (held_V1 m d).symm) $$ [Hdn Hrest]
  · isplitl [Hdn] <;> iassumption
  iapply (StableHlo.wp_seq 𝒱 none Set.univ d (Pipeline.ucRefs τ sig) _ ops1 ops1_sub ops1_fresh _) $$ [Hb Hh]
  · isplitl [Hb]; · iexact Hb
    iexact Hh
  iintro ⟨Hb, Hh⟩
  rw [wp_bind]
  obtain ⟨R, hR1, hR2⟩ := tcSt_owes (F := F) d
  ihave Hst := (show (K (F := F)).tcSt EH d ((0 : Fin 1).val + 1) ⊢ _ from hR1) $$ Hst
  icases Hst with ⟨HO, Hst⟩
  iapply (region_wp m κ d _)
  isplitr; · iexact Hctx
  isplitl [Hb]; · iexact Hb
  isplitl [Hh]; · iexact Hh
  isplitl [HO]; · iexact HO
  isplitl [Hcg]; · iexact Hcg
  isplitl [Htk]; · iexact Htk
  iintro ⟨Hb, Hh, HO⟩
  rw [wp_pure]
  imodintro
  isplitl [Hst HO]; · iapply hR2; isplitl [HO] <;> iassumption
  isplitl [Hh]; · iexact Hh
  isplitl [Hb] <;> iassumption

/-! ## The program's run -/

/-- Every buffer of the program at its final contents. -/
def fq (d : Dev nD) (s' : Phys nD τ sig (Elt F)) : Prop := ∀ b ∈ Pipeline.ucRefs τ sig, s'.mem.mem (d, b) = V3 m d b

/-- What it holds is what the memory has. -/
theorem hfin (d : Dev nD) (s' : Phys nD τ sig (Elt F)) : iprop(FIN m d ∗ SI s') ⊢ (⌜fq m d s'⌝ : sProp 𝕄) := by
  have h (b : DevRef τ sig) (hb : b ∈ Pipeline.ucRefs τ sig) : iprop(FIN m d ∗ SI s') ⊢ (⌜s'.mem.mem (d, b) = V3 m d b⌝ : sProp 𝕄) := by
    iintro ⟨Hh, HSI⟩
    ihave H := (show FIN m d ⊢ ((d, b) ↦{fullShare} V3 m d b : sProp 𝕄) from
      bigSep_elim (Φ := fun b => ((d, b) ↦{fullShare} V3 m d b : sProp 𝕄)) hb) $$ Hh
    ihave H := (SI_pointsTo_agree (st := s') (ℓ := (d, b)) (I := Finset.univ) (q := fullShare) (f := V3 m d b)) $$ [HSI H]
    · isplitl [HSI] <;> iassumption
    icases H with %h
    ipureintro; exact funext fun i => h i (Finset.mem_univ i)
  exact fun x hx b hb => h b hb x hx

/-- What a run ends at: every buffer of the program at its final contents, every semaphore at zero. -/
def QC : PUnit × MemSt nD τ sig (Elt F) → Prop := fun r => (∀ d : Dev nD, ∀ b ∈ Pipeline.ucRefs τ sig, r.2.mem (d, b) = V3 m d b) ∧ r.2.sem = fun _ => 0

/-- Every run ends with the buffers at `V3` and the counters at zero. -/
theorem run_main [∀ e, Nonempty (Elt F e)] (hpre : ∀ d, InRange (rows m d)) :
    θ_run (defs (F := F)) (threads (F := F)) ⟨m, fun _ => 0, ρ⟩ (QC m) :=
  SparseCore.Cfg.θ_run_sc_quiescent (K := K (F := F)) (D := D (F := F)) (𝒱 := 𝒱) (EH := EH) (P := P (tab m) (rows m) (junk m)) (A := ∅) facts v₀
    (fun q hq => match q with | 0 => nomatch hq)
    (fun q _ => match q with | 0 => tileObl (tab m) (rows m) (junk m) hpre)
    (fun q _ => match q with | 0 => SparseCore.Cfg.VecSplit.of_plain (vecSplit (tab m) (rows m) (junk m)))
    m ρ main (fun d => G d) (FIN m) (u₀ (F := F)) (sep_elim_left.trans (hu₀ m)) (hmain m ρ) (fq m) (hfin m) (QC m) (fun _ h hz => ⟨h, hz⟩)

end Cert.Proof.WMain

end
-- ==== Proof.WValue.lean ====
module

public import proofs.«01_k».proof.Proof.Table
public import proofs.«01_k».proof.Proof.Take
public import proofs.«01_k».proof.Proof.RefValue
public import proofs.«01_k».proof.Proof.TopkValue
public import proofs.«01_k».proof.Proof.WRef
public import proofs.«01_k».proof.Proof.WMain
public import Idealize.ShloMosaic.Lib.Pipeline.ValueKit.Geometry

@[expose] public section

set_option maxRecDepth 16384

noncomputable section

/-! What the whole kernel leaves in its result, over the extended reals, element by element. -/

namespace Cert.Proof.WValue

open Cert.WholeIdeal Cert.WholeIdeal.Gen Idealize.ShloMosaic Idealize.ShloMosaic.TcCoe Cert.Proof.WMain Cert.Proof.WGather
open Idealize.ShloMosaic.Pipeline (Dat Cfg Window)

section Args

variable {F : FTy → Type} [FloatOps F] (m : (ℓ : Loc nD τ sig) → Buf (Elt F) ℓ) (d : Dev nD)

/-- What the host's operations and the calls before the encode write. -/
abbrev written : List (Ref sig .tc) := [main_cst, main_cst_0, main_v0, main_cst_1, main_v1, main_v2, main_v3, main_cst_2, main_v4]
/-- What the top eight and the host's operations before the call write. -/
abbrev written' : List (Ref sig .tc) := [main_v5, main_cst_3, main_v6, main_cst_4, main_v7, main_v8, main_v9]

/-- A buffer that the host's first operations do not write is as at the launch when the top eight starts; -/
theorem U0_of (b : Ref sig .tc) (hb : b ∉ written) : U0 m d (Proc.devRef .tc b) = m (d, Proc.devRef .tc b) := by
  simp only [written, List.mem_cons, List.not_mem_nil, or_false, not_or] at hb
  obtain ⟨h1, h2, h3, h4, h5, h6, h7, h8, h9⟩ := hb
  unfold U0
  rw [StableHlo.after_of_forall_not_mem _ _ (by
    intro op h
    simp only [opsA, List.mem_cons, List.not_mem_nil, or_false] at h
    rcases h with rfl | rfl | rfl | rfl | rfl | rfl | rfl | rfl | rfl <;>
      exact Finset.notMem_singleton.2 (StableHlo.devRef_ne_of_ne (by assumption)))]
/-- one that nothing before the call writes is as the top eight found it. -/
theorem V0_of (b : Ref sig .tc) (hb : b ∉ written') : V0 m d (Proc.devRef .tc b) = U0 m d (Proc.devRef .tc b) := by
  simp only [written', List.mem_cons, List.not_mem_nil, or_false, not_or] at hb
  obtain ⟨h1, h2, h3, h4, h5, h6, h7⟩ := hb
  unfold V0
  rw [StableHlo.after_of_forall_not_mem _ _ (by
    intro op h
    simp only [ops0, List.mem_cons, List.not_mem_nil, or_false] at h
    rcases h with rfl | rfl | rfl | rfl | rfl | rfl <;>
      exact Finset.notMem_singleton.2 (StableHlo.devRef_ne_of_ne (by assumption)))]
  unfold U1
  rw [Function.update_of_ne (StableHlo.devRef_ne_of_ne h1)]
/-- The call and the camera matrix's reshape write one buffer each. -/
theorem V2_of (b : Ref sig .tc) (h10 : b ≠ main_v10) (h11 : b ≠ main_v11) : V2 m d (Proc.devRef .tc b) = V0 m d (Proc.devRef .tc b) := by
  unfold V2
  rw [StableHlo.after_of_forall_not_mem _ _ (by
    intro op h
    obtain rfl := List.mem_singleton.1 h
    exact Finset.notMem_singleton.2 (StableHlo.devRef_ne_of_ne h11))]
  unfold V1
  rw [Function.update_of_ne (StableHlo.devRef_ne_of_ne h10)]
/-- An argument is as at the launch when the encode starts. -/
theorem V2_arg (b : Ref sig .tc) (hb : b ∉ main_v10 :: main_v11 :: (written ++ written')) : V2 m d (Proc.devRef .tc b) = m (d, Proc.devRef .tc b) := by
  simp only [List.mem_cons, List.mem_append, not_or] at hb
  rw [V2_of m d b hb.1 hb.2.1, V0_of m d b (by simpa only [written', List.mem_cons, not_or] using hb.2.2.2), U0_of m d b (by simpa only [written, List.mem_cons, not_or] using hb.2.2.1)]
/-- The row numbers are the top eight's, as one list. -/
theorem rows_eq : rows m d = shapeCast S32768 (TopkReg.out (fun c b => U0 m c (Proc.devRef .tc b)) d) shapeCasts_S4096x8_S32768 := by
  unfold rows V0
  after_results_simp
  unfold U1; rw [Function.update_self]
  rfl
/-- The tables of frequencies, -/
theorem V2_cst : V2 m d (Proc.devRef .tc main_cst) = fun i => FloatOps.ofBits (F := F) .f32 (lit0 (S6x30.rowMajor i)) := by
  rw [V2_of m d _ (by decide) (by decide), V0_of m d _ (by decide)]
  unfold U0; after_results_simp
  rfl
/-- both, -/
theorem V2_cst_0 : V2 m d (Proc.devRef .tc main_cst_0) = fun i => FloatOps.ofBits (F := F) .f32 (lit1 (S32x96.rowMajor i)) := by
  rw [V2_of m d _ (by decide) (by decide), V0_of m d _ (by decide)]
  unfold U0; after_results_simp
  rfl
/-- the gathered rows -/
theorem V2_v10 : V2 m d (Proc.devRef .tc main_v10) = gath (tab m d) (rows m d) := by
  unfold V2; after_results_simp
  unfold V1; rw [Function.update_self]
/-- and the camera matrix, when the encode starts. -/
theorem V2_v11 : V2 m d (Proc.devRef .tc main_v11) = shapeCast S3x3 (m (d, Proc.devRef .tc main_arg3)) shapeCasts_S1x3x3_S3x3 := by
  unfold V2; after_results_simp
  unfold V1; rw [Function.update_of_ne (StableHlo.devRef_ne_of_ne (by decide))]
  rw [V0_of m d _ (by decide), U0_of m d _ (by decide)]
  rfl
/-- The queries' squared lengths. -/
theorem U0_v2 : U0 m d (Proc.devRef .tc main_v2) = broadcastInDim S4096x1 ![0] bcast_S4096_S4096x1_0 (Host.reduceAdd (mulf (m (d, Proc.devRef .tc main_arg0)) (m (d, Proc.devRef .tc main_arg0)))
    (constant S_ .f32 0x00000000#32) reducesTo_S4096x3_S4096_d1 h_S_) := by
  unfold U0; after_results_simp
/-- The points' squared lengths. -/
theorem U0_v4 : U0 m d (Proc.devRef .tc main_v4) = Host.reduceAdd (mulf (m (d, Proc.devRef .tc main_arg1)) (m (d, Proc.devRef .tc main_arg1)))
    (constant S_ .f32 0x00000000#32) reducesTo_S65536x3_S65536_d1 h_S_ := by
  unfold U0; after_results_simp

end Args

variable (m : (ℓ : Loc nD τ sig) → Buf (Elt Ideal) ℓ) (d : Dev nD)

/-- The packed table, of its four pieces. -/
def pack (a : FVec Ideal S65536x3 .f32) (b : FVec Ideal S65536x13 .f32) (c : FVec Ideal S65536x32 .f32) (e : FVec Ideal S65536x80 .f32) : FVec Ideal S65536x128 .f32 :=
  concatenate S65536x128 1 [⟨S65536x3, a⟩, ⟨S65536x13, b⟩, ⟨S65536x32, c⟩, ⟨S65536x80, e⟩] concatenates_S65536x3_S65536x13_S65536x32_S65536x80_S65536x128_d1

/-- The packed table holds the points' coordinates and features, each from a column of its own. -/
theorem tab_eq : ∃ b e, tab m d = pack (m (d, Proc.devRef .tc main_arg1)) b (m (d, Proc.devRef .tc main_arg2)) e := by
  have h1 := (V0_of m d main_arg1 (by decide)).trans (U0_of m d _ (by decide))
  have h2 := (V0_of m d main_arg2 (by decide)).trans (U0_of m d _ (by decide))
  have h : tab m d = pack (V0 m d (Proc.devRef .tc main_arg1)) (V0 m d (Proc.devRef .tc main_v6)) (V0 m d (Proc.devRef .tc main_arg2)) (V0 m d (Proc.devRef .tc main_v7)) := by
    unfold tab V0 pack
    after_results_simp
    rfl
  exact ⟨_, _, h.trans (by rw [h1, h2])⟩
/-- The first three columns are the coordinates, -/
theorem tab_low (n : Fin 65536) (k : Fin 3) : tab m d (ix2 n ⟨k, by omega⟩) = m (d, Proc.devRef .tc main_arg1) (ix2 n k) := by
  obtain ⟨b, e, h⟩ := tab_eq m d
  rw [h]
  generalize m (d, Proc.devRef .tc main_arg2) = c
  pointwise [pack]
/-- and the features start at column 16. -/
theorem tab_high (n : Fin 65536) (k : Fin 32) : tab m d (ix2 n ⟨16 + k, by omega⟩) = m (d, Proc.devRef .tc main_arg2) (ix2 n k) := by
  obtain ⟨b, e, h⟩ := tab_eq m d
  rw [h]
  generalize m (d, Proc.devRef .tc main_arg1) = c
  pointwise [pack]
  simp only [show ¬ (16 + k.val < 3) by omega, show ¬ (16 + k.val - 3 < 13) by omega, show 16 + k.val - 3 - 13 = k.val by omega, ↓reduceDIte]
  simp only [show k.val < 32 by omega, ↓reduceDIte]

/-! The blocks the encode reads, of those buffers -/

/-- The buffers at the encode's entry. -/
abbrev VV : (c : Dev nD) → (b : Ref sig .tc) → Buf (Elt Ideal) ((c : Thread nD τ).loc b) := fun c b => V2 m c (Proc.devRef .tc b)

/-- The kernel's result. -/
def G : FVec Ideal S4096x8x284 .f32 := fun j =>
  Spec.row (fun k => gath (tab m d) (rows m d) (ix2 ⟨(j 0).val * 8 + (j 1).val, by have h0 : (j 0).val < 4096 := (j 0).isLt; have h1 : (j 1).val < 8 := (j 1).isLt; omega⟩ ⟨16 + k.val, by omega⟩))
    (Spec.dist (fun i k => V2 m d (Proc.devRef .tc main_v11) (ix2 i k)) (fun i => V2 m d (Proc.devRef .tc main_arg4) (ix2 0 i)) (fun i k => V2 m d (Proc.devRef .tc main_arg5) (ix2 i k))
      (fun k => gath (tab m d) (rows m d) (ix2 ⟨(j 0).val * 8 + (j 1).val, by have h0 : (j 0).val < 4096 := (j 0).isLt; have h1 : (j 1).val < 8 := (j 1).isLt; omega⟩ ⟨k.val, by omega⟩)) (fun i => V2 m d (Proc.devRef .tc main_arg0) (ix2 (j 0) i))) (j 2)

/-- The result at a query, a neighbour and a column. -/
theorem G_apply (a : Fin 4096) (b : Fin 8) (k : Fin 284) : G m d (ix3 a b k) =
    Spec.row (fun k => gath (tab m d) (rows m d) (ix2 ⟨a.val * 8 + b.val, by omega⟩ ⟨16 + k.val, by omega⟩))
      (Spec.dist (fun i k => V2 m d (Proc.devRef .tc main_v11) (ix2 i k)) (fun i => V2 m d (Proc.devRef .tc main_arg4) (ix2 0 i)) (fun i k => V2 m d (Proc.devRef .tc main_arg5) (ix2 i k))
        (fun k => gath (tab m d) (rows m d) (ix2 ⟨a.val * 8 + b.val, by omega⟩ ⟨k.val, by omega⟩)) (fun i => V2 m d (Proc.devRef .tc main_arg0) (ix2 a i))) k := rfl

/-- The encode leaves it. -/
theorem out_eq : WEncode.out (VV m) d = G m d := by
  have e0 : ∀ t : Fin cfg2.N, win2_0.index t = ![(grid2.coords t 0).val, 0] := by decide +kernel
  have e1 : ∀ t : Fin cfg2.N, win2_1.index t = ![(grid2.coords t 0).val, 0] := by decide +kernel
  have e2 : ∀ t : Fin cfg2.N, win2_2.index t = ![0, 0] := by decide +kernel
  have e3 : ∀ t : Fin cfg2.N, win2_3.index t = ![0, 0] := by decide +kernel
  have e4 : ∀ t : Fin cfg2.N, win2_4.index t = ![0, 0] := by decide +kernel
  have e5 : ∀ t : Fin cfg2.N, win2_5.index t = ![0, 0] := by decide +kernel
  have e6 : ∀ t : Fin cfg2.N, win2_6.index t = ![0, 0] := by decide +kernel
  have e7 : ∀ t : Fin cfg2.N, win2_7.index t = ![(grid2.coords t 0).val, 0, 0] := by decide +kernel
  unfold WEncode.out
  refine (WEncode.dat (VV m) d).arrAt_eq_of_covers 7 (G m d) (by decide +kernel) fun t hf y => ?_
  blk_simp
  have ht : (grid2.coords t 0).val < 32 := (grid2.coords t 0).isLt
  have b0 (r : Fin 1024) (k : Fin 128) : WEncode.iblk (VV m) d 0 t (ix2 r k) = gath (tab m d) (rows m d) (ix2 ⟨(grid2.coords t 0).val * 1024 + r.val, by omega⟩ k) := by
    rw [← V2_v10]
    blk_simp [WEncode.iblk]
    refine congrArg (V2 m d (Proc.devRef .tc main_v10)) ?_
    blk_ext [e0]
  have b1 (r : Fin 128) (k : Fin 3) : WEncode.iblk (VV m) d 1 t (ix2 r k) = V2 m d (Proc.devRef .tc main_arg0) (ix2 ⟨(grid2.coords t 0).val * 128 + r.val, by omega⟩ k) := by
    blk_simp [WEncode.iblk]
    refine congrArg (V2 m d (Proc.devRef .tc main_arg0)) ?_
    blk_ext [e1]
  have b2 (i k : Fin 3) : WEncode.iblk (VV m) d 2 t (ix2 i k) = V2 m d (Proc.devRef .tc main_v11) (ix2 i k) := by
    blk_simp [WEncode.iblk]
    refine congrArg (V2 m d (Proc.devRef .tc main_v11)) ?_
    blk_ext [e2]
  have b3 (i : Fin 1) (k : Fin 3) : WEncode.iblk (VV m) d 3 t (ix2 i k) = V2 m d (Proc.devRef .tc main_arg4) (ix2 i k) := by
    blk_simp [WEncode.iblk]
    refine congrArg (V2 m d (Proc.devRef .tc main_arg4)) ?_
    blk_ext [e3]
  have b4 (i k : Fin 3) : WEncode.iblk (VV m) d 4 t (ix2 i k) = V2 m d (Proc.devRef .tc main_arg5) (ix2 i k) := by
    blk_simp [WEncode.iblk]
    refine congrArg (V2 m d (Proc.devRef .tc main_arg5)) ?_
    blk_ext [e4]
  have b5 (k : Fin 6) (c : Fin 30) : WEncode.iblk (VV m) d 5 t (ix2 k c) = if c.val / 5 = k.val then Spec.band (c % 5) else 0 := by
    refine Eq.trans ?_ (Table.sd_apply k c)
    refine Eq.trans ?_ (congrFun (V2_cst m d) (ix2 k c))
    blk_simp [WEncode.iblk]
    refine congrArg (V2 m d (Proc.devRef .tc main_cst)) ?_
    blk_ext [e5]
  have b6 (k : Fin 32) (c : Fin 96) : WEncode.iblk (VV m) d 6 t (ix2 k c) = if c.val / 3 = k.val then Spec.band (c % 3) else 0 := by
    refine Eq.trans ?_ (Table.sf_apply k c)
    refine Eq.trans ?_ (congrFun (V2_cst_0 m d) (ix2 k c))
    blk_simp [WEncode.iblk]
    refine congrArg (V2 m d (Proc.devRef .tc main_cst_0)) ?_
    blk_ext [e6]
  obtain ⟨a, b, k, rfl⟩ : ∃ (a : Fin 128) (b : Fin 8) (k : Fin 284), y = ix3 a b k := ⟨y 0, y 1, y 2, ValueIdx.eq_ix3 y⟩
  have he : ((win2_7.blk t).view.emb (ix3 a b k) : S4096x8x284.Idx) = ix3 ⟨(grid2.coords t 0).val * 128 + a.val, by omega⟩ b k := by
    blk_ext [e7]
  refine (EncValue.enc_apply _ _ _ _ _ _ _ b5 b6 a b k).trans ?_
  refine Eq.trans ?_ (congrArg (G m d) he).symm
  unfold G
  simp only [b0, b1, b2, b3, b4]
  have hr : (⟨(grid2.coords t 0).val * 1024 + (a.val * 8 + b.val), by omega⟩ : Fin 32768) = ⟨((grid2.coords t 0).val * 128 + a.val) * 8 + b.val, by omega⟩ := Fin.ext (by dsimp only; omega)
  rw [hr]
  rfl

end Cert.Proof.WValue

end
-- ==== Proof.WAgree.lean ====
module

public import proofs.«01_k».proof.Defs
public import proofs.«01_k».proof.Proof.WValue
public import proofs.«01_k».proof.Proof.Gen.Pre_finite

@[expose] public section

set_option maxRecDepth 16384

noncomputable section

/-! The whole kernel's result is the whole reference's, and the run of its claims. -/

namespace Cert.Proof.WAgree

open Cert.WholeIdeal Cert.WholeIdeal.Gen Idealize.ShloMosaic Idealize.ShloMosaic.TcCoe Idealize.SL.Sem Cert.Proof.WMain Cert.Proof.WGather
open Cert.Proof.Topk

/-- A number whose absolute value is below infinity is a real. -/
theorem real_of (x : EReal) (h : Ideal.cmp .olt (max x (-x)) (Ideal.ofBits FTy.f32 0x7F800000#32) = 1#1) : ∃ y : ℝ, x = (y : EReal) := by
  rw [TopkRow.infinity_word] at h
  have hl : max x (-x) < ⊤ := by
    by_contra hn
    have e : Ideal.cmp .olt (max x (-x)) ⊤ = BitVec.ofBool (decide (max x (-x) < ⊤)) := rfl
    rw [e, decide_eq_false hn] at h
    exact absurd h (by decide)
  refine ⟨x.toReal, (EReal.coe_toReal (fun e => ?_) (fun e => ?_)).symm⟩
  · rw [e] at hl; exact absurd hl (by simp)
  · rw [e] at hl; exact absurd hl (by simp)

/-- The constant two is a real. -/
theorem two_real : ∃ y : ℝ, Ideal.ofBits FTy.f32 1073741824#32 = (y : EReal) := ⟨2, Spec.ofBits_two⟩

/-- The distances between points whose coordinates are reals are below infinity. -/
theorem dist_lt {q : FVec Ideal S4096x3 .f32} {p : FVec Ideal S65536x3 .f32} (hq : ∀ r k, ∃ y : ℝ, q (ix2 r k) = (y : EReal)) (hp : ∀ n k, ∃ y : ℝ, p (ix2 n k) = (y : EReal))
    (r : Fin 4096) (n : Fin 65536) : WRef.dist q p r n < ⊤ := by
  obtain ⟨c, hc⟩ := two_real
  choose q' hq using hq
  choose p' hp using hp
  have e : WRef.dist q p r n = ((∑ x : Fin 3, q' r x * q' r x + ∑ x : Fin 3, p' n x * p' n x - c * ∑ x : Fin 3, q' r x * p' n x : ℝ) : EReal) := by
    unfold WRef.dist
    simp only [hq, hp, hc, Fin.sum_univ_three, ← EReal.coe_mul, ← EReal.coe_add, ← EReal.coe_sub]
  rw [e]
  exact EReal.coe_lt_top _

/-- The precondition makes the queries' and the points' coordinates reals. -/
theorem real_args (m : (ℓ : Loc nD τ sig) → Buf (Elt Ideal) ℓ) (d : Dev nD) {a2 a3 a4 a5}
    (h : Cert.Pre_finite.fn (F := Ideal) (m (d, Proc.devRef .tc main_arg0)) (m (d, Proc.devRef .tc main_arg1)) a2 a3 a4 a5 = fun _ => 1#1) :
    (∀ r k, ∃ y : ℝ, m (d, Proc.devRef .tc main_arg0) (ix2 r k) = (y : EReal)) ∧ (∀ n k, ∃ y : ℝ, m (d, Proc.devRef .tc main_arg1) (ix2 n k) = (y : EReal)) := by
  haveI : Subsingleton Cert.Pre_finite.S_.Idx := ⟨fun x y => funext fun i => i.elim0⟩
  have hb (p q : BitVec 1) (h : IntOp.andi p q = 1#1) : p = 1#1 ∧ q = 1#1 := by
    revert p q; decide
  obtain ⟨h0, h1⟩ := hb _ _ (congrFun h fun i => i.elim0)
  constructor
  · intro r k
    have h2 := Host.reduce_andi_all _ _ _ _ (fun i => i.elim0) h0 (ix2 r k)
    exact real_of _ h2
  · intro r k
    exact real_of _ (Host.reduce_andi_all _ _ _ _ (fun i => i.elim0) h1 (ix2 r k))

section Value

variable (m : (ℓ : Loc nD τ sig) → Buf (Elt Ideal) ℓ) (d : Dev nD)

/-- A point's squared length. -/
def len {N : ℕ} (v : FVec Ideal ⟨2, ![N, 3]⟩ .f32) (r : Fin N) : EReal := ∑ x : Fin 3, v (ix2 r x) * v (ix2 r x)

/-- The distances the top eight is given are the reference's. -/
theorem far_eq (r : Fin 4096) : TopkValue.far (fun c b => U0 m c (Proc.devRef .tc b)) d r = WRef.far (m (d, Proc.devRef .tc main_arg0)) (m (d, Proc.devRef .tc main_arg1)) r := by
  funext n
  unfold TopkValue.far WRef.far
  by_cases h : n < 65536
  · rw [dif_pos h, dif_pos h]
    have e2 : U0 m d (Proc.devRef .tc main_v2) (ix2 r 0) = len (m (d, Proc.devRef .tc main_arg0)) r := by
      rw [WValue.U0_v2]
      generalize m (d, Proc.devRef .tc main_arg0) = q
      pointwise []
      rfl
    have e4 (n : Fin 65536) : U0 m d (Proc.devRef .tc main_v4) (ix1 n) = len (m (d, Proc.devRef .tc main_arg1)) n := by
      rw [WValue.U0_v4]
      generalize m (d, Proc.devRef .tc main_arg1) = q
      pointwise []
      rfl
    have e0 := WValue.U0_of m d main_arg0 (by decide)
    have e1 := WValue.U0_of m d main_arg1 (by decide)
    unfold TopkValue.dist WRef.dist
    dsimp only
    rw [e2, e4, e0, e1]
    rfl
  · rw [dif_neg h, dif_neg h]

/-- The precondition, as to one device's memory. -/
def Real : Prop := (∀ r k, ∃ y : ℝ, m (d, Proc.devRef .tc main_arg0) (ix2 r k) = (y : EReal)) ∧ (∀ n k, ∃ y : ℝ, m (d, Proc.devRef .tc main_arg1) (ix2 n k) = (y : EReal))

variable {m d}

/-- The top eight are the numbers of the eight nearest points. -/
theorem top_eq (h : Real m d) : TopkReg.out (fun c b => U0 m c (Proc.devRef .tc b)) d = WRef.near (m (d, Proc.devRef .tc main_arg0)) (m (d, Proc.devRef .tc main_arg1)) := by
  have hf (r : Fin 4096) (n : ℕ) : TopkValue.far (fun c b => U0 m c (Proc.devRef .tc b)) d r n < ⊤ := by
    rw [far_eq]
    unfold WRef.far
    by_cases hn : n < 65536
    · rw [dif_pos hn]; exact dist_lt h.1 h.2 r _
    · rw [dif_neg hn]; exact EReal.coe_lt_top 0
  rw [TopkValue.out_eq _ _ hf]
  funext j
  obtain ⟨r, k, rfl⟩ : ∃ (r : Fin 4096) (k : Fin 8), j = ix2 r k := ⟨j 0, j 1, ValueIdx.eq_ix2 j⟩
  rw [TopkValue.G_apply, WRef.near_apply, far_eq]

/-- The numbers of the nearest points name points. -/
theorem near_lt (q : FVec Ideal S4096x3 .f32) (p : FVec Ideal S65536x3 .f32) (a : Fin 4096) (b : Fin 8) : (WRef.near q p (ix2 a b)).toNat < 65536 := by
  rw [WRef.near_apply, BitVec.toNat_ofNat]
  exact lt_of_le_of_lt (Nat.mod_le _ _) (Topk.col_lt _ _)

/-- The numbers as one list, at a place. -/
theorem flat_apply (i : IVec S4096x8 32) (n : Fin 32768) : Ref.flat i (ix1 n) = i (ix2 ⟨n / 8, by omega⟩ ⟨n % 8, by omega⟩) := by
  pointwise [Ref.flat]

/-- The gather is given the numbers of the nearest points as one list; -/
theorem rows_flat (h : Real m d) : rows m d = Ref.flat (WRef.near (m (d, Proc.devRef .tc main_arg0)) (m (d, Proc.devRef .tc main_arg1))) := by
  rw [WValue.rows_eq, top_eq h]
  rfl

/-- each names a point, -/
theorem flat_lt (q : FVec Ideal S4096x3 .f32) (p : FVec Ideal S65536x3 .f32) (n : Fin 32768) : (Ref.flat (WRef.near q p) (ix1 n)).toNat < 65536 := by
  rw [flat_apply]; exact near_lt q p _ _

/-- so the gather has a row for each. -/
theorem inRange (h : Real m d) : InRange (rows m d) := by
  intro x
  obtain ⟨n, rfl⟩ : ∃ n : Fin 32768, x = ix1 n := ⟨x 0, ValueIdx.eq_ix1 x⟩
  rw [rows_flat h]
  exact flat_lt _ _ n

/-- The kernel's result is the reference's function of the arguments. -/
theorem G_eq (h : Real m d) : WValue.G m d = Ref.out (m (d, Proc.devRef .tc main_arg0)) (m (d, Proc.devRef .tc main_arg1)) (m (d, Proc.devRef .tc main_arg2)) (m (d, Proc.devRef .tc main_arg3))
      (m (d, Proc.devRef .tc main_arg4)) (m (d, Proc.devRef .tc main_arg5)) (WRef.near (m (d, Proc.devRef .tc main_arg0)) (m (d, Proc.devRef .tc main_arg1))) := by
  have hrow := rows_flat h
  have hf := flat_lt (m (d, Proc.devRef .tc main_arg0)) (m (d, Proc.devRef .tc main_arg1))
  generalize WRef.near (m (d, Proc.devRef .tc main_arg0)) (m (d, Proc.devRef .tc main_arg1)) = idx at hrow hf ⊢
  funext j
  obtain ⟨a, b, k, rfl⟩ : ∃ (a : Fin 4096) (b : Fin 8) (k : Fin 284), j = ix3 a b k := ⟨j 0, j 1, j 2, ValueIdx.eq_ix3 j⟩
  have h5 (i k : Fin 3) : V2 m d (Proc.devRef .tc main_v11) (ix2 i k) = m (d, Proc.devRef .tc main_arg3) (ix3 0 i k) := by
    rw [WValue.V2_v11]
    pointwise []
    done
  have g (n : Fin 32768) (k : Fin 128) : gath (tab m d) (rows m d) (ix2 n k) = tab m d (ix2 ⟨(Ref.flat idx (ix1 n)).toNat, hf n⟩ k) := by
    unfold gath
    rw [hrow]
    refine congrArg (tab m d) (funext fun i => ?_)
    match i with
    | 0 => exact Fin.ext (Nat.mod_eq_of_lt (hf n))
    | 1 => rfl
  have h0 := WValue.V2_arg m d main_arg0 (by decide)
  have h4 := WValue.V2_arg m d main_arg4 (by decide)
  have h6 := WValue.V2_arg m d main_arg5 (by decide)
  unfold Ref.out
  rw [Ref.encode_apply, WValue.G_apply, h0, h4, h6]
  simp only [h5, g]
  have t3 (n : Fin 32768) (k : Fin 3) := Ref.take3_apply _ (m (d, Proc.devRef .tc main_arg1)) hf n k
  have t32 (n : Fin 32768) (k : Fin 32) := Ref.take32_apply _ (m (d, Proc.devRef .tc main_arg2)) hf n k
  simp only [t3, t32]
  have el (n : Fin 65536) : (fun k : Fin 3 => tab m d (ix2 n ⟨k.val, by omega⟩)) = fun k => m (d, Proc.devRef .tc main_arg1) (ix2 n k) := funext fun k => WValue.tab_low m d n k
  have eh (n : Fin 65536) : (fun k : Fin 32 => tab m d (ix2 n ⟨16 + k.val, by omega⟩)) = fun k => m (d, Proc.devRef .tc main_arg2) (ix2 n k) := funext fun k => WValue.tab_high m d n k
  rw [el, eh]

end Value

section Run

variable (m : (ℓ : Loc nD τ sig) → Buf (Elt Ideal) ℓ) (ρ : Dev nD → PrngReg)

/-- An argument ends as it was. -/
theorem V3_arg (d : Dev nD) (b : Ref sig .tc) (h12 : b ≠ main_v12) (hb : b ∉ main_v10 :: main_v11 :: (WValue.written ++ WValue.written')) :
    V3 m d (Proc.devRef .tc b) = m (d, Proc.devRef .tc b) := by
  unfold V3
  rw [Function.update_of_ne (StableHlo.devRef_ne_of_ne h12)]
  exact WValue.V2_arg m d b hb

/-- The buffer of a name is among those the run accounts for. -/
theorem mem_uc (b : Ref sig .tc) (h : Proc.devRef (τ := τ) .tc b ∈ Pipeline.ucRefs τ sig := by decide) : Proc.devRef (τ := τ) .tc b ∈ Pipeline.ucRefs τ sig := h

/-- The run, read at the result and the arguments. -/
theorem run (h : ∀ d, Real m d) : θ_run (defs (F := Ideal)) (threads (F := Ideal)) ⟨m, fun _ => 0, ρ⟩ fun r =>
    (∀ c : Dev nD, r.2.mem ((c.tc : Thread nD τ).loc main_v12) = WEncode.out (fun c b => V2 m c (Proc.devRef .tc b)) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0 := by
  refine (θ_run _ _ _).mono (fun r h => ⟨fun c => ⟨?_, ?_, ?_, ?_, ?_, ?_, ?_⟩, h.2⟩) (run_main m ρ fun d => inRange (h d))
  · refine (h.1 c _ (mem_uc main_v12)).trans ?_
    unfold V3; rw [Function.update_self]
  · exact (h.1 c _ (mem_uc main_arg0)).trans (V3_arg m c _ (by decide) (by decide))
  · exact (h.1 c _ (mem_uc main_arg1)).trans (V3_arg m c _ (by decide) (by decide))
  · exact (h.1 c _ (mem_uc main_arg2)).trans (V3_arg m c _ (by decide) (by decide))
  · exact (h.1 c _ (mem_uc main_arg3)).trans (V3_arg m c _ (by decide) (by decide))
  · exact (h.1 c _ (mem_uc main_arg4)).trans (V3_arg m c _ (by decide) (by decide))
  · exact (h.1 c _ (mem_uc main_arg5)).trans (V3_arg m c _ (by decide) (by decide))

end Run

end Cert.Proof.WAgree

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.Pre_in_range
public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Points
public import proofs.«01_k».proof.Proof.Gen.WholeRefIdeal.Run
public import proofs.«01_k».proof.Proof.Gen.Pre_finite
public import proofs.«01_k».proof.Proof.Agree
public import proofs.«01_k».proof.Proof.WAgree

@[expose] public section

set_option maxRecDepth 16384

open Idealize.ShloMosaic Idealize.SL.Sem

namespace Cert.Proof

/-- The kernel's bodies read alike in its two printings; -/
theorem bodies_eq : @Cert.Kernel.defs₀ Bits _ _ = @Cert.KernelIdeal.defs₀ Bits _ _ := by
  funext p l a
  match p, l, a with
  | .scVector c s, 0, _ => rfl
  | .tc, 1, (t, s) => rfl
  | .tc, 0, _ => rfl
  | .scVector c s, 1, (_, _) => rfl
  | .scScalar c, 0, _ => rfl
  | .scScalar c, 1, _ => rfl
/-- so does what the calls run. -/
theorem defs_eq : @Cert.Kernel.defs Bits _ _ = @Cert.KernelIdeal.defs Bits _ _ :=
  congrArg (fun D => (Cert.KernelIdeal.sc (F := Bits)).defs (Pipeline.defs Cert.KernelIdeal.pcfgs D)) bodies_eq

/-- The kernel, at the machine's formats, ends with its arguments as they were and its counters at zero. -/
theorem frame_kernel : Cert.quiescent_Kernel := by
  intro m ρ hpre
  have h := (θ_run Cert.KernelIdeal.defs _ _).mono (fun _ h => And.intro (fun c => (h.1 c).2) h.2) (Agree.run (F := Bits) m ρ fun d => Agree.inRange m d (hpre d))
  rw [← defs_eq] at h
  exact h
/-- So does it over the extended reals; -/
theorem frame_ideal : Cert.quiescent_KernelIdeal := fun m ρ hpre =>
  (θ_run Cert.KernelIdeal.defs _ _).mono (fun _ h => ⟨fun c => (h.1 c).2, h.2⟩) (Agree.run (F := Ideal) m ρ fun d => Agree.inRange m d (hpre d))
/-- so does the reference. -/
theorem frame_ref : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The kernel's result is the reference's. -/
theorem value : Cert.algebraic_KernelIdeal_ReferenceIdeal := by
  intro m ρ m' ρ' hpre hag
  refine ⟨fun c => Encode.out (fun c b => Main.V2 m c (Proc.devRef .tc b)) c, (θ_run Cert.KernelIdeal.defs _ _).mono (fun _ h => h.1) (Agree.run m ρ fun d => Agree.inRange m d (hpre d)),
    (θ_run Cert.ReferenceIdeal.defs _ _).mono (fun r h c => ⟨(h c).1.trans ?_, (h c).2⟩) (Cert.ReferenceIdeal.Value.run (F := Ideal) m' ρ')⟩
  obtain ⟨h0, h1, h2, h3, h4, h5, h6⟩ := hag c
  refine (Ref.res_eq m' c).trans ?_
  refine Eq.trans ?_ ((Value.out_eq m c).trans (Agree.G_eq m c (Agree.rows_lt m c (hpre c)))).symm
  rw [h0, h1, h2, h3, h4, h5, h6]

/-- The whole kernel ends with its arguments as they were and its counters at zero; -/
theorem frame_whole : Cert.quiescent_WholeIdeal := fun m ρ hpre =>
  (θ_run Cert.WholeIdeal.defs _ _).mono (fun _ h => ⟨fun c => (h.1 c).2, h.2⟩) (WAgree.run m ρ fun d => WAgree.real_args m d (hpre d))
/-- so does the whole reference. -/
theorem frame_whole_ref : Cert.quiescent_WholeRefIdeal := fun m ρ _ =>
  (θ_run Cert.WholeRefIdeal.defs _ _).mono (fun r h => ⟨fun c => (h c).2, sem_eq_zero_of_no_sems (by decide) r.2⟩) (Cert.WholeRefIdeal.Value.run (F := Ideal) m ρ)

/-- The whole kernel's result is the whole reference's. -/
theorem value_whole : Cert.algebraic_WholeIdeal_WholeRefIdeal := by
  intro m ρ m' ρ' hpre hag
  refine ⟨fun c => WEncode.out (fun c b => WMain.V2 m c (Proc.devRef .tc b)) c, (θ_run Cert.WholeIdeal.defs _ _).mono (fun _ h => h.1) (WAgree.run m ρ fun d => WAgree.real_args m d (hpre d)),
    (θ_run Cert.WholeRefIdeal.defs _ _).mono (fun r h c => ⟨(h c).1.trans ?_, (h c).2⟩) (Cert.WholeRefIdeal.Value.run (F := Ideal) m' ρ')⟩
  obtain ⟨h0, h1, h2, h3, h4, h5⟩ := hag c
  refine (Cert.WholeRefIdeal.Value.val2_main_v106 (StableHlo.launchContents m' c)).symm.trans ?_
  refine (WRef.res_eq _).trans ?_
  refine Eq.trans ?_ ((WValue.out_eq m c).trans (WAgree.G_eq (WAgree.real_args m c (hpre c)))).symm
  rw [WRef.indices_eq]
  unfold StableHlo.launchContents
  rw [h0, h1, h2, h3, h4, h5]

end Cert.Proof

/-- Everything claimed of the kernel. -/
theorem Cert.Proof.claim : Cert.Claim :=
  ⟨Cert.WholeIdeal.Gen.facts, Cert.WholeRefIdeal.Gen.facts, Cert.Kernel.Gen.facts, Cert.KernelIdeal.Gen.facts, Cert.ReferenceIdeal.Gen.facts, Cert.Pre_finite.Gen.facts, Cert.Pre_in_range.Gen.facts,
    frame_whole, frame_whole_ref, frame_kernel, frame_ideal, frame_ref, value_whole, trivial, value⟩

end
